-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 [hPre_rows_exist : Cert.Pre_rows_exist.Facts] (m : (ℓ : Loc Cert.Kernel14.nD Cert.Kernel14.τ Cert.Kernel14.sig) → Buf (Elt Bits) ℓ) : Prop :=
  ∀ c : Dev Cert.Kernel14.nD,
    (Cert.Pre_rows_exist.fn (F := Bits) (m ((c.tc : Thread Cert.Kernel14.nD Cert.Kernel14.τ).loc Cert.Kernel14.main_arg0)) (m ((c.tc : Thread Cert.Kernel14.nD Cert.Kernel14.τ).loc Cert.Kernel14.main_arg1))) = (fun _ => 1#1)

def Pre_Reference14 (m : (ℓ : Loc Cert.Reference14.nD Cert.Reference14.τ Cert.Reference14.sig) → Buf (Elt Bits) ℓ) : Prop :=
  True

def Pre_Reference14_rows_exist [hPre_rows_exist : Cert.Pre_rows_exist.Facts] (m : (ℓ : Loc Cert.Reference14.nD Cert.Reference14.τ Cert.Reference14.sig) → Buf (Elt Bits) ℓ) : Prop :=
  ∀ c : Dev Cert.Reference14.nD,
    (Cert.Pre_rows_exist.fn (F := Bits) (m ((c.tc : Thread Cert.Reference14.nD Cert.Reference14.τ).loc Cert.Reference14.main_arg0)) (m ((c.tc : Thread Cert.Reference14.nD Cert.Reference14.τ).loc Cert.Reference14.main_arg1))) = (fun _ => 1#1)

def Pre_Kernel15 [hPre_places_exist : Cert.Pre_places_exist.Facts] (m : (ℓ : Loc Cert.Kernel15.nD Cert.Kernel15.τ Cert.Kernel15.sig) → Buf (Elt Bits) ℓ) : Prop :=
  ∀ c : Dev Cert.Kernel15.nD,
    (Cert.Pre_places_exist.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3))) = (fun _ => 1#1)

def Pre_Reference15 (m : (ℓ : Loc Cert.Reference15.nD Cert.Reference15.τ Cert.Reference15.sig) → Buf (Elt Bits) ℓ) : Prop :=
  True

def Pre_Reference15_places_exist [hPre_places_exist : Cert.Pre_places_exist.Facts] (m : (ℓ : Loc Cert.Reference15.nD Cert.Reference15.τ Cert.Reference15.sig) → Buf (Elt Bits) ℓ) : Prop :=
  ∀ c : Dev Cert.Reference15.nD,
    (Cert.Pre_places_exist.fn (F := Bits) (m ((c.tc : Thread Cert.Reference15.nD Cert.Reference15.τ).loc Cert.Reference15.main_arg0)) (m ((c.tc : Thread Cert.Reference15.nD Cert.Reference15.τ).loc Cert.Reference15.main_arg1)) (m ((c.tc : Thread Cert.Reference15.nD Cert.Reference15.τ).loc Cert.Reference15.main_arg2)) (m ((c.tc : Thread Cert.Reference15.nD Cert.Reference15.τ).loc Cert.Reference15.main_arg3))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] [hPre_rows_exist : Cert.Pre_rows_exist.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Reference14 [hReference14 : Cert.Reference14.Facts] : Prop :=
  ∀ (m : (ℓ : Loc Cert.Reference14.nD Cert.Reference14.τ Cert.Reference14.sig) → Buf (Elt Bits) ℓ) (g : Dev Cert.Reference14.nD → PrngReg), Pre_Reference14 m →
    θ_run (Cert.Reference14.defs (F := Bits)) (onTc (τ := Cert.Reference14.τ) (Cert.Reference14.main (F := Bits))) ⟨m, fun _ => 0, g⟩ (fun r => (∀ c : Dev Cert.Reference14.nD,
      r.2.mem ((c.tc : Thread Cert.Reference14.nD Cert.Reference14.τ).loc Cert.Reference14.main_arg0) = m ((c.tc : Thread Cert.Reference14.nD Cert.Reference14.τ).loc Cert.Reference14.main_arg0)
      ∧ r.2.mem ((c.tc : Thread Cert.Reference14.nD Cert.Reference14.τ).loc Cert.Reference14.main_arg1) = m ((c.tc : Thread Cert.Reference14.nD Cert.Reference14.τ).loc Cert.Reference14.main_arg1))
      ∧ r.2.sem = fun _ => 0)

def quiescent_Reference14_pre_rows_exist [hReference14 : Cert.Reference14.Facts] [hPre_rows_exist : Cert.Pre_rows_exist.Facts] : Prop :=
  ∀ (m : (ℓ : Loc Cert.Reference14.nD Cert.Reference14.τ Cert.Reference14.sig) → Buf (Elt Bits) ℓ) (g : Dev Cert.Reference14.nD → PrngReg), Pre_Reference14_rows_exist m →
    θ_run (Cert.Reference14.defs (F := Bits)) (onTc (τ := Cert.Reference14.τ) (Cert.Reference14.main (F := Bits))) ⟨m, fun _ => 0, g⟩ (fun r => (∀ c : Dev Cert.Reference14.nD,
      r.2.mem ((c.tc : Thread Cert.Reference14.nD Cert.Reference14.τ).loc Cert.Reference14.main_arg0) = m ((c.tc : Thread Cert.Reference14.nD Cert.Reference14.τ).loc Cert.Reference14.main_arg0)
      ∧ r.2.mem ((c.tc : Thread Cert.Reference14.nD Cert.Reference14.τ).loc Cert.Reference14.main_arg1) = m ((c.tc : Thread Cert.Reference14.nD Cert.Reference14.τ).loc Cert.Reference14.main_arg1))
      ∧ r.2.sem = fun _ => 0)

def quiescent_Kernel15 [hKernel15 : Cert.Kernel15.Facts] [hPre_places_exist : Cert.Pre_places_exist.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Reference15 [hReference15 : Cert.Reference15.Facts] : Prop :=
  ∀ (m : (ℓ : Loc Cert.Reference15.nD Cert.Reference15.τ Cert.Reference15.sig) → Buf (Elt Bits) ℓ) (g : Dev Cert.Reference15.nD → PrngReg), Pre_Reference15 m →
    θ_run (Cert.Reference15.defs (F := Bits)) (onTc (τ := Cert.Reference15.τ) (Cert.Reference15.main (F := Bits))) ⟨m, fun _ => 0, g⟩ (fun r => (∀ c : Dev Cert.Reference15.nD,
      r.2.mem ((c.tc : Thread Cert.Reference15.nD Cert.Reference15.τ).loc Cert.Reference15.main_arg0) = m ((c.tc : Thread Cert.Reference15.nD Cert.Reference15.τ).loc Cert.Reference15.main_arg0)
      ∧ r.2.mem ((c.tc : Thread Cert.Reference15.nD Cert.Reference15.τ).loc Cert.Reference15.main_arg1) = m ((c.tc : Thread Cert.Reference15.nD Cert.Reference15.τ).loc Cert.Reference15.main_arg1)
      ∧ r.2.mem ((c.tc : Thread Cert.Reference15.nD Cert.Reference15.τ).loc Cert.Reference15.main_arg2) = m ((c.tc : Thread Cert.Reference15.nD Cert.Reference15.τ).loc Cert.Reference15.main_arg2)
      ∧ r.2.mem ((c.tc : Thread Cert.Reference15.nD Cert.Reference15.τ).loc Cert.Reference15.main_arg3) = m ((c.tc : Thread Cert.Reference15.nD Cert.Reference15.τ).loc Cert.Reference15.main_arg3))
      ∧ r.2.sem = fun _ => 0)

def quiescent_Reference15_pre_places_exist [hReference15 : Cert.Reference15.Facts] [hPre_places_exist : Cert.Pre_places_exist.Facts] : Prop :=
  ∀ (m : (ℓ : Loc Cert.Reference15.nD Cert.Reference15.τ Cert.Reference15.sig) → Buf (Elt Bits) ℓ) (g : Dev Cert.Reference15.nD → PrngReg), Pre_Reference15_places_exist m →
    θ_run (Cert.Reference15.defs (F := Bits)) (onTc (τ := Cert.Reference15.τ) (Cert.Reference15.main (F := Bits))) ⟨m, fun _ => 0, g⟩ (fun r => (∀ c : Dev Cert.Reference15.nD,
      r.2.mem ((c.tc : Thread Cert.Reference15.nD Cert.Reference15.τ).loc Cert.Reference15.main_arg0) = m ((c.tc : Thread Cert.Reference15.nD Cert.Reference15.τ).loc Cert.Reference15.main_arg0)
      ∧ r.2.mem ((c.tc : Thread Cert.Reference15.nD Cert.Reference15.τ).loc Cert.Reference15.main_arg1) = m ((c.tc : Thread Cert.Reference15.nD Cert.Reference15.τ).loc Cert.Reference15.main_arg1)
      ∧ r.2.mem ((c.tc : Thread Cert.Reference15.nD Cert.Reference15.τ).loc Cert.Reference15.main_arg2) = m ((c.tc : Thread Cert.Reference15.nD Cert.Reference15.τ).loc Cert.Reference15.main_arg2)
      ∧ r.2.mem ((c.tc : Thread Cert.Reference15.nD Cert.Reference15.τ).loc Cert.Reference15.main_arg3) = m ((c.tc : Thread Cert.Reference15.nD Cert.Reference15.τ).loc Cert.Reference15.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v45)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v45) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v43) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def bitexact_Kernel14_Reference14 [hKernel14 : Cert.Kernel14.Facts] [hReference14 : Cert.Reference14.Facts] [hPre_rows_exist : Cert.Pre_rows_exist.Facts] : Prop :=
  ∀ (m : (ℓ : Loc Cert.Kernel14.nD Cert.Kernel14.τ Cert.Kernel14.sig) → Buf (Elt Bits) ℓ) (g : Dev Cert.Kernel14.nD → PrngReg)
    (m' : (ℓ : Loc Cert.Reference14.nD Cert.Reference14.τ Cert.Reference14.sig) → Buf (Elt Bits) ℓ) (g' : Dev Cert.Reference14.nD → PrngReg), Pre_Kernel14 m →
    (∀ c : Dev Cert.Kernel14.nD,
      m' ((c.tc : Thread Cert.Reference14.nD Cert.Reference14.τ).loc Cert.Reference14.main_arg0) = m ((c.tc : Thread Cert.Kernel14.nD Cert.Kernel14.τ).loc Cert.Kernel14.main_arg0)
      ∧ m' ((c.tc : Thread Cert.Reference14.nD Cert.Reference14.τ).loc Cert.Reference14.main_arg1) = m ((c.tc : Thread Cert.Kernel14.nD Cert.Kernel14.τ).loc Cert.Kernel14.main_arg1)) →
    ∃ (v0 : (c : Dev Cert.Kernel14.nD) → Buf (Elt Bits) ((c.tc : Thread Cert.Kernel14.nD Cert.Kernel14.τ).loc Cert.Kernel14.main_v0)),
      θ_run (Cert.Kernel14.defs (F := Bits)) (onTc (τ := Cert.Kernel14.τ) (Cert.Kernel14.main (F := Bits))) ⟨m, fun _ => 0, g⟩ (fun r => ∀ c : Dev Cert.Kernel14.nD,
          r.2.mem ((c.tc : Thread Cert.Kernel14.nD Cert.Kernel14.τ).loc Cert.Kernel14.main_v0) = v0 c
          ∧ r.2.mem ((c.tc : Thread Cert.Kernel14.nD Cert.Kernel14.τ).loc Cert.Kernel14.main_arg0) = m ((c.tc : Thread Cert.Kernel14.nD Cert.Kernel14.τ).loc Cert.Kernel14.main_arg0)
          ∧ r.2.mem ((c.tc : Thread Cert.Kernel14.nD Cert.Kernel14.τ).loc Cert.Kernel14.main_arg1) = m ((c.tc : Thread Cert.Kernel14.nD Cert.Kernel14.τ).loc Cert.Kernel14.main_arg1))
      ∧ θ_run (Cert.Reference14.defs (F := Bits)) (onTc (τ := Cert.Reference14.τ) (Cert.Reference14.main (F := Bits))) ⟨m', fun _ => 0, g'⟩ (fun r => ∀ c : Dev Cert.Reference14.nD,
          r.2.mem ((c.tc : Thread Cert.Reference14.nD Cert.Reference14.τ).loc Cert.Reference14.main_v6) = v0 c
          ∧ r.2.mem ((c.tc : Thread Cert.Reference14.nD Cert.Reference14.τ).loc Cert.Reference14.main_arg0) = m' ((c.tc : Thread Cert.Reference14.nD Cert.Reference14.τ).loc Cert.Reference14.main_arg0)
          ∧ r.2.mem ((c.tc : Thread Cert.Reference14.nD Cert.Reference14.τ).loc Cert.Reference14.main_arg1) = m' ((c.tc : Thread Cert.Reference14.nD Cert.Reference14.τ).loc Cert.Reference14.main_arg1))

def bitexact_Kernel15_Reference15 [hKernel15 : Cert.Kernel15.Facts] [hReference15 : Cert.Reference15.Facts] [hPre_places_exist : Cert.Pre_places_exist.Facts] : Prop :=
  ∀ (m : (ℓ : Loc Cert.Kernel15.nD Cert.Kernel15.τ Cert.Kernel15.sig) → Buf (Elt Bits) ℓ) (g : Dev Cert.Kernel15.nD → PrngReg)
    (m' : (ℓ : Loc Cert.Reference15.nD Cert.Reference15.τ Cert.Reference15.sig) → Buf (Elt Bits) ℓ) (g' : Dev Cert.Reference15.nD → PrngReg), Pre_Kernel15 m →
    (∀ c : Dev Cert.Kernel15.nD,
      m' ((c.tc : Thread Cert.Reference15.nD Cert.Reference15.τ).loc Cert.Reference15.main_arg0) = m ((c.tc : Thread Cert.Kernel15.nD Cert.Kernel15.τ).loc Cert.Kernel15.main_arg0)
      ∧ m' ((c.tc : Thread Cert.Reference15.nD Cert.Reference15.τ).loc Cert.Reference15.main_arg1) = m ((c.tc : Thread Cert.Kernel15.nD Cert.Kernel15.τ).loc Cert.Kernel15.main_arg1)
      ∧ m' ((c.tc : Thread Cert.Reference15.nD Cert.Reference15.τ).loc Cert.Reference15.main_arg2) = m ((c.tc : Thread Cert.Kernel15.nD Cert.Kernel15.τ).loc Cert.Kernel15.main_arg2)
      ∧ m' ((c.tc : Thread Cert.Reference15.nD Cert.Reference15.τ).loc Cert.Reference15.main_arg3) = m ((c.tc : Thread Cert.Kernel15.nD Cert.Kernel15.τ).loc Cert.Kernel15.main_arg3)) →
    ∃ (v0 : (c : Dev Cert.Kernel15.nD) → Buf (Elt Bits) ((c.tc : Thread Cert.Kernel15.nD Cert.Kernel15.τ).loc Cert.Kernel15.main_v0)),
      θ_run (Cert.Kernel15.defs (F := Bits)) (onTc (τ := Cert.Kernel15.τ) (Cert.Kernel15.main (F := Bits))) ⟨m, fun _ => 0, g⟩ (fun r => ∀ c : Dev Cert.Kernel15.nD,
          r.2.mem ((c.tc : Thread Cert.Kernel15.nD Cert.Kernel15.τ).loc Cert.Kernel15.main_v0) = v0 c
          ∧ r.2.mem ((c.tc : Thread Cert.Kernel15.nD Cert.Kernel15.τ).loc Cert.Kernel15.main_arg0) = m ((c.tc : Thread Cert.Kernel15.nD Cert.Kernel15.τ).loc Cert.Kernel15.main_arg0)
          ∧ r.2.mem ((c.tc : Thread Cert.Kernel15.nD Cert.Kernel15.τ).loc Cert.Kernel15.main_arg1) = m ((c.tc : Thread Cert.Kernel15.nD Cert.Kernel15.τ).loc Cert.Kernel15.main_arg1)
          ∧ r.2.mem ((c.tc : Thread Cert.Kernel15.nD Cert.Kernel15.τ).loc Cert.Kernel15.main_arg2) = m ((c.tc : Thread Cert.Kernel15.nD Cert.Kernel15.τ).loc Cert.Kernel15.main_arg2)
          ∧ r.2.mem ((c.tc : Thread Cert.Kernel15.nD Cert.Kernel15.τ).loc Cert.Kernel15.main_arg3) = m ((c.tc : Thread Cert.Kernel15.nD Cert.Kernel15.τ).loc Cert.Kernel15.main_arg3))
      ∧ θ_run (Cert.Reference15.defs (F := Bits)) (onTc (τ := Cert.Reference15.τ) (Cert.Reference15.main (F := Bits))) ⟨m', fun _ => 0, g'⟩ (fun r => ∀ c : Dev Cert.Reference15.nD,
          r.2.mem ((c.tc : Thread Cert.Reference15.nD Cert.Reference15.τ).loc Cert.Reference15.main_v32) = v0 c
          ∧ r.2.mem ((c.tc : Thread Cert.Reference15.nD Cert.Reference15.τ).loc Cert.Reference15.main_arg0) = m' ((c.tc : Thread Cert.Reference15.nD Cert.Reference15.τ).loc Cert.Reference15.main_arg0)
          ∧ r.2.mem ((c.tc : Thread Cert.Reference15.nD Cert.Reference15.τ).loc Cert.Reference15.main_arg1) = m' ((c.tc : Thread Cert.Reference15.nD Cert.Reference15.τ).loc Cert.Reference15.main_arg1)
          ∧ r.2.mem ((c.tc : Thread Cert.Reference15.nD Cert.Reference15.τ).loc Cert.Reference15.main_arg2) = m' ((c.tc : Thread Cert.Reference15.nD Cert.Reference15.τ).loc Cert.Reference15.main_arg2)
          ∧ r.2.mem ((c.tc : Thread Cert.Reference15.nD Cert.Reference15.τ).loc Cert.Reference15.main_arg3) = m' ((c.tc : Thread Cert.Reference15.nD Cert.Reference15.τ).loc Cert.Reference15.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hReference14 : Cert.Reference14.Facts) (hKernel15 : Cert.Kernel15.Facts) (hReference15 : Cert.Reference15.Facts) (hPre_experts_exist : Cert.Pre_experts_exist.Facts) (hPre_rows_exist : Cert.Pre_rows_exist.Facts) (hPre_places_exist : Cert.Pre_places_exist.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal)
    ∧ quiescent_ReferenceIdeal_pre_experts_exist (hReferenceIdeal := hReferenceIdeal) (hPre_experts_exist := hPre_experts_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14) (hPre_rows_exist := hPre_rows_exist)
    ∧ quiescent_Reference14 (hReference14 := hReference14)
    ∧ quiescent_Reference14_pre_rows_exist (hReference14 := hReference14) (hPre_rows_exist := hPre_rows_exist)
    ∧ quiescent_Kernel15 (hKernel15 := hKernel15) (hPre_places_exist := hPre_places_exist)
    ∧ quiescent_Reference15 (hReference15 := hReference15)
    ∧ quiescent_Reference15_pre_places_exist (hReference15 := hReference15) (hPre_places_exist := hPre_places_exist)
    ∧ preserves_Kernel_KernelIdeal
    ∧ algebraic_KernelIdeal_ReferenceIdeal (hKernelIdeal := hKernelIdeal) (hReferenceIdeal := hReferenceIdeal) (hPre_experts_exist := hPre_experts_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ bitexact_Kernel14_Reference14 (hKernel14 := hKernel14) (hReference14 := hReference14) (hPre_rows_exist := hPre_rows_exist)
    ∧ bitexact_Kernel15_Reference15 (hKernel15 := hKernel15) (hReference15 := hReference15) (hPre_places_exist := hPre_places_exist)
-- ==== Pre_experts_exist.lean ====
abbrev S53248x1024 : Shape := ⟨2, ![53248, 1024]⟩
abbrev S8x2048x7168 : Shape := ⟨3, ![8, 2048, 7168]⟩
abbrev S8x7168x2048 : Shape := ⟨3, ![8, 7168, 2048]⟩
abbrev S53248 : Shape := ⟨1, ![53248]⟩
abbrev S104 : Shape := ⟨1, ![104]⟩
abbrev S1 : Shape := ⟨1, ![1]⟩
abbrev S_ : Shape := ⟨0, ![]⟩

class Facts : Prop where
  bcast_S_S104 : S_.BroadcastsInDim S104 (![] : Fin 0 → Fin S104.rank)

variable [Facts]

def fn {F : FTy → Type} [FloatOps F] (main_arg0 : IVec S53248x1024 32) (main_arg1 : FVec F S8x2048x7168 .bf16) (main_arg2 : FVec F S8x2048x7168 .bf16) (main_arg3 : FVec F S8x7168x2048 .bf16) (main_arg4 : FVec F S53248 .f32) (main_arg5 : IVec S104 32) (main_arg6 : IVec S1 32) : IVec S104 1 :=
  let main_c : IVec S_ 32 := constantI S_ 32 0#32
  let main_v0 : IVec S104 32 := broadcastInDim S104 ![] bcast_S_S104 main_c
  let main_v1 : IVec S104 1 := cmpi .sge main_arg5 main_v0
  let main_c_0 : IVec S_ 32 := constantI S_ 32 8#32
  let main_v2 : IVec S104 32 := broadcastInDim S104 ![] bcast_S_S104 main_c_0
  let main_v3 : IVec S104 1 := cmpi .slt main_arg5 main_v2
  let main_v4 : IVec S104 1 := andi main_v1 main_v3
  main_v4
-- ==== Pre_places_exist.lean ====
abbrev S53248x2048 : Shape := ⟨2, ![53248, 2048]⟩
abbrev S2x24576 : Shape := ⟨2, ![2, 24576]⟩
abbrev S24576x2048 : Shape := ⟨2, ![24576, 2048]⟩
abbrev S96x1x2048 : Shape := ⟨3, ![96, 1, 2048]⟩
abbrev S_ : Shape := ⟨0, ![]⟩

class Facts : Prop where
  bcast_S_S2x24576 : S_.BroadcastsInDim S2x24576 (![] : Fin 0 → Fin S2x24576.rank)

variable [Facts]

def fn {F : FTy → Type} [FloatOps F] (main_arg0 : FVec F S53248x2048 .f32) (main_arg1 : IVec S2x24576 32) (main_arg2 : FVec F S24576x2048 .f32) (main_arg3 : FVec F S96x1x2048 .f32) : IVec S2x24576 1 :=
  let main_c : IVec S_ 32 := constantI S_ 32 0#32
  let main_v0 : IVec S2x24576 32 := broadcastInDim S2x24576 ![] bcast_S_S2x24576 main_c
  let main_v1 : IVec S2x24576 1 := cmpi .sge main_arg1 main_v0
  let main_c_0 : IVec S_ 32 := constantI S_ 32 53248#32
  let main_v2 : IVec S2x24576 32 := broadcastInDim S2x24576 ![] bcast_S_S2x24576 main_c_0
  let main_v3 : IVec S2x24576 1 := cmpi .slt main_arg1 main_v2
  let main_v4 : IVec S2x24576 1 := andi main_v1 main_v3
  main_v4
-- ==== Pre_rows_exist.lean ====
abbrev S24576x1024 : Shape := ⟨2, ![24576, 1024]⟩
abbrev S53248 : Shape := ⟨1, ![53248]⟩
abbrev S_ : Shape := ⟨0, ![]⟩

class Facts : Prop where
  bcast_S_S53248 : S_.BroadcastsInDim S53248 (![] : Fin 0 → Fin S53248.rank)

variable [Facts]

def fn {F : FTy → Type} [FloatOps F] (main_arg0 : IVec S24576x1024 32) (main_arg1 : IVec S53248 32) : IVec S53248 1 :=
  let main_c : IVec S_ 32 := constantI S_ 32 0#32
  let main_v0 : IVec S53248 32 := broadcastInDim S53248 ![] bcast_S_S53248 main_c
  let main_v1 : IVec S53248 1 := cmpi .sge main_arg1 main_v0
  let main_c_0 : IVec S_ 32 := constantI S_ 32 24576#32
  let main_v2 : IVec S53248 32 := broadcastInDim S53248 ![] bcast_S_S53248 main_c_0
  let main_v3 : IVec S53248 1 := cmpi .slt main_arg1 main_v2
  let main_v4 : IVec S53248 1 := andi main_v1 main_v3
  main_v4
-- ==== Kernel.lean ====
abbrev S53248x1024 : Shape := ⟨2, ![53248, 1024]⟩
abbrev S8x2048x7168 : Shape := ⟨3, ![8, 2048, 7168]⟩
abbrev S8x7168x2048 : Shape := ⟨3, ![8, 7168, 2048]⟩
abbrev S53248 : Shape := ⟨1, ![53248]⟩
abbrev S104 : Shape := ⟨1, ![104]⟩
abbrev S1 : Shape := ⟨1, ![1]⟩
abbrev S53248x1 : Shape := ⟨2, ![53248, 1]⟩
abbrev S53248x128 : Shape := ⟨2, ![53248, 128]⟩
abbrev S53248x2048 : Shape := ⟨2, ![53248, 2048]⟩
abbrev S512x1024 : Shape := ⟨2, ![512, 1024]⟩
abbrev S1x2048x512 : Shape := ⟨3, ![1, 2048, 512]⟩
abbrev S1x512x2048 : Shape := ⟨3, ![1, 512, 2048]⟩
abbrev S512x128 : Shape := ⟨2, ![512, 128]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 8
  | .vmem => 14
  | .smem => 2
  | _ => 0

abbrev bufTy : (tb : Table) → Fin (tcTables nBuf tb) → BufTy
  | .hbm, ⟨0, _⟩ => ⟨S53248x1024, .i32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S53248, .f32⟩
  | .hbm, ⟨5, _⟩ => ⟨S53248x1, .f32⟩
  | .hbm, ⟨6, _⟩ => ⟨S53248x128, .f32⟩
  | .hbm, ⟨7, _⟩ => ⟨S53248x2048, .f32⟩
  | .local _ .vmem, ⟨0, _⟩ => ⟨S512x1024, .i32⟩
  | .local _ .vmem, ⟨1, _⟩ => ⟨S512x1024, .i32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x128, .f32⟩
  | .local _ .vmem, ⟨9, _⟩ => ⟨S512x128, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | .local _ .smem, ⟨0, _⟩ => ⟨S104, .i32⟩
  | .local _ .smem, ⟨1, _⟩ => ⟨S1, .i32⟩
  | _, _ => ⟨S53248x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![104, 14], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c13_i32_21 : BitVec 32 := 13#32
  let v33 : BitVec 1 := Scalar.cmpi .eq arg1 c13_i32_21
  let v34 : BitVec 32 := Scalar.extui v33
  let c0_i32_22 : BitVec 32 := 0#32
  let v35 : BitVec 1 := Scalar.cmpi .ne v34 c0_i32_22
  v35

def k0_cond6 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c13_i32 : BitVec 32 := 13#32
  let v6 : BitVec 1 := Scalar.cmpi .eq arg1 c13_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S104.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S104.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S104.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S53248x1024 : Shape := ⟨2, ![53248, 1024]⟩
abbrev S8x2048x7168 : Shape := ⟨3, ![8, 2048, 7168]⟩
abbrev S8x7168x2048 : Shape := ⟨3, ![8, 7168, 2048]⟩
abbrev S53248 : Shape := ⟨1, ![53248]⟩
abbrev S104 : Shape := ⟨1, ![104]⟩
abbrev S1 : Shape := ⟨1, ![1]⟩
abbrev S_ : Shape := ⟨0, ![]⟩
abbrev S53248x2048 : Shape := ⟨2, ![53248, 2048]⟩
abbrev S104x1 : Shape := ⟨2, ![104, 1]⟩
abbrev S104x512 : Shape := ⟨2, ![104, 512]⟩
abbrev S53248x1 : Shape := ⟨2, ![53248, 1]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S53248x7168 : Shape := ⟨2, ![53248, 7168]⟩

abbrev nBuf : Space → Nat
  | .hbm => 288
  | .vmem => 0
  | .smem => 0
  | _ => 0

abbrev hbmTy0_0 (i : Nat) : BufTy := match i % 128 with
  | 0 => ⟨S53248x1024, .i32⟩
  | 1 => ⟨S8x2048x7168, .bf16⟩
  | 2 => ⟨S8x2048x7168, .bf16⟩
  | 3 => ⟨S8x7168x2048, .bf16⟩
  | 4 => ⟨S53248, .f32⟩
  | 5 => ⟨S104, .i32⟩
  | 6 => ⟨S1, .i32⟩
  | 7 => ⟨S_, .i32⟩
  | 8 => ⟨S53248x1024, .i32⟩
  | 9 => ⟨S53248x1024, .i32⟩
  | 10 => ⟨S53248x1024, .f32⟩
  | 11 => ⟨S_, .i32⟩
  | 12 => ⟨S53248x1024, .i32⟩
  | 13 => ⟨S53248x1024, .i32⟩
  | 14 => ⟨S53248x1024, .f32⟩
  | 15 => ⟨S53248x2048, .f32⟩
  | 16 => ⟨S8x2048x7168, .f32⟩
  | 17 => ⟨S8x2048x7168, .f32⟩
  | 18 => ⟨S8x7168x2048, .f32⟩
  | 19 => ⟨S104, .i32⟩
  | 20 => ⟨S_, .i32⟩
  | 21 => ⟨S104, .i32⟩
  | 22 => ⟨S104, .i1⟩
  | 23 => ⟨S104x1, .i1⟩
  | 24 => ⟨S104x512, .f32⟩
  | 25 => ⟨S_, .f32⟩
  | 26 => ⟨S_, .f32⟩
  | 27 => ⟨S104x512, .i1⟩
  | 28 => ⟨S104x512, .f32⟩
  | 29 => ⟨S104x512, .f32⟩
  | 30 => ⟨S_, .f32⟩
  | 31 => ⟨S53248x2048, .f32⟩
  | 32 => ⟨S_, .i32⟩
  | 33 => ⟨S104, .i32⟩
  | 34 => ⟨S104, .i1⟩
  | 35 => ⟨S104x1, .i1⟩
  | 36 => ⟨S_, .f32⟩
  | 37 => ⟨S_, .f32⟩
  | 38 => ⟨S104x512, .i1⟩
  | 39 => ⟨S104x512, .f32⟩
  | 40 => ⟨S104x512, .f32⟩
  | 41 => ⟨S53248x1, .f32⟩
  | 42 => ⟨S1x2048x7168, .f32⟩
  | 43 => ⟨S2048x7168, .f32⟩
  | 44 => ⟨S1x2048x7168, .f32⟩
  | 45 => ⟨S2048x7168, .f32⟩
  | 46 => ⟨S1x7168x2048, .f32⟩
  | 47 => ⟨S7168x2048, .f32⟩
  | 48 => ⟨S53248x7168, .f32⟩
  | 49 => ⟨S53248x7168, .f32⟩
  | 50 => ⟨S53248x7168, .f32⟩
  | 51 => ⟨S_, .f32⟩
  | 52 => ⟨S53248x7168, .f32⟩
  | 53 => ⟨S53248x7168, .f32⟩
  | 54 => ⟨S_, .f32⟩
  | 55 => ⟨S53248x7168, .f32⟩
  | 56 => ⟨S53248x7168, .f32⟩
  | 57 => ⟨S53248x7168, .f32⟩
  | 58 => ⟨S53248x7168, .f32⟩
  | 59 => ⟨S53248x7168, .f32⟩
  | 60 => ⟨S53248x2048, .f32⟩
  | 61 => ⟨S53248x2048, .f32⟩
  | 62 => ⟨S53248x2048, .f32⟩
  | 63 => ⟨S53248x2048, .f32⟩
  | 64 => ⟨S_, .i32⟩
  | 65 => ⟨S104, .i32⟩
  | 66 => ⟨S104, .i1⟩
  | 67 => ⟨S104x1, .i1⟩
  | 68 => ⟨S_, .f32⟩
  | 69 => ⟨S_, .f32⟩
  | 70 => ⟨S104x512, .i1⟩
  | 71 => ⟨S104x512, .f32⟩
  | 72 => ⟨S104x512, .f32⟩
  | 73 => ⟨S53248x1, .f32⟩
  | 74 => ⟨S1x2048x7168, .f32⟩
  | 75 => ⟨S2048x7168, .f32⟩
  | 76 => ⟨S1x2048x7168, .f32⟩
  | 77 => ⟨S2048x7168, .f32⟩
  | 78 => ⟨S1x7168x2048, .f32⟩
  | 79 => ⟨S7168x2048, .f32⟩
  | 80 => ⟨S53248x7168, .f32⟩
  | 81 => ⟨S53248x7168, .f32⟩
  | 82 => ⟨S53248x7168, .f32⟩
  | 83 => ⟨S_, .f32⟩
  | 84 => ⟨S53248x7168, .f32⟩
  | 85 => ⟨S53248x7168, .f32⟩
  | 86 => ⟨S_, .f32⟩
  | 87 => ⟨S53248x7168, .f32⟩
  | 88 => ⟨S53248x7168, .f32⟩
  | 89 => ⟨S53248x7168, .f32⟩
  | 90 => ⟨S53248x7168, .f32⟩
  | 91 => ⟨S53248x7168, .f32⟩
  | 92 => ⟨S53248x2048, .f32⟩
  | 93 => ⟨S53248x2048, .f32⟩
  | 94 => ⟨S53248x2048, .f32⟩
  | 95 => ⟨S53248x2048, .f32⟩
  | 96 => ⟨S_, .i32⟩
  | 97 => ⟨S104, .i32⟩
  | 98 => ⟨S104, .i1⟩
  | 99 => ⟨S104x1, .i1⟩
  | 100 => ⟨S_, .f32⟩
  | 101 => ⟨S_, .f32⟩
  | 102 => ⟨S104x512, .i1⟩
  | 103 => ⟨S104x512, .f32⟩
  | 104 => ⟨S104x512, .f32⟩
  | 105 => ⟨S53248x1, .f32⟩
  | 106 => ⟨S1x2048x7168, .f32⟩
  | 107 => ⟨S2048x7168, .f32⟩
  | 108 => ⟨S1x2048x7168, .f32⟩
  | 109 => ⟨S2048x7168, .f32⟩
  | 110 => ⟨S1x7168x2048, .f32⟩
  | 111 => ⟨S7168x2048, .f32⟩
  | 112 => ⟨S53248x7168, .f32⟩
  | 113 => ⟨S53248x7168, .f32⟩
  | 114 => ⟨S53248x7168, .f32⟩
  | 115 => ⟨S_, .f32⟩
  | 116 => ⟨S53248x7168, .f32⟩
  | 117 => ⟨S53248x7168, .f32⟩
  | 118 => ⟨S_, .f32⟩
  | 119 => ⟨S53248x7168, .f32⟩
  | 120 => ⟨S53248x7168, .f32⟩
  | 121 => ⟨S53248x7168, .f32⟩
  | 122 => ⟨S53248x7168, .f32⟩
  | 123 => ⟨S53248x7168, .f32⟩
  | 124 => ⟨S53248x2048, .f32⟩
  | 125 => ⟨S53248x2048, .f32⟩
  | 126 => ⟨S53248x2048, .f32⟩
  | 127 => ⟨S53248x2048, .f32⟩
  | _ => ⟨S53248x1024, .i32⟩

abbrev hbmTy0_1 (i : Nat) : BufTy := match i % 128 with
  | 0 => ⟨S_, .i32⟩
  | 1 => ⟨S104, .i32⟩
  | 2 => ⟨S104, .i1⟩
  | 3 => ⟨S104x1, .i1⟩
  | 4 => ⟨S_, .f32⟩
  | 5 => ⟨S_, .f32⟩
  | 6 => ⟨S104x512, .i1⟩
  | 7 => ⟨S104x512, .f32⟩
  | 8 => ⟨S104x512, .f32⟩
  | 9 => ⟨S53248x1, .f32⟩
  | 10 => ⟨S1x2048x7168, .f32⟩
  | 11 => ⟨S2048x7168, .f32⟩
  | 12 => ⟨S1x2048x7168, .f32⟩
  | 13 => ⟨S2048x7168, .f32⟩
  | 14 => ⟨S1x7168x2048, .f32⟩
  | 15 => ⟨S7168x2048, .f32⟩
  | 16 => ⟨S53248x7168, .f32⟩
  | 17 => ⟨S53248x7168, .f32⟩
  | 18 => ⟨S53248x7168, .f32⟩
  | 19 => ⟨S_, .f32⟩
  | 20 => ⟨S53248x7168, .f32⟩
  | 21 => ⟨S53248x7168, .f32⟩
  | 22 => ⟨S_, .f32⟩
  | 23 => ⟨S53248x7168, .f32⟩
  | 24 => ⟨S53248x7168, .f32⟩
  | 25 => ⟨S53248x7168, .f32⟩
  | 26 => ⟨S53248x7168, .f32⟩
  | 27 => ⟨S53248x7168, .f32⟩
  | 28 => ⟨S53248x2048, .f32⟩
  | 29 => ⟨S53248x2048, .f32⟩
  | 30 => ⟨S53248x2048, .f32⟩
  | 31 => ⟨S53248x2048, .f32⟩
  | 32 => ⟨S_, .i32⟩
  | 33 => ⟨S104, .i32⟩
  | 34 => ⟨S104, .i1⟩
  | 35 => ⟨S104x1, .i1⟩
  | 36 => ⟨S_, .f32⟩
  | 37 => ⟨S_, .f32⟩
  | 38 => ⟨S104x512, .i1⟩
  | 39 => ⟨S104x512, .f32⟩
  | 40 => ⟨S104x512, .f32⟩
  | 41 => ⟨S53248x1, .f32⟩
  | 42 => ⟨S1x2048x7168, .f32⟩
  | 43 => ⟨S2048x7168, .f32⟩
  | 44 => ⟨S1x2048x7168, .f32⟩
  | 45 => ⟨S2048x7168, .f32⟩
  | 46 => ⟨S1x7168x2048, .f32⟩
  | 47 => ⟨S7168x2048, .f32⟩
  | 48 => ⟨S53248x7168, .f32⟩
  | 49 => ⟨S53248x7168, .f32⟩
  | 50 => ⟨S53248x7168, .f32⟩
  | 51 => ⟨S_, .f32⟩
  | 52 => ⟨S53248x7168, .f32⟩
  | 53 => ⟨S53248x7168, .f32⟩
  | 54 => ⟨S_, .f32⟩
  | 55 => ⟨S53248x7168, .f32⟩
  | 56 => ⟨S53248x7168, .f32⟩
  | 57 => ⟨S53248x7168, .f32⟩
  | 58 => ⟨S53248x7168, .f32⟩
  | 59 => ⟨S53248x7168, .f32⟩
  | 60 => ⟨S53248x2048, .f32⟩
  | 61 => ⟨S53248x2048, .f32⟩
  | 62 => ⟨S53248x2048, .f32⟩
  | 63 => ⟨S53248x2048, .f32⟩
  | 64 => ⟨S_, .i32⟩
  | 65 => ⟨S104, .i32⟩
  | 66 => ⟨S104, .i1⟩
  | 67 => ⟨S104x1, .i1⟩
  | 68 => ⟨S_, .f32⟩
  | 69 => ⟨S_, .f32⟩
  | 70 => ⟨S104x512, .i1⟩
  | 71 => ⟨S104x512, .f32⟩
  | 72 => ⟨S104x512, .f32⟩
  | 73 => ⟨S53248x1, .f32⟩
  | 74 => ⟨S1x2048x7168, .f32⟩
  | 75 => ⟨S2048x7168, .f32⟩
  | 76 => ⟨S1x2048x7168, .f32⟩
  | 77 => ⟨S2048x7168, .f32⟩
  | 78 => ⟨S1x7168x2048, .f32⟩
  | 79 => ⟨S7168x2048, .f32⟩
  | 80 => ⟨S53248x7168, .f32⟩
  | 81 => ⟨S53248x7168, .f32⟩
  | 82 => ⟨S53248x7168, .f32⟩
  | 83 => ⟨S_, .f32⟩
  | 84 => ⟨S53248x7168, .f32⟩
  | 85 => ⟨S53248x7168, .f32⟩
  | 86 => ⟨S_, .f32⟩
  | 87 => ⟨S53248x7168, .f32⟩
  | 88 => ⟨S53248x7168, .f32⟩
  | 89 => ⟨S53248x7168, .f32⟩
  | 90 => ⟨S53248x7168, .f32⟩
  | 91 => ⟨S53248x7168, .f32⟩
  | 92 => ⟨S53248x2048, .f32⟩
  | 93 => ⟨S53248x2048, .f32⟩
  | 94 => ⟨S53248x2048, .f32⟩
  | 95 => ⟨S53248x2048, .f32⟩
  | 96 => ⟨S_, .i32⟩
  | 97 => ⟨S104, .i32⟩
  | 98 => ⟨S104, .i1⟩
  | 99 => ⟨S104x1, .i1⟩
  | 100 => ⟨S_, .f32⟩
  | 101 => ⟨S_, .f32⟩
  | 102 => ⟨S104x512, .i1⟩
  | 103 => ⟨S104x512, .f32⟩
  | 104 => ⟨S104x512, .f32⟩
  | 105 => ⟨S53248x1, .f32⟩
  | 106 => ⟨S1x2048x7168, .f32⟩
  | 107 => ⟨S2048x7168, .f32⟩
  | 108 => ⟨S1x2048x7168, .f32⟩
  | 109 => ⟨S2048x7168, .f32⟩
  | 110 => ⟨S1x7168x2048, .f32⟩
  | 111 => ⟨S7168x2048, .f32⟩
  | 112 => ⟨S53248x7168, .f32⟩
  | 113 => ⟨S53248x7168, .f32⟩
  | 114 => ⟨S53248x7168, .f32⟩
  | 115 => ⟨S_, .f32⟩
  | 116 => ⟨S53248x7168, .f32⟩
  | 117 => ⟨S53248x7168, .f32⟩
  | 118 => ⟨S_, .f32⟩
  | 119 => ⟨S53248x7168, .f32⟩
  | 120 => ⟨S53248x7168, .f32⟩
  | 121 => ⟨S53248x7168, .f32⟩
  | 122 => ⟨S53248x7168, .f32⟩
  | 123 => ⟨S53248x7168, .f32⟩
  | 124 => ⟨S53248x2048, .f32⟩
  | 125 => ⟨S53248x2048, .f32⟩
  | 126 => ⟨S53248x2048, .f32⟩
  | 127 => ⟨S53248x2048, .f32⟩
  | _ => ⟨S53248x1024, .i32⟩

abbrev hbmTy0_2 (i : Nat) : BufTy := match i % 128 with
  | 0 => ⟨S_, .i32⟩
  | 1 => ⟨S104, .i32⟩
  | 2 => ⟨S104, .i1⟩
  | 3 => ⟨S104x1, .i1⟩
  | 4 => ⟨S_, .f32⟩
  | 5 => ⟨S_, .f32⟩
  | 6 => ⟨S104x512, .i1⟩
  | 7 => ⟨S104x512, .f32⟩
  | 8 => ⟨S104x512, .f32⟩
  | 9 => ⟨S53248x1, .f32⟩
  | 10 => ⟨S1x2048x7168, .f32⟩
  | 11 => ⟨S2048x7168, .f32⟩
  | 12 => ⟨S1x2048x7168, .f32⟩
  | 13 => ⟨S2048x7168, .f32⟩
  | 14 => ⟨S1x7168x2048, .f32⟩
  | 15 => ⟨S7168x2048, .f32⟩
  | 16 => ⟨S53248x7168, .f32⟩
  | 17 => ⟨S53248x7168, .f32⟩
  | 18 => ⟨S53248x7168, .f32⟩
  | 19 => ⟨S_, .f32⟩
  | 20 => ⟨S53248x7168, .f32⟩
  | 21 => ⟨S53248x7168, .f32⟩
  | 22 => ⟨S_, .f32⟩
  | 23 => ⟨S53248x7168, .f32⟩
  | 24 => ⟨S53248x7168, .f32⟩
  | 25 => ⟨S53248x7168, .f32⟩
  | 26 => ⟨S53248x7168, .f32⟩
  | 27 => ⟨S53248x7168, .f32⟩
  | 28 => ⟨S53248x2048, .f32⟩
  | 29 => ⟨S53248x2048, .f32⟩
  | 30 => ⟨S53248x2048, .f32⟩
  | 31 => ⟨S53248x2048, .f32⟩
  | _ => ⟨S53248x1024, .i32⟩

abbrev hbmTy (i : Nat) : BufTy := match i / 128 with
  | 0 => hbmTy0_0 i
  | 1 => hbmTy0_1 i
  | 2 => hbmTy0_2 i
  | _ => ⟨S53248x1024, .i32⟩

abbrev bufTy : (tb : Table) → Fin (tcTables nBuf tb) → BufTy
  | .hbm, ⟨i, _⟩ => hbmTy i
  | _, _ => ⟨S53248x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call4_v0 : Ref sig .tc := ⟨.hbm, 81, rfl⟩
abbrev main_call4_v1 : Ref sig .tc := ⟨.hbm, 82, rfl⟩
abbrev main_call4_cst : Ref sig .tc := ⟨.hbm, 83, rfl⟩
abbrev main_call4_v2 : Ref sig .tc := ⟨.hbm, 84, rfl⟩
abbrev main_call4_v3 : Ref sig .tc := ⟨.hbm, 85, rfl⟩
abbrev main_call4_cst_0 : Ref sig .tc := ⟨.hbm, 86, rfl⟩
abbrev main_call4_v4 : Ref sig .tc := ⟨.hbm, 87, rfl⟩
abbrev main_call4_v5 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_6 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_7 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_call6_v0 : Ref sig .tc := ⟨.hbm, 113, rfl⟩
abbrev main_call6_v1 : Ref sig .tc := ⟨.hbm, 114, rfl⟩
abbrev main_call6_cst : Ref sig .tc := ⟨.hbm, 115, rfl⟩
abbrev main_call6_v2 : Ref sig .tc := ⟨.hbm, 116, rfl⟩
abbrev main_call6_v3 : Ref sig .tc := ⟨.hbm, 117, rfl⟩
abbrev main_call6_cst_0 : Ref sig .tc := ⟨.hbm, 118, rfl⟩
abbrev main_call6_v4 : Ref sig .tc := ⟨.hbm, 119, rfl⟩
abbrev main_call6_v5 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_c_8 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_9 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_call8_v0 : Ref sig .tc := ⟨.hbm, 145, rfl⟩
abbrev main_call8_v1 : Ref sig .tc := ⟨.hbm, 146, rfl⟩
abbrev main_call8_cst : Ref sig .tc := ⟨.hbm, 147, rfl⟩
abbrev main_call8_v2 : Ref sig .tc := ⟨.hbm, 148, rfl⟩
abbrev main_call8_v3 : Ref sig .tc := ⟨.hbm, 149, rfl⟩
abbrev main_call8_cst_0 : Ref sig .tc := ⟨.hbm, 150, rfl⟩
abbrev main_call8_v4 : Ref sig .tc := ⟨.hbm, 151, rfl⟩
abbrev main_call8_v5 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_c_10 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_cst_11 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_call10_v0 : Ref sig .tc := ⟨.hbm, 177, rfl⟩
abbrev main_call10_v1 : Ref sig .tc := ⟨.hbm, 178, rfl⟩
abbrev main_call10_cst : Ref sig .tc := ⟨.hbm, 179, rfl⟩
abbrev main_call10_v2 : Ref sig .tc := ⟨.hbm, 180, rfl⟩
abbrev main_call10_v3 : Ref sig .tc := ⟨.hbm, 181, rfl⟩
abbrev main_call10_cst_0 : Ref sig .tc := ⟨.hbm, 182, rfl⟩
abbrev main_call10_v4 : Ref sig .tc := ⟨.hbm, 183, rfl⟩
abbrev main_call10_v5 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_c_12 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_cst_13 : Ref sig .tc := ⟨.hbm, 196, rfl⟩
abbrev main_call11_v0 : Ref sig .tc := ⟨.hbm, 197, rfl⟩
abbrev main_call11_v1 : Ref sig .tc := ⟨.hbm, 198, rfl⟩
abbrev main_call11_v2 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_call12_v0 : Ref sig .tc := ⟨.hbm, 209, rfl⟩
abbrev main_call12_v1 : Ref sig .tc := ⟨.hbm, 210, rfl⟩
abbrev main_call12_cst : Ref sig .tc := ⟨.hbm, 211, rfl⟩
abbrev main_call12_v2 : Ref sig .tc := ⟨.hbm, 212, rfl⟩
abbrev main_call12_v3 : Ref sig .tc := ⟨.hbm, 213, rfl⟩
abbrev main_call12_cst_0 : Ref sig .tc := ⟨.hbm, 214, rfl⟩
abbrev main_call12_v4 : Ref sig .tc := ⟨.hbm, 215, rfl⟩
abbrev main_call12_v5 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_c_14 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_cst_15 : Ref sig .tc := ⟨.hbm, 228, rfl⟩
abbrev main_call13_v0 : Ref sig .tc := ⟨.hbm, 229, rfl⟩
abbrev main_call13_v1 : Ref sig .tc := ⟨.hbm, 230, rfl⟩
abbrev main_call13_v2 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_call14_v0 : Ref sig .tc := ⟨.hbm, 241, rfl⟩
abbrev main_call14_v1 : Ref sig .tc := ⟨.hbm, 242, rfl⟩
abbrev main_call14_cst : Ref sig .tc := ⟨.hbm, 243, rfl⟩
abbrev main_call14_v2 : Ref sig .tc := ⟨.hbm, 244, rfl⟩
abbrev main_call14_v3 : Ref sig .tc := ⟨.hbm, 245, rfl⟩
abbrev main_call14_cst_0 : Ref sig .tc := ⟨.hbm, 246, rfl⟩
abbrev main_call14_v4 : Ref sig .tc := ⟨.hbm, 247, rfl⟩
abbrev main_call14_v5 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_c_16 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_cst_17 : Ref sig .tc := ⟨.hbm, 260, rfl⟩
abbrev main_call15_v0 : Ref sig .tc := ⟨.hbm, 261, rfl⟩
abbrev main_call15_v1 : Ref sig .tc := ⟨.hbm, 262, rfl⟩
abbrev main_call15_v2 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_call16_v0 : Ref sig .tc := ⟨.hbm, 273, rfl⟩
abbrev main_call16_v1 : Ref sig .tc := ⟨.hbm, 274, rfl⟩
abbrev main_call16_cst : Ref sig .tc := ⟨.hbm, 275, rfl⟩
abbrev main_call16_v2 : Ref sig .tc := ⟨.hbm, 276, rfl⟩
abbrev main_call16_v3 : Ref sig .tc := ⟨.hbm, 277, rfl⟩
abbrev main_call16_cst_0 : Ref sig .tc := ⟨.hbm, 278, rfl⟩
abbrev main_call16_v4 : Ref sig .tc := ⟨.hbm, 279, rfl⟩
abbrev main_call16_v5 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩

abbrev nD : Nat := 1
abbrev τ : Topo := Topo.v7x

variable {F : FTy → Type} [FloatOps F]
-- ==== Kernel2.lean ====
abbrev S24576x2048 : Shape := ⟨2, ![24576, 2048]⟩
abbrev S2048x5632 : Shape := ⟨2, ![2048, 5632]⟩
abbrev S5632x2048 : Shape := ⟨2, ![5632, 2048]⟩
abbrev S96x1x2048 : Shape := ⟨3, ![96, 1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S1x2048 : Shape := ⟨2, ![1, 2048]⟩

abbrev nBuf : Space → Nat
  | .hbm => 7
  | .vmem => 15
  | .smem => 0
  | _ => 0

abbrev bufTy : (tb : Table) → Fin (tcTables nBuf tb) → BufTy
  | .hbm, ⟨0, _⟩ => ⟨S24576x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S24576x2048, .f32⟩
  | .hbm, ⟨5, _⟩ => ⟨S96x1x2048, .f32⟩
  | .hbm, ⟨6, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![48, 11], ![false, false]⟩

def k0_cond3 (i : grid0.Coords) : BitVec 1 :=
  let arg1 : BitVec 32 := BitVec.ofNat 32 (i 1).val
  let c10_i32 : BitVec 32 := 10#32
  let v17 : BitVec 1 := Scalar.cmpi .eq arg1 c10_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c5_i32 : BitVec 32 := 5#32
  let v23 : BitVec 32 := Scalar.addi v22 c5_i32
  let c0_i32_7 : BitVec 32 := 0#32
  let c0_i32_8 : BitVec 32 := 0#32
  let c0_i32_9 : BitVec 32 := 0#32
  ![v23.toNat, c0_i32_7.toNat, c0_i32_8.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S24576x2048 : Shape := ⟨2, ![24576, 2048]⟩
abbrev S2048x5632 : Shape := ⟨2, ![2048, 5632]⟩
abbrev S5632x2048 : Shape := ⟨2, ![5632, 2048]⟩
abbrev S96x1x2048 : Shape := ⟨3, ![96, 1, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x2048 : Shape := ⟨2, ![1, 2048]⟩
abbrev S1x1x2048 : Shape := ⟨3, ![1, 1, 2048]⟩
abbrev S1x8192x2048 : Shape := ⟨3, ![1, 8192, 2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩
abbrev S24576x5632 : Shape := ⟨2, ![24576, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S24576x2048, .f32⟩
  | .hbm, ⟨5, _⟩ => ⟨S96x1x2048, .f32⟩
  | .hbm, ⟨6, _⟩ => ⟨S24576x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S16x6x2048, .f32⟩
  | .hbm, ⟨11, _⟩ => ⟨S16x1x2048, .f32⟩
  | .hbm, ⟨12, _⟩ => ⟨S16x2048, .f32⟩
  | .hbm, ⟨13, _⟩ => ⟨S1x2048, .f32⟩
  | .hbm, ⟨14, _⟩ => ⟨S1x1x2048, .f32⟩
  | .hbm, ⟨15, _⟩ => ⟨S1x8192x2048, .f32⟩
  | .hbm, ⟨16, _⟩ => ⟨S8192x2048, .f32⟩
  | .hbm, ⟨17, _⟩ => ⟨S8x2048, .f32⟩
  | .hbm, ⟨18, _⟩ => ⟨S8x1x2048, .f32⟩
  | .hbm, ⟨19, _⟩ => ⟨S8x2048x2048, .f32⟩
  | .hbm, ⟨20, _⟩ => ⟨S16384x2048, .f32⟩
  | .hbm, ⟨21, _⟩ => ⟨S24576x2048, .f32⟩
  | .hbm, ⟨22, _⟩ => ⟨S24576x5632, .f32⟩
  | .hbm, ⟨23, _⟩ => ⟨S24576x5632, .f32⟩
  | .hbm, ⟨24, _⟩ => ⟨S24576x5632, .f32⟩
  | .hbm, ⟨25, _⟩ => ⟨S_, .f32⟩
  | .hbm, ⟨26, _⟩ => ⟨S24576x5632, .f32⟩
  | .hbm, ⟨27, _⟩ => ⟨S24576x5632, .f32⟩
  | .hbm, ⟨28, _⟩ => ⟨S_, .f32⟩
  | .hbm, ⟨29, _⟩ => ⟨S24576x5632, .f32⟩
  | .hbm, ⟨30, _⟩ => ⟨S24576x5632, .f32⟩
  | .hbm, ⟨31, _⟩ => ⟨S24576x5632, .f32⟩
  | .hbm, ⟨32, _⟩ => ⟨S24576x5632, .f32⟩
  | .hbm, ⟨33, _⟩ => ⟨S24576x5632, .f32⟩
  | .hbm, ⟨34, _⟩ => ⟨S24576x2048, .f32⟩
  | .hbm, ⟨35, _⟩ => ⟨S24576x2048, .f32⟩
  | .hbm, ⟨36, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel3.lean ====
abbrev S24576x2048 : Shape := ⟨2, ![24576, 2048]⟩
abbrev S2048x8192 : Shape := ⟨2, ![2048, 8192]⟩
abbrev S24576x8192 : Shape := ⟨2, ![24576, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x8192, .bf16⟩
  | .hbm, ⟨2, _⟩ => ⟨S24576x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S24576x2048 : Shape := ⟨2, ![24576, 2048]⟩
abbrev S2048x8192 : Shape := ⟨2, ![2048, 8192]⟩
abbrev S24576x8192 : Shape := ⟨2, ![24576, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x8192, .bf16⟩
  | .hbm, ⟨2, _⟩ => ⟨S24576x2048, .f32⟩
  | .hbm, ⟨3, _⟩ => ⟨S2048x8192, .f32⟩
  | .hbm, ⟨4, _⟩ => ⟨S24576x8192, .f32⟩
  | .hbm, ⟨5, _⟩ => ⟨S24576x8192, .f32⟩
  | .hbm, ⟨6, _⟩ => ⟨S24576x8192, .f32⟩
  | .hbm, ⟨7, _⟩ => ⟨S_, .f32⟩
  | .hbm, ⟨8, _⟩ => ⟨S24576x8192, .f32⟩
  | .hbm, ⟨9, _⟩ => ⟨S24576x8192, .f32⟩
  | .hbm, ⟨10, _⟩ => ⟨S_, .f32⟩
  | .hbm, ⟨11, _⟩ => ⟨S24576x8192, .f32⟩
  | .hbm, ⟨12, _⟩ => ⟨S24576x8192, .f32⟩
  | .hbm, ⟨13, _⟩ => ⟨S24576x8192, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S24576x2048 : Shape := ⟨2, ![24576, 2048]⟩
abbrev S2048x3584 : Shape := ⟨2, ![2048, 3584]⟩
abbrev S24576x3584 : Shape := ⟨2, ![24576, 3584]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x3584, .bf16⟩
  | .hbm, ⟨2, _⟩ => ⟨S24576x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S24576x2048 : Shape := ⟨2, ![24576, 2048]⟩
abbrev S2048x3584 : Shape := ⟨2, ![2048, 3584]⟩
abbrev S24576x3584 : Shape := ⟨2, ![24576, 3584]⟩

abbrev nBuf : Space → Nat
  | .hbm => 5
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x3584, .bf16⟩
  | .hbm, ⟨2, _⟩ => ⟨S24576x2048, .f32⟩
  | .hbm, ⟨3, _⟩ => ⟨S2048x3584, .f32⟩
  | .hbm, ⟨4, _⟩ => ⟨S24576x3584, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S24576x512 : Shape := ⟨2, ![24576, 512]⟩
abbrev S24576x8192 : Shape := ⟨2, ![24576, 8192]⟩
abbrev S4x512x2048 : Shape := ⟨3, ![4, 512, 2048]⟩
abbrev S24576x2048 : Shape := ⟨2, ![24576, 2048]⟩
abbrev S512x512 : Shape := ⟨2, ![512, 512]⟩
abbrev S512x8192 : Shape := ⟨2, ![512, 8192]⟩
abbrev S512x2048 : Shape := ⟨2, ![512, 2048]⟩
abbrev S1x512x2048 : Shape := ⟨3, ![1, 512, 2048]⟩

abbrev nBuf : Space → Nat
  | .hbm => 7
  | .vmem => 13
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S24576x512, .bf16⟩
  | .hbm, ⟨3, _⟩ => ⟨S24576x512, .bf16⟩
  | .hbm, ⟨4, _⟩ => ⟨S24576x8192, .bf16⟩
  | .hbm, ⟨5, _⟩ => ⟨S4x512x2048, .bf16⟩
  | .hbm, ⟨6, _⟩ => ⟨S24576x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x8192, .bf16⟩
  | .local _ .vmem, ⟨9, _⟩ => ⟨S512x8192, .bf16⟩
  | .local _ .vmem, ⟨10, _⟩ => ⟨S4x512x2048, .bf16⟩
  | .local _ .vmem, ⟨11, _⟩ => ⟨S512x2048, .bf16⟩
  | .local _ .vmem, ⟨12, _⟩ => ⟨S512x2048, .bf16⟩
  | _, _ => ⟨S24576x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S24576x512 : Shape := ⟨2, ![24576, 512]⟩
abbrev S24576x8192 : Shape := ⟨2, ![24576, 8192]⟩
abbrev S4x512x2048 : Shape := ⟨3, ![4, 512, 2048]⟩
abbrev S24576x1x512 : Shape := ⟨3, ![24576, 1, 512]⟩
abbrev S24576x4x512 : Shape := ⟨3, ![24576, 4, 512]⟩
abbrev S4x2048x24576 : Shape := ⟨3, ![4, 2048, 24576]⟩
abbrev S24576x4x2048 : Shape := ⟨3, ![24576, 4, 2048]⟩
abbrev S24576x2048 : Shape := ⟨2, ![24576, 2048]⟩

abbrev nBuf : Space → Nat
  | .hbm => 19
  | .vmem => 0
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S24576x512, .bf16⟩
  | .hbm, ⟨3, _⟩ => ⟨S24576x512, .bf16⟩
  | .hbm, ⟨4, _⟩ => ⟨S24576x8192, .bf16⟩
  | .hbm, ⟨5, _⟩ => ⟨S4x512x2048, .bf16⟩
  | .hbm, ⟨6, _⟩ => ⟨S24576x1x512, .bf16⟩
  | .hbm, ⟨7, _⟩ => ⟨S24576x1x512, .bf16⟩
  | .hbm, ⟨8, _⟩ => ⟨S24576x1x512, .bf16⟩
  | .hbm, ⟨9, _⟩ => ⟨S24576x1x512, .bf16⟩
  | .hbm, ⟨10, _⟩ => ⟨S24576x4x512, .bf16⟩
  | .hbm, ⟨11, _⟩ => ⟨S24576x4x512, .f32⟩
  | .hbm, ⟨12, _⟩ => ⟨S4x512x2048, .f32⟩
  | .hbm, ⟨13, _⟩ => ⟨S4x2048x24576, .f32⟩
  | .hbm, ⟨14, _⟩ => ⟨S24576x4x2048, .f32⟩
  | .hbm, ⟨15, _⟩ => ⟨S24576x8192, .f32⟩
  | .hbm, ⟨16, _⟩ => ⟨S24576x4x2048, .f32⟩
  | .hbm, ⟨17, _⟩ => ⟨S24576x2048, .f32⟩
  | .hbm, ⟨18, _⟩ => ⟨S24576x2048, .bf16⟩
  | _, _ => ⟨S24576x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel6.lean ====
abbrev S24576x2048 : Shape := ⟨2, ![24576, 2048]⟩
abbrev S2048x2048 : Shape := ⟨2, ![2048, 2048]⟩
abbrev S96x1x2048 : Shape := ⟨3, ![96, 1, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .bf16⟩
  | .hbm, ⟨2, _⟩ => ⟨S24576x2048, .f32⟩
  | .hbm, ⟨3, _⟩ => ⟨S96x1x2048, .f32⟩
  | .hbm, ⟨4, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  let c0_i32_9 : BitVec 32 := 0#32
  ![v23.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S24576x2048 : Shape := ⟨2, ![24576, 2048]⟩
abbrev S2048x2048 : Shape := ⟨2, ![2048, 2048]⟩
abbrev S96x1x2048 : Shape := ⟨3, ![96, 1, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x2048 : Shape := ⟨2, ![1, 2048]⟩
abbrev S1x1x2048 : Shape := ⟨3, ![1, 1, 2048]⟩
abbrev S1x8192x2048 : Shape := ⟨3, ![1, 8192, 2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .bf16⟩
  | .hbm, ⟨2, _⟩ => ⟨S24576x2048, .f32⟩
  | .hbm, ⟨3, _⟩ => ⟨S96x1x2048, .f32⟩
  | .hbm, ⟨4, _⟩ => ⟨S16x6x2048, .f32⟩
  | .hbm, ⟨5, _⟩ => ⟨S16x1x2048, .f32⟩
  | .hbm, ⟨6, _⟩ => ⟨S16x2048, .f32⟩
  | .hbm, ⟨7, _⟩ => ⟨S1x2048, .f32⟩
  | .hbm, ⟨8, _⟩ => ⟨S1x1x2048, .f32⟩
  | .hbm, ⟨9, _⟩ => ⟨S1x8192x2048, .f32⟩
  | .hbm, ⟨10, _⟩ => ⟨S8192x2048, .f32⟩
  | .hbm, ⟨11, _⟩ => ⟨S8x2048, .f32⟩
  | .hbm, ⟨12, _⟩ => ⟨S8x1x2048, .f32⟩
  | .hbm, ⟨13, _⟩ => ⟨S8x2048x2048, .f32⟩
  | .hbm, ⟨14, _⟩ => ⟨S16384x2048, .f32⟩
  | .hbm, ⟨15, _⟩ => ⟨S24576x2048, .f32⟩
  | .hbm, ⟨16, _⟩ => ⟨S24576x2048, .f32⟩
  | .hbm, ⟨17, _⟩ => ⟨S2048x2048, .f32⟩
  | .hbm, ⟨18, _⟩ => ⟨S24576x2048, .f32⟩
  | .hbm, ⟨19, _⟩ => ⟨S24576x2048, .f32⟩
  | .hbm, ⟨20, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel7.lean ====
abbrev S24576x2048 : Shape := ⟨2, ![24576, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S1x2048, .f32⟩
  | .hbm, ⟨3, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S24576x2048 : Shape := ⟨2, ![24576, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S24576x2048, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x2048, .f32⟩
  | .hbm, ⟨14, _⟩ => ⟨S24576x2048, .f32⟩
  | .hbm, ⟨15, _⟩ => ⟨S1x2048, .f32⟩
  | .hbm, ⟨16, _⟩ => ⟨S24576x2048, .f32⟩
  | .hbm, ⟨17, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S24576x2048 : Shape := ⟨2, ![24576, 2048]⟩
abbrev S2048 : Shape := ⟨1, ![2048]⟩
abbrev S96x1x2048 : Shape := ⟨3, ![96, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S96x1x2048, .f32⟩
  | .hbm, ⟨3, _⟩ => ⟨S1x2048, .f32⟩
  | .hbm, ⟨4, _⟩ => ⟨S24576x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c1_i32_7 : BitVec 32 := 1#32
  let v23 : BitVec 32 := Scalar.addi v22 c1_i32_7
  let c0_i32_8 : BitVec 32 := 0#32
  let c0_i32_9 : BitVec 32 := 0#32
  let c0_i32_10 : BitVec 32 := 0#32
  ![v23.toNat, c0_i32_8.toNat, c0_i32_9.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c0_i32_7 : BitVec 32 := 0#32
  let v23 : BitVec 32 := Scalar.addi v22 c0_i32_7
  let c0_i32_8 : BitVec 32 := 0#32
  let c0_i32_9 : BitVec 32 := 0#32
  let c0_i32_10 : BitVec 32 := 0#32
  ![v23.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S24576x2048 : Shape := ⟨2, ![24576, 2048]⟩
abbrev S2048 : Shape := ⟨1, ![2048]⟩
abbrev S96x1x2048 : Shape := ⟨3, ![96, 1, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x1x2048 : Shape := ⟨3, ![1, 1, 2048]⟩
abbrev S1x8192x2048 : Shape := ⟨3, ![1, 8192, 2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S96x1x2048, .f32⟩
  | .hbm, ⟨3, _⟩ => ⟨S24576x2048, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x2048, .f32⟩
  | .hbm, ⟨15, _⟩ => ⟨S24576x2048, .f32⟩
  | .hbm, ⟨16, _⟩ => ⟨S1x2048, .f32⟩
  | .hbm, ⟨17, _⟩ => ⟨S24576x2048, .f32⟩
  | .hbm, ⟨18, _⟩ => ⟨S24576x2048, .f32⟩
  | .hbm, ⟨19, _⟩ => ⟨S16x6x2048, .f32⟩
  | .hbm, ⟨20, _⟩ => ⟨S16x1x2048, .f32⟩
  | .hbm, ⟨21, _⟩ => ⟨S16x2048, .f32⟩
  | .hbm, ⟨22, _⟩ => ⟨S1x2048, .f32⟩
  | .hbm, ⟨23, _⟩ => ⟨S1x1x2048, .f32⟩
  | .hbm, ⟨24, _⟩ => ⟨S1x8192x2048, .f32⟩
  | .hbm, ⟨25, _⟩ => ⟨S8192x2048, .f32⟩
  | .hbm, ⟨26, _⟩ => ⟨S8x2048, .f32⟩
  | .hbm, ⟨27, _⟩ => ⟨S8x1x2048, .f32⟩
  | .hbm, ⟨28, _⟩ => ⟨S8x2048x2048, .f32⟩
  | .hbm, ⟨29, _⟩ => ⟨S16384x2048, .f32⟩
  | .hbm, ⟨30, _⟩ => ⟨S24576x2048, .f32⟩
  | .hbm, ⟨31, _⟩ => ⟨S_, .f32⟩
  | .hbm, ⟨32, _⟩ => ⟨S24576x2048, .f32⟩
  | .hbm, ⟨33, _⟩ => ⟨S24576x2048, .f32⟩
  | .hbm, ⟨34, _⟩ => ⟨S24576x2048, .f32⟩
  | .hbm, ⟨35, _⟩ => ⟨S16x6x2048, .f32⟩
  | .hbm, ⟨36, _⟩ => ⟨S16x1x2048, .f32⟩
  | .hbm, ⟨37, _⟩ => ⟨S16x2048, .f32⟩
  | .hbm, ⟨38, _⟩ => ⟨S1x2048, .f32⟩
  | .hbm, ⟨39, _⟩ => ⟨S1x1x2048, .f32⟩
  | .hbm, ⟨40, _⟩ => ⟨S1x8192x2048, .f32⟩
  | .hbm, ⟨41, _⟩ => ⟨S8192x2048, .f32⟩
  | .hbm, ⟨42, _⟩ => ⟨S8x2048, .f32⟩
  | .hbm, ⟨43, _⟩ => ⟨S8x1x2048, .f32⟩
  | .hbm, ⟨44, _⟩ => ⟨S8x2048x2048, .f32⟩
  | .hbm, ⟨45, _⟩ => ⟨S16384x2048, .f32⟩
  | .hbm, ⟨46, _⟩ => ⟨S24576x2048, .f32⟩
  | .hbm, ⟨47, _⟩ => ⟨S24576x2048, .f32⟩
  | .hbm, ⟨48, _⟩ => ⟨S24576x2048, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel9.lean ====
abbrev S24576x512 : Shape := ⟨2, ![24576, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S24576x512, .f32⟩
  | .hbm, ⟨1, _⟩ => ⟨S512x512, .bf16⟩
  | .hbm, ⟨2, _⟩ => ⟨S24576x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S24576x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S24576x512 : Shape := ⟨2, ![24576, 512]⟩
abbrev S512x512 : Shape := ⟨2, ![512, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S24576x512, .f32⟩
  | .hbm, ⟨1, _⟩ => ⟨S512x512, .bf16⟩
  | .hbm, ⟨2, _⟩ => ⟨S24576x512, .f32⟩
  | .hbm, ⟨3, _⟩ => ⟨S24576x512, .f32⟩
  | .hbm, ⟨4, _⟩ => ⟨S_, .f32⟩
  | .hbm, ⟨5, _⟩ => ⟨S24576x512, .f32⟩
  | .hbm, ⟨6, _⟩ => ⟨S24576x512, .f32⟩
  | .hbm, ⟨7, _⟩ => ⟨S24576x512, .f32⟩
  | .hbm, ⟨8, _⟩ => ⟨S_, .f32⟩
  | .hbm, ⟨9, _⟩ => ⟨S24576x512, .f32⟩
  | .hbm, ⟨10, _⟩ => ⟨S24576x512, .f32⟩
  | .hbm, ⟨11, _⟩ => ⟨S24576x512, .f32⟩
  | .hbm, ⟨12, _⟩ => ⟨S_, .f32⟩
  | .hbm, ⟨13, _⟩ => ⟨S24576x512, .f32⟩
  | .hbm, ⟨14, _⟩ => ⟨S24576x512, .f32⟩
  | .hbm, ⟨15, _⟩ => ⟨S_, .f32⟩
  | .hbm, ⟨16, _⟩ => ⟨S24576x512, .f32⟩
  | .hbm, ⟨17, _⟩ => ⟨S24576x512, .f32⟩
  | .hbm, ⟨18, _⟩ => ⟨S24576x512, .f32⟩
  | .hbm, ⟨19, _⟩ => ⟨S512x512, .f32⟩
  | .hbm, ⟨20, _⟩ => ⟨S24576x512, .f32⟩
  | .hbm, ⟨21, _⟩ => ⟨S24576x512, .f32⟩
  | .hbm, ⟨22, _⟩ => ⟨S24576x512, .f32⟩
  | .hbm, ⟨23, _⟩ => ⟨S_, .f32⟩
  | .hbm, ⟨24, _⟩ => ⟨S24576x512, .f32⟩
  | .hbm, ⟨25, _⟩ => ⟨S24576x512, .f32⟩
  | .hbm, ⟨26, _⟩ => ⟨S_, .f32⟩
  | .hbm, ⟨27, _⟩ => ⟨S24576x512, .f32⟩
  | .hbm, ⟨28, _⟩ => ⟨S24576x512, .f32⟩
  | .hbm, ⟨29, _⟩ => ⟨S24576x512, .f32⟩
  | .hbm, ⟨30, _⟩ => ⟨S24576x512, .bf16⟩
  | _, _ => ⟨S24576x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel10.lean ====
abbrev S24576x3584 : Shape := ⟨2, ![24576, 3584]⟩
abbrev S512x3 : Shape := ⟨2, ![512, 3]⟩
abbrev S3x512 : Shape := ⟨2, ![3, 512]⟩
abbrev S_ : Shape := ⟨0, ![]⟩
abbrev S8x512 : Shape := ⟨2, ![8, 512]⟩
abbrev S24576x512 : Shape := ⟨2, ![24576, 512]⟩
abbrev S512x512 : Shape := ⟨2, ![512, 512]⟩
abbrev S1x512 : Shape := ⟨2, ![1, 512]⟩

abbrev nBuf : Space → Nat
  | .hbm => 7
  | .vmem => 9
  | .smem => 0
  | _ => 0

abbrev bufTy : (tb : Table) → Fin (tcTables nBuf tb) → BufTy
  | .hbm, ⟨0, _⟩ => ⟨S24576x3584, .f32⟩
  | .hbm, ⟨1, _⟩ => ⟨S512x3, .f32⟩
  | .hbm, ⟨2, _⟩ => ⟨S3x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S24576x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S512x512, .bf16⟩
  | .local _ .vmem, ⟨8, _⟩ => ⟨S512x512, .bf16⟩
  | _, _ => ⟨S24576x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S24576x3584 : Shape := ⟨2, ![24576, 3584]⟩
abbrev S512x3 : Shape := ⟨2, ![512, 3]⟩
abbrev S24576x512 : Shape := ⟨2, ![24576, 512]⟩
abbrev S8192x512 : Shape := ⟨2, ![8192, 512]⟩
abbrev S32x256x512 : Shape := ⟨3, ![32, 256, 512]⟩
abbrev S_ : Shape := ⟨0, ![]⟩
abbrev S32x258x512 : Shape := ⟨3, ![32, 258, 512]⟩
abbrev S512x1 : Shape := ⟨2, ![512, 1]⟩
abbrev S512 : Shape := ⟨1, ![512]⟩
abbrev S1x1x512 : Shape := ⟨3, ![1, 1, 512]⟩
abbrev S16384x512 : Shape := ⟨2, ![16384, 512]⟩
abbrev S256x64x512 : Shape := ⟨3, ![256, 64, 512]⟩
abbrev S256x66x512 : Shape := ⟨3, ![256, 66, 512]⟩

abbrev nBuf : Space → Nat
  | .hbm => 61
  | .vmem => 0
  | .smem => 0
  | _ => 0

abbrev bufTy : (tb : Table) → Fin (tcTables nBuf tb) → BufTy
  | .hbm, ⟨0, _⟩ => ⟨S24576x3584, .f32⟩
  | .hbm, ⟨1, _⟩ => ⟨S512x3, .f32⟩
  | .hbm, ⟨2, _⟩ => ⟨S24576x512, .f32⟩
  | .hbm, ⟨3, _⟩ => ⟨S24576x512, .f32⟩
  | .hbm, ⟨4, _⟩ => ⟨S24576x512, .f32⟩
  | .hbm, ⟨5, _⟩ => ⟨S24576x512, .f32⟩
  | .hbm, ⟨6, _⟩ => ⟨S8192x512, .f32⟩
  | .hbm, ⟨7, _⟩ => ⟨S32x256x512, .f32⟩
  | .hbm, ⟨8, _⟩ => ⟨S_, .i32⟩
  | .hbm, ⟨9, _⟩ => ⟨S_, .f32⟩
  | .hbm, ⟨10, _⟩ => ⟨S32x258x512, .f32⟩
  | .hbm, ⟨11, _⟩ => ⟨S32x256x512, .f32⟩
  | .hbm, ⟨12, _⟩ => ⟨S512x1, .f32⟩
  | .hbm, ⟨13, _⟩ => ⟨S512, .f32⟩
  | .hbm, ⟨14, _⟩ => ⟨S1x1x512, .f32⟩
  | .hbm, ⟨15, _⟩ => ⟨S32x256x512, .f32⟩
  | .hbm, ⟨16, _⟩ => ⟨S32x256x512, .f32⟩
  | .hbm, ⟨17, _⟩ => ⟨S32x256x512, .f32⟩
  | .hbm, ⟨18, _⟩ => ⟨S512x1, .f32⟩
  | .hbm, ⟨19, _⟩ => ⟨S512, .f32⟩
  | .hbm, ⟨20, _⟩ => ⟨S1x1x512, .f32⟩
  | .hbm, ⟨21, _⟩ => ⟨S32x256x512, .f32⟩
  | .hbm, ⟨22, _⟩ => ⟨S32x256x512, .f32⟩
  | .hbm, ⟨23, _⟩ => ⟨S32x256x512, .f32⟩
  | .hbm, ⟨24, _⟩ => ⟨S32x256x512, .f32⟩
  | .hbm, ⟨25, _⟩ => ⟨S512x1, .f32⟩
  | .hbm, ⟨26, _⟩ => ⟨S512, .f32⟩
  | .hbm, ⟨27, _⟩ => ⟨S1x1x512, .f32⟩
  | .hbm, ⟨28, _⟩ => ⟨S32x256x512, .f32⟩
  | .hbm, ⟨29, _⟩ => ⟨S32x256x512, .f32⟩
  | .hbm, ⟨30, _⟩ => ⟨S32x256x512, .f32⟩
  | .hbm, ⟨31, _⟩ => ⟨S8192x512, .f32⟩
  | .hbm, ⟨32, _⟩ => ⟨S16384x512, .f32⟩
  | .hbm, ⟨33, _⟩ => ⟨S256x64x512, .f32⟩
  | .hbm, ⟨34, _⟩ => ⟨S_, .i32⟩
  | .hbm, ⟨35, _⟩ => ⟨S_, .f32⟩
  | .hbm, ⟨36, _⟩ => ⟨S256x66x512, .f32⟩
  | .hbm, ⟨37, _⟩ => ⟨S256x64x512, .f32⟩
  | .hbm, ⟨38, _⟩ => ⟨S512x1, .f32⟩
  | .hbm, ⟨39, _⟩ => ⟨S512, .f32⟩
  | .hbm, ⟨40, _⟩ => ⟨S1x1x512, .f32⟩
  | .hbm, ⟨41, _⟩ => ⟨S256x64x512, .f32⟩
  | .hbm, ⟨42, _⟩ => ⟨S256x64x512, .f32⟩
  | .hbm, ⟨43, _⟩ => ⟨S256x64x512, .f32⟩
  | .hbm, ⟨44, _⟩ => ⟨S512x1, .f32⟩
  | .hbm, ⟨45, _⟩ => ⟨S512, .f32⟩
  | .hbm, ⟨46, _⟩ => ⟨S1x1x512, .f32⟩
  | .hbm, ⟨47, _⟩ => ⟨S256x64x512, .f32⟩
  | .hbm, ⟨48, _⟩ => ⟨S256x64x512, .f32⟩
  | .hbm, ⟨49, _⟩ => ⟨S256x64x512, .f32⟩
  | .hbm, ⟨50, _⟩ => ⟨S256x64x512, .f32⟩
  | .hbm, ⟨51, _⟩ => ⟨S512x1, .f32⟩
  | .hbm, ⟨52, _⟩ => ⟨S512, .f32⟩
  | .hbm, ⟨53, _⟩ => ⟨S1x1x512, .f32⟩
  | .hbm, ⟨54, _⟩ => ⟨S256x64x512, .f32⟩
  | .hbm, ⟨55, _⟩ => ⟨S256x64x512, .f32⟩
  | .hbm, ⟨56, _⟩ => ⟨S256x64x512, .f32⟩
  | .hbm, ⟨57, _⟩ => ⟨S16384x512, .f32⟩
  | .hbm, ⟨58, _⟩ => ⟨S24576x512, .f32⟩
  | .hbm, ⟨59, _⟩ => ⟨S24576x512, .f32⟩
  | .hbm, ⟨60, _⟩ => ⟨S24576x512, .bf16⟩
  | _, _ => ⟨S24576x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_0 : Ref sig .tc := ⟨.hbm, 34, rfl⟩
abbrev main_call1_v0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩

abbrev nD : Nat := 1
abbrev τ : Topo := Topo.v7x

variable {F : FTy → Type} [FloatOps F]
-- ==== Kernel11.lean ====
abbrev S24576x3584 : Shape := ⟨2, ![24576, 3584]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S24576x512 : Shape := ⟨2, ![24576, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 10
  | .vmem => 7
  | .smem => 0
  | _ => 0

abbrev bufTy : (tb : Table) → Fin (tcTables nBuf tb) → BufTy
  | .hbm, ⟨0, _⟩ => ⟨S24576x3584, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S128x4, .f32⟩
  | .hbm, ⟨5, _⟩ => ⟨S128x4x128, .f32⟩
  | .hbm, ⟨6, _⟩ => ⟨S128x512, .f32⟩
  | .hbm, ⟨7, _⟩ => ⟨S1x512, .f32⟩
  | .hbm, ⟨8, _⟩ => ⟨S4x128x128, .bf16⟩
  | .hbm, ⟨9, _⟩ => ⟨S24576x512, .bf16⟩
  | .local _ .vmem, ⟨0, _⟩ => ⟨S256x1024, .f32⟩
  | .local _ .vmem, ⟨1, _⟩ => ⟨S256x1024, .f32⟩
  | .local _ .vmem, ⟨2, _⟩ => ⟨S1x512, .f32⟩
  | .local _ .vmem, ⟨3, _⟩ => ⟨S4x128x128, .bf16⟩
  | .local _ .vmem, ⟨4, _⟩ => ⟨S128x512, .f32⟩
  | .local _ .vmem, ⟨5, _⟩ => ⟨S256x512, .bf16⟩
  | .local _ .vmem, ⟨6, _⟩ => ⟨S256x512, .bf16⟩
  | _, _ => ⟨S24576x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S24576x3584 : Shape := ⟨2, ![24576, 3584]⟩
abbrev S512 : Shape := ⟨1, ![512]⟩
abbrev S4x128x128 : Shape := ⟨3, ![4, 128, 128]⟩
abbrev S4x128 : Shape := ⟨2, ![4, 128]⟩
abbrev S24576x1024 : Shape := ⟨2, ![24576, 1024]⟩
abbrev S_ : Shape := ⟨0, ![]⟩
abbrev S24576x512 : Shape := ⟨2, ![24576, 512]⟩
abbrev S24576 : Shape := ⟨1, ![24576]⟩
abbrev S24576x1 : Shape := ⟨2, ![24576, 1]⟩
abbrev S1x512 : Shape := ⟨2, ![1, 512]⟩
abbrev S192x128x4x128 : Shape := ⟨4, ![192, 128, 4, 128]⟩
abbrev S4x192x128x128 : Shape := ⟨4, ![4, 192, 128, 128]⟩
abbrev S128x4 : Shape := ⟨2, ![128, 4]⟩
abbrev S1x128x4x1 : Shape := ⟨4, ![1, 128, 4, 1]⟩

abbrev nBuf : Space → Nat
  | .hbm => 50
  | .vmem => 0
  | .smem => 0
  | _ => 0

abbrev bufTy : (tb : Table) → Fin (tcTables nBuf tb) → BufTy
  | .hbm, ⟨0, _⟩ => ⟨S24576x3584, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S24576x1024, .f32⟩
  | .hbm, ⟨5, _⟩ => ⟨S24576x1024, .f32⟩
  | .hbm, ⟨6, _⟩ => ⟨S24576x1024, .f32⟩
  | .hbm, ⟨7, _⟩ => ⟨S_, .f32⟩
  | .hbm, ⟨8, _⟩ => ⟨S24576x1024, .f32⟩
  | .hbm, ⟨9, _⟩ => ⟨S24576x1024, .f32⟩
  | .hbm, ⟨10, _⟩ => ⟨S24576x1024, .f32⟩
  | .hbm, ⟨11, _⟩ => ⟨S_, .f32⟩
  | .hbm, ⟨12, _⟩ => ⟨S24576x1024, .f32⟩
  | .hbm, ⟨13, _⟩ => ⟨S24576x1024, .f32⟩
  | .hbm, ⟨14, _⟩ => ⟨S24576x1024, .f32⟩
  | .hbm, ⟨15, _⟩ => ⟨S_, .f32⟩
  | .hbm, ⟨16, _⟩ => ⟨S24576x1024, .f32⟩
  | .hbm, ⟨17, _⟩ => ⟨S24576x1024, .f32⟩
  | .hbm, ⟨18, _⟩ => ⟨S_, .f32⟩
  | .hbm, ⟨19, _⟩ => ⟨S24576x1024, .f32⟩
  | .hbm, ⟨20, _⟩ => ⟨S24576x1024, .f32⟩
  | .hbm, ⟨21, _⟩ => ⟨S24576x1024, .f32⟩
  | .hbm, ⟨22, _⟩ => ⟨S24576x512, .f32⟩
  | .hbm, ⟨23, _⟩ => ⟨S24576x512, .f32⟩
  | .hbm, ⟨24, _⟩ => ⟨S24576x512, .f32⟩
  | .hbm, ⟨25, _⟩ => ⟨S_, .f32⟩
  | .hbm, ⟨26, _⟩ => ⟨S24576, .f32⟩
  | .hbm, ⟨27, _⟩ => ⟨S24576x1, .f32⟩
  | .hbm, ⟨28, _⟩ => ⟨S_, .f32⟩
  | .hbm, ⟨29, _⟩ => ⟨S24576x1, .f32⟩
  | .hbm, ⟨30, _⟩ => ⟨S24576x1, .f32⟩
  | .hbm, ⟨31, _⟩ => ⟨S_, .f32⟩
  | .hbm, ⟨32, _⟩ => ⟨S24576x1, .f32⟩
  | .hbm, ⟨33, _⟩ => ⟨S24576x1, .f32⟩
  | .hbm, ⟨34, _⟩ => ⟨S24576x1, .f32⟩
  | .hbm, ⟨35, _⟩ => ⟨S24576x512, .f32⟩
  | .hbm, ⟨36, _⟩ => ⟨S24576x512, .f32⟩
  | .hbm, ⟨37, _⟩ => ⟨S1x512, .f32⟩
  | .hbm, ⟨38, _⟩ => ⟨S24576x512, .f32⟩
  | .hbm, ⟨39, _⟩ => ⟨S24576x512, .f32⟩
  | .hbm, ⟨40, _⟩ => ⟨S192x128x4x128, .f32⟩
  | .hbm, ⟨41, _⟩ => ⟨S4x192x128x128, .f32⟩
  | .hbm, ⟨42, _⟩ => ⟨S192x128x4x128, .f32⟩
  | .hbm, ⟨43, _⟩ => ⟨S128x4, .f32⟩
  | .hbm, ⟨44, _⟩ => ⟨S1x128x4x1, .f32⟩
  | .hbm, ⟨45, _⟩ => ⟨S192x128x4x128, .f32⟩
  | .hbm, ⟨46, _⟩ => ⟨S192x128x4x128, .f32⟩
  | .hbm, ⟨47, _⟩ => ⟨S24576x512, .f32⟩
  | .hbm, ⟨48, _⟩ => ⟨S24576x512, .f32⟩
  | .hbm, ⟨49, _⟩ => ⟨S24576x512, .bf16⟩
  | _, _ => ⟨S24576x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel12.lean ====
abbrev S16x2048 : Shape := ⟨2, ![16, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16x2048 : Shape := ⟨2, ![16, 2048]⟩
abbrev S4x2048x12288 : Shape := ⟨3, ![4, 2048, 12288]⟩
abbrev S4x12288 : Shape := ⟨2, ![4, 12288]⟩
abbrev S_ : Shape := ⟨0, ![]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x12288x16, .f32⟩
  | .hbm, ⟨13, _⟩ => ⟨S4x16x12288, .f32⟩
  | .hbm, ⟨14, _⟩ => ⟨S4x1x12288, .f32⟩
  | .hbm, ⟨15, _⟩ => ⟨S4x16x12288, .f32⟩
  | .hbm, ⟨16, _⟩ => ⟨S4x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel13.lean ====
abbrev S24576x3584 : Shape := ⟨2, ![24576, 3584]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x4 : Shape := ⟨2, ![4, 4]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S512x1024 : Shape := ⟨2, ![512, 1024]⟩
abbrev S2048x4096 : Shape := ⟨2, ![2048, 4096]⟩
abbrev S16384x512 : Shape := ⟨2, ![16384, 512]⟩
abbrev S2048x512 : Shape := ⟨2, ![2048, 512]⟩
abbrev S512x4096 : Shape := ⟨2, ![512, 4096]⟩
abbrev S4096x512 : Shape := ⟨2, ![4096, 512]⟩
abbrev S2048x1024 : Shape := ⟨2, ![2048, 1024]⟩

abbrev nBuf : Space → Nat
  | .hbm => 106
  | .vmem => 8
  | .smem => 0
  | _ => 0

abbrev bufTy : (tb : Table) → Fin (tcTables nBuf tb) → BufTy
  | .hbm, ⟨0, _⟩ => ⟨S24576x3584, .f32⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S_, .i1⟩
  | .hbm, ⟨23, _⟩ => ⟨S2048x2048, .i1⟩
  | .hbm, ⟨24, _⟩ => ⟨S2048x2048, .i1⟩
  | .hbm, ⟨25, _⟩ => ⟨S2048x2048, .i1⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S128, .i32⟩
  | .hbm, ⟨42, _⟩ => ⟨S128x1, .i32⟩
  | .hbm, ⟨43, _⟩ => ⟨S1x128, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i1⟩
  | .hbm, ⟨58, _⟩ => ⟨S_, .i32⟩
  | .hbm, ⟨59, _⟩ => ⟨S128x128, .i32⟩
  | .hbm, ⟨60, _⟩ => ⟨S128x128, .i1⟩
  | .hbm, ⟨61, _⟩ => ⟨S_, .i32⟩
  | .hbm, ⟨62, _⟩ => ⟨S_, .i1⟩
  | .hbm, ⟨63, _⟩ => ⟨S128x128, .i1⟩
  | .hbm, ⟨64, _⟩ => ⟨S128x128, .i1⟩
  | .hbm, ⟨65, _⟩ => ⟨S128x128, .i1⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S_, .f32⟩
  | .hbm, ⟨79, _⟩ => ⟨S128x128, .f32⟩
  | .hbm, ⟨80, _⟩ => ⟨S128x128, .f32⟩
  | .hbm, ⟨81, _⟩ => ⟨S4x4, .i32⟩
  | .hbm, ⟨82, _⟩ => ⟨S4x4, .i32⟩
  | .hbm, ⟨83, _⟩ => ⟨S_, .i32⟩
  | .hbm, ⟨84, _⟩ => ⟨S4x4, .i32⟩
  | .hbm, ⟨85, _⟩ => ⟨S4x4, .i32⟩
  | .hbm, ⟨86, _⟩ => ⟨S4x4, .i1⟩
  | .hbm, ⟨87, _⟩ => ⟨S4x4, .f32⟩
  | .hbm, ⟨88, _⟩ => ⟨S4x1x4x1, .f32⟩
  | .hbm, ⟨89, _⟩ => ⟨S1x128x1x128, .f32⟩
  | .hbm, ⟨90, _⟩ => ⟨S4x128x4x128, .f32⟩
  | .hbm, ⟨91, _⟩ => ⟨S4x128x4x128, .f32⟩
  | .hbm, ⟨92, _⟩ => ⟨S4x128x4x128, .f32⟩
  | .hbm, ⟨93, _⟩ => ⟨S512x512, .f32⟩
  | .hbm, ⟨94, _⟩ => ⟨S4x1x4x1, .f32⟩
  | .hbm, ⟨95, _⟩ => ⟨S1x128x1x128, .f32⟩
  | .hbm, ⟨96, _⟩ => ⟨S4x128x4x128, .f32⟩
  | .hbm, ⟨97, _⟩ => ⟨S4x128x4x128, .f32⟩
  | .hbm, ⟨98, _⟩ => ⟨S4x128x4x128, .f32⟩
  | .hbm, ⟨99, _⟩ => ⟨S512x512, .f32⟩
  | .hbm, ⟨100, _⟩ => ⟨S512x1024, .f32⟩
  | .hbm, ⟨101, _⟩ => ⟨S2048x2048, .f32⟩
  | .hbm, ⟨102, _⟩ => ⟨S2048x4096, .f32⟩
  | .hbm, ⟨103, _⟩ => ⟨S2048x4096, .bf16⟩
  | .hbm, ⟨104, _⟩ => ⟨S512x1024, .bf16⟩
  | .hbm, ⟨105, _⟩ => ⟨S16384x512, .bf16⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S512x4096, .bf16⟩
  | .local _ .vmem, ⟨4, _⟩ => ⟨S512x4096, .bf16⟩
  | .local _ .vmem, ⟨5, _⟩ => ⟨S512x512, .bf16⟩
  | .local _ .vmem, ⟨6, _⟩ => ⟨S512x512, .bf16⟩
  | .local _ .vmem, ⟨7, _⟩ => ⟨S4096x512, .bf16⟩
  | _, _ => ⟨S24576x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v22 : Ref sig .tc := ⟨.hbm, 68, rfl⟩
abbrev main_v23 : Ref sig .tc := ⟨.hbm, 69, rfl⟩
abbrev main_cst_3 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_4 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_c_6 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v38 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S24576x3584 : Shape := ⟨2, ![24576, 3584]⟩
abbrev S16384x512 : Shape := ⟨2, ![16384, 512]⟩
abbrev S8x2048x4x128 : Shape := ⟨4, ![8, 2048, 4, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x4x128x2048 : Shape := ⟨4, ![8, 4, 128, 2048]⟩

abbrev nBuf : Space → Nat
  | .hbm => 93
  | .vmem => 0
  | .smem => 0
  | _ => 0

abbrev bufTy : (tb : Table) → Fin (tcTables nBuf tb) → BufTy
  | .hbm, ⟨0, _⟩ => ⟨S24576x3584, .f32⟩
  | .hbm, ⟨1, _⟩ => ⟨S16384x512, .f32⟩
  | .hbm, ⟨2, _⟩ => ⟨S8x2048x4x128, .f32⟩
  | .hbm, ⟨3, _⟩ => ⟨S2048, .i32⟩
  | .hbm, ⟨4, _⟩ => ⟨S2048x1, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S_, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S128, .i32⟩
  | .hbm, ⟨44, _⟩ => ⟨S128x1, .i32⟩
  | .hbm, ⟨45, _⟩ => ⟨S1x128, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i1⟩
  | .hbm, ⟨60, _⟩ => ⟨S_, .i32⟩
  | .hbm, ⟨61, _⟩ => ⟨S128x128, .i32⟩
  | .hbm, ⟨62, _⟩ => ⟨S128x128, .i1⟩
  | .hbm, ⟨63, _⟩ => ⟨S_, .i32⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S128x128, .i1⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .f32⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S_, .f32⟩
  | .hbm, ⟨77, _⟩ => ⟨S128x128, .f32⟩
  | .hbm, ⟨78, _⟩ => ⟨S128x128, .f32⟩
  | .hbm, ⟨79, _⟩ => ⟨S128x128, .f32⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S8x2048x4x128, .f32⟩
  | .hbm, ⟨84, _⟩ => ⟨S8x2048x4x128, .f32⟩
  | .hbm, ⟨85, _⟩ => ⟨S8x4x128x2048, .f32⟩
  | .hbm, ⟨86, _⟩ => ⟨S8x2048x4x128, .f32⟩
  | .hbm, ⟨87, _⟩ => ⟨S2048x2048, .f32⟩
  | .hbm, ⟨88, _⟩ => ⟨S8x4x128x2048, .f32⟩
  | .hbm, ⟨89, _⟩ => ⟨S8x2048x4x128, .f32⟩
  | .hbm, ⟨90, _⟩ => ⟨S8x2048x4x128, .f32⟩
  | .hbm, ⟨91, _⟩ => ⟨S16384x512, .f32⟩
  | .hbm, ⟨92, _⟩ => ⟨S16384x512, .bf16⟩
  | _, _ => ⟨S24576x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_4 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩

abbrev nD : Nat := 1
abbrev τ : Topo := Topo.v7x

variable {F : FTy → Type} [FloatOps F]
-- ==== Kernel14.lean ====
abbrev S24576x1024 : Shape := ⟨2, ![24576, 1024]⟩
abbrev S53248 : Shape := ⟨1, ![53248]⟩
abbrev S53248x1024 : Shape := ⟨2, ![53248, 1024]⟩
abbrev S256 : Shape := ⟨1, ![256]⟩
abbrev S256x1024 : Shape := ⟨2, ![256, 1024]⟩
abbrev S_ : Shape := ⟨0, ![]⟩
abbrev S1 : Shape := ⟨1, ![1]⟩
abbrev S1x1024 : Shape := ⟨2, ![1, 1024]⟩

abbrev nBuf : Space → Nat
  | .hbm => 3
  | .vmem => 2
  | .smem => 2
  | _ => 0

abbrev bufTy : (tb : Table) → Fin (tcTables nBuf tb) → BufTy
  | .hbm, ⟨0, _⟩ => ⟨S24576x1024, .i32⟩
  | .hbm, ⟨1, _⟩ => ⟨S53248, .i32⟩
  | .hbm, ⟨2, _⟩ => ⟨S53248x1024, .i32⟩
  | .local _ .vmem, ⟨0, _⟩ => ⟨S256x1024, .i32⟩
  | .local _ .vmem, ⟨1, _⟩ => ⟨S256x1024, .i32⟩
  | .local _ .smem, ⟨0, _⟩ => ⟨S256, .i32⟩
  | .local _ .smem, ⟨1, _⟩ => ⟨S256, .i32⟩
  | _, _ => ⟨S24576x1024, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![208], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let v2 : Index := Scalar.indexCast arg5
  ![v2.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_5 : BitVec 32 := 0#32
  ![arg5.toNat, 0]
def k0_off3 (v3 : BitVec 32) : Fin 2 → Nat :=
  let c0_i32_6 : BitVec 32 := 0#32
  ![v3.toNat, 0]

def k0_chk1 (v3 : BitVec 32) : Prop :=
  (∀ a, (k0_off3 v3) a + S1x1024.size a ≤ S24576x1024.size a)
theorem k0_off3_inb : ∀ (v3 : BitVec 32) (k0_hw1 : k0_chk1 v3), ∀ a, (k0_off3 v3) a + S1x1024.size a ≤ S24576x1024.size a := fun v3 k0_hw1 => k0_hw1

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off4 (k0_t2 : Fin k0_t2_loop.trips) : Fin 2 → Nat :=
  let c0_i32_1 : BitVec 32 := 0#32
  let c1_i32_3 : BitVec 32 := 1#32
  let arg5 : BitVec 32 := Scf.iv c0_i32_1 c1_i32_3 k0_t2
  let c0_i32_5 : BitVec 32 := 0#32
  ![arg5.toNat, 0]
def cc0_transform_0 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14.lean ====
abbrev S24576x1024 : Shape := ⟨2, ![24576, 1024]⟩
abbrev S53248 : Shape := ⟨1, ![53248]⟩
abbrev S_ : Shape := ⟨0, ![]⟩
abbrev S53248x1 : Shape := ⟨2, ![53248, 1]⟩
abbrev S53248x1024 : Shape := ⟨2, ![53248, 1024]⟩

abbrev nBuf : Space → Nat
  | .hbm => 11
  | .vmem => 0
  | .smem => 0
  | _ => 0

abbrev bufTy : (tb : Table) → Fin (tcTables nBuf tb) → BufTy
  | .hbm, ⟨0, _⟩ => ⟨S24576x1024, .i32⟩
  | .hbm, ⟨1, _⟩ => ⟨S53248, .i32⟩
  | .hbm, ⟨2, _⟩ => ⟨S_, .i32⟩
  | .hbm, ⟨3, _⟩ => ⟨S53248, .i32⟩
  | .hbm, ⟨4, _⟩ => ⟨S53248, .i1⟩
  | .hbm, ⟨5, _⟩ => ⟨S_, .i32⟩
  | .hbm, ⟨6, _⟩ => ⟨S53248, .i32⟩
  | .hbm, ⟨7, _⟩ => ⟨S53248, .i32⟩
  | .hbm, ⟨8, _⟩ => ⟨S53248, .i32⟩
  | .hbm, ⟨9, _⟩ => ⟨S53248x1, .i32⟩
  | .hbm, ⟨10, _⟩ => ⟨S53248x1024, .i32⟩
  | _, _ => ⟨S24576x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel15.lean ====
abbrev S53248x2048 : Shape := ⟨2, ![53248, 2048]⟩
abbrev S2x24576 : Shape := ⟨2, ![2, 24576]⟩
abbrev S24576x2048 : Shape := ⟨2, ![24576, 2048]⟩
abbrev S96x1x2048 : Shape := ⟨3, ![96, 1, 2048]⟩
abbrev S2x256 : Shape := ⟨2, ![2, 256]⟩
abbrev S256x2048 : Shape := ⟨2, ![256, 2048]⟩
abbrev S1x1x2048 : Shape := ⟨3, ![1, 1, 2048]⟩
abbrev S2x256x2048 : Shape := ⟨3, ![2, 256, 2048]⟩
abbrev S_ : Shape := ⟨0, ![]⟩
abbrev S1x1 : Shape := ⟨2, ![1, 1]⟩
abbrev S1x2048 : Shape := ⟨2, ![1, 2048]⟩
abbrev S1x256x2048 : Shape := ⟨3, ![1, 256, 2048]⟩

abbrev nBuf : Space → Nat
  | .hbm => 5
  | .vmem => 7
  | .smem => 2
  | _ => 0

abbrev bufTy : (tb : Table) → Fin (tcTables nBuf tb) → BufTy
  | .hbm, ⟨0, _⟩ => ⟨S53248x2048, .f32⟩
  | .hbm, ⟨1, _⟩ => ⟨S2x24576, .i32⟩
  | .hbm, ⟨2, _⟩ => ⟨S24576x2048, .f32⟩
  | .hbm, ⟨3, _⟩ => ⟨S96x1x2048, .f32⟩
  | .hbm, ⟨4, _⟩ => ⟨S24576x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S256x2048, .f32⟩
  | .local _ .vmem, ⟨5, _⟩ => ⟨S256x2048, .f32⟩
  | .local _ .vmem, ⟨6, _⟩ => ⟨S2x256x2048, .f32⟩
  | .local _ .smem, ⟨0, _⟩ => ⟨S2x256, .i32⟩
  | .local _ .smem, ⟨1, _⟩ => ⟨S2x256, .i32⟩
  | _, _ => ⟨S53248x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 2 → Nat :=
  let c0_16 : Index := 0#32
  let c0_i32 : BitVec 32 := 0#32
  let c1_i32 : BitVec 32 := 1#32
  let arg8 : BitVec 32 := Scf.iv c0_i32 c1_i32 k0_t1
  let v14 : Index := Scalar.indexCast arg8
  ![0, v14.toNat]
def k0_off2 (k0_t1 : Fin k0_t1_loop.trips) : Fin 3 → Nat :=
  let c0_i32_17 : BitVec 32 := 0#32
  let c0_i32 : BitVec 32 := 0#32
  let c1_i32 : BitVec 32 := 1#32
  let arg8 : BitVec 32 := Scf.iv c0_i32 c1_i32 k0_t1
  let c0_i32_18 : BitVec 32 := 0#32
  ![0, arg8.toNat, 0]
def k0_off3 (v15 : BitVec 32) : Fin 2 → Nat :=
  let c0_i32_19 : BitVec 32 := 0#32
  ![v15.toNat, 0]

def k0_chk1 (v15 : BitVec 32) : Prop :=
  (∀ a, (k0_off3 v15) a + S1x2048.size a ≤ S53248x2048.size a)
theorem k0_off3_inb : ∀ (v15 : BitVec 32) (k0_hw1 : k0_chk1 v15), ∀ a, (k0_off3 v15) a + S1x2048.size a ≤ S53248x2048.size a := fun v15 k0_hw1 => k0_hw1

def k0_off4 (k0_t1 : Fin k0_t1_loop.trips) : Fin 2 → Nat :=
  let c1_20 : Index := 1#32
  let c0_i32 : BitVec 32 := 0#32
  let c1_i32 : BitVec 32 := 1#32
  let arg8 : BitVec 32 := Scf.iv c0_i32 c1_i32 k0_t1
  let v19 : Index := Scalar.indexCast arg8
  ![1, v19.toNat]
def k0_off5 (k0_t1 : Fin k0_t1_loop.trips) : Fin 3 → Nat :=
  let c1_i32_21 : BitVec 32 := 1#32
  let c0_i32 : BitVec 32 := 0#32
  let c1_i32 : BitVec 32 := 1#32
  let arg8 : BitVec 32 := Scf.iv c0_i32 c1_i32 k0_t1
  let c0_i32_22 : BitVec 32 := 0#32
  ![1, arg8.toNat, 0]
def k0_off6 (v20 : BitVec 32) : Fin 2 → Nat :=
  let c0_i32_23 : BitVec 32 := 0#32
  ![v20.toNat, 0]

def k0_chk2 (v20 : BitVec 32) : Prop :=
  (∀ a, (k0_off6 v20) a + S1x2048.size a ≤ S53248x2048.size a)
theorem k0_off6_inb : ∀ (v20 : BitVec 32) (k0_hw2 : k0_chk2 v20), ∀ a, (k0_off6 v20) a + S1x2048.size a ≤ S53248x2048.size a := fun v20 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 3 → Nat :=
  let c0_i32_16 : BitVec 32 := 0#32
  let c0_i32_1 : BitVec 32 := 0#32
  let c1_i32_3 : BitVec 32 := 1#32
  let arg8 : BitVec 32 := Scf.iv c0_i32_1 c1_i32_3 k0_t2
  let c0_i32_17 : BitVec 32 := 0#32
  ![0, arg8.toNat, 0]
def k0_off8 (k0_t2 : Fin k0_t2_loop.trips) : Fin 3 → Nat :=
  let c1_i32_20 : BitVec 32 := 1#32
  let c0_i32_1 : BitVec 32 := 0#32
  let c1_i32_3 : BitVec 32 := 1#32
  let arg8 : BitVec 32 := Scf.iv c0_i32_1 c1_i32_3 k0_t2
  let c0_i32_21 : BitVec 32 := 0#32
  ![1, arg8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c5_i32 : BitVec 32 := 5#32
  let v23 : BitVec 32 := Scalar.addi v22 c5_i32
  let c0_i32_7 : BitVec 32 := 0#32
  let c0_i32_8 : BitVec 32 := 0#32
  let c0_i32_9 : BitVec 32 := 0#32
  ![v23.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15.lean ====
abbrev S53248x2048 : Shape := ⟨2, ![53248, 2048]⟩
abbrev S2x24576 : Shape := ⟨2, ![2, 24576]⟩
abbrev S24576x2048 : Shape := ⟨2, ![24576, 2048]⟩
abbrev S96x1x2048 : Shape := ⟨3, ![96, 1, 2048]⟩
abbrev S16x6x2048 : Shape := ⟨3, ![16, 6, 2048]⟩
abbrev S16x1x2048 : Shape := ⟨3, ![16, 1, 2048]⟩
abbrev S16x2048 : Shape := ⟨2, ![16, 2048]⟩
abbrev S1x2048 : Shape := ⟨2, ![1, 2048]⟩
abbrev S1x1x2048 : Shape := ⟨3, ![1, 1, 2048]⟩
abbrev S1x8192x2048 : Shape := ⟨3, ![1, 8192, 2048]⟩
abbrev S8192x2048 : Shape := ⟨2, ![8192, 2048]⟩
abbrev S8x2048 : Shape := ⟨2, ![8, 2048]⟩
abbrev S8x1x2048 : Shape := ⟨3, ![8, 1, 2048]⟩
abbrev S8x2048x2048 : Shape := ⟨3, ![8, 2048, 2048]⟩
abbrev S16384x2048 : Shape := ⟨2, ![16384, 2048]⟩
abbrev S1x24576 : Shape := ⟨2, ![1, 24576]⟩
abbrev S24576 : Shape := ⟨1, ![24576]⟩
abbrev S_ : Shape := ⟨0, ![]⟩
abbrev S24576x1 : Shape := ⟨2, ![24576, 1]⟩

abbrev nBuf : Space → Nat
  | .hbm => 41
  | .vmem => 0
  | .smem => 0
  | _ => 0

abbrev bufTy : (tb : Table) → Fin (tcTables nBuf tb) → BufTy
  | .hbm, ⟨0, _⟩ => ⟨S53248x2048, .f32⟩
  | .hbm, ⟨1, _⟩ => ⟨S2x24576, .i32⟩
  | .hbm, ⟨2, _⟩ => ⟨S24576x2048, .f32⟩
  | .hbm, ⟨3, _⟩ => ⟨S96x1x2048, .f32⟩
  | .hbm, ⟨4, _⟩ => ⟨S16x6x2048, .f32⟩
  | .hbm, ⟨5, _⟩ => ⟨S16x1x2048, .f32⟩
  | .hbm, ⟨6, _⟩ => ⟨S16x2048, .f32⟩
  | .hbm, ⟨7, _⟩ => ⟨S1x2048, .f32⟩
  | .hbm, ⟨8, _⟩ => ⟨S1x1x2048, .f32⟩
  | .hbm, ⟨9, _⟩ => ⟨S1x8192x2048, .f32⟩
  | .hbm, ⟨10, _⟩ => ⟨S8192x2048, .f32⟩
  | .hbm, ⟨11, _⟩ => ⟨S8x2048, .f32⟩
  | .hbm, ⟨12, _⟩ => ⟨S8x1x2048, .f32⟩
  | .hbm, ⟨13, _⟩ => ⟨S8x2048x2048, .f32⟩
  | .hbm, ⟨14, _⟩ => ⟨S16384x2048, .f32⟩
  | .hbm, ⟨15, _⟩ => ⟨S24576x2048, .f32⟩
  | .hbm, ⟨16, _⟩ => ⟨S1x24576, .i32⟩
  | .hbm, ⟨17, _⟩ => ⟨S24576, .i32⟩
  | .hbm, ⟨18, _⟩ => ⟨S_, .i32⟩
  | .hbm, ⟨19, _⟩ => ⟨S24576, .i32⟩
  | .hbm, ⟨20, _⟩ => ⟨S24576, .i1⟩
  | .hbm, ⟨21, _⟩ => ⟨S_, .i32⟩
  | .hbm, ⟨22, _⟩ => ⟨S24576, .i32⟩
  | .hbm, ⟨23, _⟩ => ⟨S24576, .i32⟩
  | .hbm, ⟨24, _⟩ => ⟨S24576, .i32⟩
  | .hbm, ⟨25, _⟩ => ⟨S24576x1, .i32⟩
  | .hbm, ⟨26, _⟩ => ⟨S24576x2048, .f32⟩
  | .hbm, ⟨27, _⟩ => ⟨S1x24576, .i32⟩
  | .hbm, ⟨28, _⟩ => ⟨S24576, .i32⟩
  | .hbm, ⟨29, _⟩ => ⟨S_, .i32⟩
  | .hbm, ⟨30, _⟩ => ⟨S24576, .i32⟩
  | .hbm, ⟨31, _⟩ => ⟨S24576, .i1⟩
  | .hbm, ⟨32, _⟩ => ⟨S_, .i32⟩
  | .hbm, ⟨33, _⟩ => ⟨S24576, .i32⟩
  | .hbm, ⟨34, _⟩ => ⟨S24576, .i32⟩
  | .hbm, ⟨35, _⟩ => ⟨S24576, .i32⟩
  | .hbm, ⟨36, _⟩ => ⟨S24576x1, .i32⟩
  | .hbm, ⟨37, _⟩ => ⟨S24576x2048, .f32⟩
  | .hbm, ⟨38, _⟩ => ⟨S24576x2048, .f32⟩
  | .hbm, ⟨39, _⟩ => ⟨S24576x2048, .f32⟩
  | .hbm, ⟨40, _⟩ => ⟨S24576x2048, .f32⟩
  | _, _ => ⟨S53248x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Swiglu.lean ====
/- The arithmetic that both feed-forward calls share, over the extended reals: one hidden feature of a gated
   feed-forward layer, and the whole layer's sum over the hidden width taken block after block. -/
module

public import Idealize.ShloMosaic.Lib.Pointwise
public import Idealize.ShloMosaic.Lib.Pipeline.ValueKit

@[expose] public section

noncomputable section

namespace Cert.Swiglu

open Idealize.ShloMosaic

/-- One hidden feature of a token with features `h`: `a · logistic a · b`, where `a` is the product of the token with the
    feature's column `u` of the first matrix and `b` the one with its column `v` of the gate matrix. -/
def hidden {n : ℕ} (h u v : Fin n → EReal) : EReal :=
  (∑ k, h k * u k) * Ideal.logistic (∑ k, h k * u k) * ∑ k, h k * v k

/-- The part that the first `n` hidden features give: the sum of the summands `g` below `n`. -/
def upTo (g : ℕ → EReal) (n : ℕ) : EReal := ∑ k ∈ Finset.range n, g k

/-- The first block of hidden features alone. -/
theorem upTo_first (g : ℕ → EReal) (b : ℕ) : upTo g (b * (0 + 1)) = ∑ k : Fin b, g (b * 0 + k) := by
  unfold upTo
  rw [Nat.zero_add, Nat.mul_one, Finset.sum_range]
  exact Finset.sum_congr rfl fun k _ => by rw [Nat.mul_zero, Nat.zero_add]

/-- One more block of hidden features is added to the sum of the blocks before it. -/
theorem upTo_next (g : ℕ → EReal) (b f : ℕ) :
    upTo g (b * (f + 1)) + ∑ k : Fin b, g (b * (f + 1) + k) = upTo g (b * (f + 1 + 1)) := by
  unfold upTo
  rw [show b * (f + 1 + 1) = b * (f + 1) + b by ring, Finset.sum_range_add]
  congr 1
  exact (Finset.sum_range fun k => g (b * (f + 1) + k)).symm

/-- All the blocks together are the sum over the whole hidden width. -/
theorem upTo_all {n : ℕ} (g : Fin n → EReal) : upTo (fun k => if h : k < n then g ⟨k, h⟩ else 0) n = ∑ k, g k := by
  unfold upTo
  rw [Finset.sum_range]
  exact Finset.sum_congr rfl fun k _ => dif_pos k.isLt

end Cert.Swiglu

end
-- ==== Proof.MoeSetup.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Tactic
public import Idealize.ShloMosaic.Lib.WordCmp

/-! The experts' feed-forward call: the set-up of its run. What the host leaves in every buffer, the two tables the
    call is handed, the blocks its windows stage, and the schedule of the grid of 104 tiles by 14 blocks of the
    hidden width. -/

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The output tile is written back at the last block of the hidden width, whatever the tables hold. -/
theorem flush0_5 (a : (pcfg0 (F := F)).Adm) : ∀ t : Fin (cfg0 a).N, ((cfg0 a).win 5).flush t = true ↔ t.val % 14 = 13 :=
  (fun t => Pipeline.Window.flushOf_reads cc0_transform_5 reads0_5 hreads0_5 0 (by decide) (by decide) (Pipeline.Window.sep_of_coord cc0_transform_5 0 0 (fun _ => rfl) (by decide)) (P := 14) (m := 13) (by decide) rfl t : ∀ t : Fin grid0.N, Pipeline.Window.flushOf grid0 true cc0_transform_5 t = true ↔ t.val % 14 = 13)

/-- The kernel body at point `t`, on the buffers the pipeline hands it. -/
abbrev bodyAt0 (a : (pcfg0 (F := F)).Adm) (t : Fin (cfg0 a).N) : Prog (TpuEff nD τ sig (Elt F) Λ₀ .tc) PUnit :=
  cc0_moe_ffn (grid0.coords t) (Memref.whole main_arg5) (Memref.isWhole_whole _) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` . -/
abbrev V (c : Dev nD) (b : Ref sig .tc) : Buf (Elt F) ((c : Thread nD τ).loc b) := StableHlo.after hostOps0 (fun b => m (c, b)) b

/-- The host operations before the launch make no new arrays beside their results. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither of the two the host writes is found as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at the tables' contents. -/
abbrev cfgM (hO : Ok m) : Pipeline.Cfg sig Λ₀ := cfg0 (adm m hO)

/-- Each table as the body is handed it: its whole buffer as a memref, and that memref's wholeness. -/
abbrev tbM0_0 : Memref sig .tc .smem S104 .i32 := Memref.whole main_arg5
/-- The experts' table is a whole buffer. -/
abbrev htbM0_0 : tbM0_0.IsWhole := Memref.isWhole_whole _
/-- The table with the number of valid tiles, as the body is handed it. -/
abbrev tbM0_1 : Memref sig .tc .smem S1 .i32 := Memref.whole main_arg6
/-- That table is a whole buffer. -/
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- A table held at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_of_ne m c main_arg0 (by decide) (by decide)))),
      ((h c).1 1).trans (((dats 0 c).arrAt_in 1 rfl _).trans ((hA c 1).trans (V_of_ne m c main_arg1 (by decide) (by decide)))),
      ((h c).1 2).trans (((dats 0 c).arrAt_in 2 rfl _).trans ((hA c 2).trans (V_of_ne m c main_arg2 (by decide) (by decide)))),
      ((h c).1 3).trans (((dats 0 c).arrAt_in 3 rfl _).trans ((hA c 3).trans (V_of_ne m c main_arg3 (by decide) (by decide)))),
      ((h c).2 main_arg4 (by decide : main_arg4 ∈ Pipeline.restRefs sig spec0)).trans (V_of_ne m c main_arg4 (by decide) (by decide)),
      ((h c).2 main_arg5 (by decide : main_arg5 ∈ Pipeline.restRefs sig spec0)).trans (V_of_ne m c main_arg5 (by decide) (by decide)),
      ((h c).2 main_arg6 (by decide : main_arg6 ∈ Pipeline.restRefs sig spec0)).trans (V_of_ne m c main_arg6 (by decide) (by decide))⟩) h

/-! ## The body's branch conditions -/

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_1 : ∀ t : Fin grid0.N, cond0_1 (grid0.coords t) ↔ t.val % 14 = 0 :=
  (fun t => by
    have ht : t.val < 1456 := Nat.lt_of_lt_of_eq t.isLt N_0
    have e0 : (grid0.coords t 0).val = t.val / 14 % 104 := Pipeline.Grid.coords_val t 0 (by decide) rfl
    have e1 : (grid0.coords t 1).val = t.val / 1 % 14 := Pipeline.Grid.coords_val t 1 (by decide) rfl
    simp only [cond0_1, e0, e1]
    word_cmp
   : ∀ t : Fin grid0.N, cond0_1 (grid0.coords t) ↔ t.val % 14 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_2 : ∀ t : Fin grid0.N, cond0_2 (grid0.coords t) ↔ t.val % 14 = 0 :=
  (fun t => by
    have ht : t.val < 1456 := Nat.lt_of_lt_of_eq t.isLt N_0
    have e0 : (grid0.coords t 0).val = t.val / 14 % 104 := Pipeline.Grid.coords_val t 0 (by decide) rfl
    have e1 : (grid0.coords t 1).val = t.val / 1 % 14 := Pipeline.Grid.coords_val t 1 (by decide) rfl
    simp only [cond0_2, e0, e1]
    word_cmp
   : ∀ t : Fin grid0.N, cond0_2 (grid0.coords t) ↔ t.val % 14 = 0)

/-- The condition of the body's `scf.if` 3 (`k0_h4`), from the grid coordinates (the skeleton's scalar
    chain substituted). -/
abbrev cond0_3 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_3 : ∀ t : Fin grid0.N, cond0_3 (grid0.coords t) ↔ 1 ≤ t.val % 14 :=
  (by decide +kernel : ∀ t : Fin grid0.N, cond0_3 (grid0.coords t) ↔ 1 ≤ t.val % 14)

/-- The condition of the body's `scf.if` 4 (`k0_h5`), from the grid coordinates (the skeleton's scalar
    chain substituted). -/
abbrev cond0_4 (i : grid0.Coords) : Prop := k0_cond5 i = 1#1
/-- It holds at the points ≡ 13 (mod 14) — by arithmetic of the point. -/
theorem hcond0_4 : ∀ t : Fin grid0.N, cond0_4 (grid0.coords t) ↔ t.val % 14 = 13 :=
  (fun t => by
    have ht : t.val < 1456 := Nat.lt_of_lt_of_eq t.isLt N_0
    have e0 : (grid0.coords t 0).val = t.val / 14 % 104 := Pipeline.Grid.coords_val t 0 (by decide) rfl
    have e1 : (grid0.coords t 1).val = t.val / 1 % 14 := Pipeline.Grid.coords_val t 1 (by decide) rfl
    simp only [cond0_4, k0_cond5, e0, e1]
    word_cmp
   : ∀ t : Fin grid0.N, cond0_4 (grid0.coords t) ↔ t.val % 14 = 13)

/-! ## Which windows the body leaves alone -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Each window's current staging memref at point `t`, spelled as the pipeline passes it (`bodyAt0`), and its wholeness. -/
abbrev ms0_0 (hO : Ok m) (t : Fin (cfgM m hO).N) : Memref sig .tc .vmem S512x1024 .i32 := spec0_0.stage ((cfgM m hO).slots t 0)
/-- The staging buffer of the packed rows is a whole buffer. -/
abbrev hs0_0 (hO : Ok m) (t : Fin (cfgM m hO).N) : (ms0_0 m hO t).IsWhole := hstage0_0 (((cfgM m hO).slots t 0).cast nbuf0_0)
/-- The staging buffer of the first weight at a point. -/
abbrev ms0_1 (hO : Ok m) (t : Fin (cfgM m hO).N) : Memref sig .tc .vmem S1x2048x512 .bf16 := spec0_1.stage ((cfgM m hO).slots t 1)
/-- The staging buffer of the first weight is a whole buffer. -/
abbrev hs0_1 (hO : Ok m) (t : Fin (cfgM m hO).N) : (ms0_1 m hO t).IsWhole := hstage0_1 (((cfgM m hO).slots t 1).cast nbuf0_1)
/-- The staging buffer of the second weight at a point. -/
abbrev ms0_2 (hO : Ok m) (t : Fin (cfgM m hO).N) : Memref sig .tc .vmem S1x2048x512 .bf16 := spec0_2.stage ((cfgM m hO).slots t 2)
/-- The staging buffer of the second weight is a whole buffer. -/
abbrev hs0_2 (hO : Ok m) (t : Fin (cfgM m hO).N) : (ms0_2 m hO t).IsWhole := hstage0_2 (((cfgM m hO).slots t 2).cast nbuf0_2)
/-- The staging buffer of the third weight at a point. -/
abbrev ms0_3 (hO : Ok m) (t : Fin (cfgM m hO).N) : Memref sig .tc .vmem S1x512x2048 .bf16 := spec0_3.stage ((cfgM m hO).slots t 3)
/-- The staging buffer of the third weight is a whole buffer. -/
abbrev hs0_3 (hO : Ok m) (t : Fin (cfgM m hO).N) : (ms0_3 m hO t).IsWhole := hstage0_3 (((cfgM m hO).slots t 3).cast nbuf0_3)
/-- The staging buffer of the rows' weights at a point. -/
abbrev ms0_4 (hO : Ok m) (t : Fin (cfgM m hO).N) : Memref sig .tc .vmem S512x128 .f32 := spec0_4.stage ((cfgM m hO).slots t 4)
/-- The staging buffer of the rows' weights is a whole buffer. -/
abbrev hs0_4 (hO : Ok m) (t : Fin (cfgM m hO).N) : (ms0_4 m hO t).IsWhole := hstage0_4 (((cfgM m hO).slots t 4).cast nbuf0_4)
/-- The staging buffer of the result at a point. -/
abbrev ms0_5 (hO : Ok m) (t : Fin (cfgM m hO).N) : Memref sig .tc .vmem S512x2048 .f32 := spec0_5.stage ((cfgM m hO).slots t 5)
/-- The staging buffer of the result is a whole buffer. -/
abbrev hs0_5 (hO : Ok m) (t : Fin (cfgM m hO).N) : (ms0_5 m hO t).IsWhole := hstage0_5 (((cfgM m hO).slots t 5).cast nbuf0_5)

/-- The scratch operands: whole scoped buffers of the kernel's own, passed beside the windows. -/
abbrev scM0_0 : Memref sig .tc .vmem S512x2048 .bf16 := Memref.whole cc0_scratch0
/-- The buffer of the running sum. -/
abbrev scM0_1 : Memref sig .tc .vmem S512x2048 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The number of valid tiles as the body loads it from the table held at `xt`. -/
abbrev validRead (c : Dev nD) (xt : TbBuf0 (F := F) c tbM0_1) : BitVec 32 :=
  tbM0_1.view.readAt (Elt F) (Rect.unit (s := S1) ![0] S1.size inb_S1_S1_0).toLoadRect xt (Shape.Idx.first (numel1_S1.symm ▸ Nat.one_pos))

/-- The number of valid tiles, a word of the second table. -/
def validWord : BitVec 32 := (tbl m).atD 1 ![0]

/-- What the body loads from the second table is the number of valid tiles. -/
theorem validRead_tbl (c : Dev nD) : validRead c (tbl m 1) = validWord m := by
  unfold validWord
  rfl

/-- A one-bit condition, widened to a word and compared with zero, is the condition. -/
theorem bit_ne_zero (b : Bool) : (IntOp.cmpi CmpIPredicate.ne (BitVec.setWidth 32 (BitVec.ofBool b)) 0#32 = 1#1) ↔ b = true := by
  cases b <;> decide

/-- The conjunction of two conditions, as bits. -/
theorem bit_and (a b : Bool) : IntOp.andi (BitVec.ofBool a) (BitVec.ofBool b) = BitVec.ofBool (a && b) := by
  cases a <;> cases b <;> decide

/-- A tile is valid when its number is below the number of valid tiles (as signed words). -/
theorem cond1_iff (i : grid0.Coords) (v : BitVec 32) :
    k0_cond1 i v = 1#1 ↔ (BitVec.ofNat 32 (i 0).val).slt v = true :=
  bit_ne_zero _

/-- An invalid tile is zeroed at the last block of the hidden width. -/
theorem cond6_iff (i : grid0.Coords) (v : BitVec 32) :
    k0_cond6 i v = 1#1 ↔ ¬ k0_cond1 i v = 1#1 ∧ k0_cond5 i = 1#1 := by
  rw [cond1_iff]
  have h5 : k0_cond5 i = 1#1 ↔ (BitVec.ofNat 32 (i 1).val == 13#32) = true := bit_ne_zero _
  have h6 : k0_cond6 i v = 1#1 ↔ (BitVec.sle v (BitVec.ofNat 32 (i 0).val) && (BitVec.ofNat 32 (i 1).val == 13#32)) = true := by
    rw [← bit_ne_zero, ← bit_and]; rfl
  rw [h5, h6, Bool.and_eq_true]
  rw [BitVec.sle_eq_not_slt]
  simp only [Bool.not_eq_true', Bool.not_eq_true]
/-- The printed table of the output tile: the body stores nothing into it where neither store's condition holds. -/
theorem idle5_tbl (pf : pre0.Contents (Elt F)) (i : grid0.Coords) : idle0 pf 5 i
    = (!(k0_cond1 i (pf.atD 1 ![0]) == 1#1 && k0_cond5 i == 1#1) && !(k0_cond6 i (pf.atD 1 ![0]) == 1#1)) := rfl

/-- Over the tables at any contents: the output tile is left alone before the last block of the hidden width, -/
theorem idle5_of_ne (pf : pre0.Contents (Elt F)) (t : Fin grid0.N) (h : t.val % 14 ≠ 13) : idle0 pf 5 (grid0.coords t) = true := by
  have h5 : ¬k0_cond5 (grid0.coords t) = 1#1 := fun h' => h ((hcond0_4 t).mp h')
  have h6 : ¬k0_cond6 (grid0.coords t) (pf.atD 1 ![0]) = 1#1 := fun h' => h5 ((cond6_iff _ _).mp h').2
  rw [idle5_tbl, beq_eq_false_iff_ne.mpr h5, beq_eq_false_iff_ne.mpr h6, Bool.and_false]; rfl

/-- and stored at the last. -/
theorem idle5_of_eq (pf : pre0.Contents (Elt F)) (t : Fin grid0.N) (h : t.val % 14 = 13) : idle0 pf 5 (grid0.coords t) = false := by
  have h5 : k0_cond5 (grid0.coords t) = 1#1 := (hcond0_4 t).mpr h
  rw [idle5_tbl]
  by_cases hv : k0_cond1 (grid0.coords t) (pf.atD 1 ![0]) = 1#1
  · rw [beq_iff_eq.mpr hv, beq_iff_eq.mpr h5]; rfl
  · rw [beq_iff_eq.mpr ((cond6_iff _ _).mpr ⟨hv, h5⟩), Bool.not_true, Bool.and_false]

/-- The output tile is left alone before the last block of the hidden width, -/
theorem idleAt0_5 (hO : Ok m) : ∀ t : Fin (cfgM m hO).N, t.val % 14 ≠ 13 → (cfgM m hO).idle 5 (grid0.coords t) = true :=
  (idle5_of_ne (tbl m) : ∀ t : Fin grid0.N, t.val % 14 ≠ 13 → idle0 (tbl m) 5 (grid0.coords t) = true)

/-- and stored at the last, at the tables' contents. -/
theorem liveAt0_5 (hO : Ok m) : ∀ t : Fin (cfgM m hO).N, t.val % 14 = 13 → (cfgM m hO).idle 5 (grid0.coords t) = false :=
  (idle5_of_eq (tbl m) : ∀ t : Fin grid0.N, t.val % 14 = 13 → idle0 (tbl m) 5 (grid0.coords t) = false)

/-- The output tile is not written back before the last block of the hidden width. -/
theorem noFlush0_5 (hO : Ok m) (t : Fin (cfgM m hO).N) (h : t.val % 14 ≠ 13) : ((cfgM m hO).win 5).flush t = false := by
  rw [Bool.eq_false_iff]; exact fun hf => h ((flush0_5 (adm m hO) t).mp hf)

end Cert.KernelIdeal.Moe

end
-- ==== Proof.MoeBody.lean ====
module

public import proofs.«01_k».proof.Proof.MoeSetup
public import Idealize.ShloMosaic.Lib.VecWindow
public import Idealize.ShloMosaic.Lib.Tactic.Stretches

/-! The experts' feed-forward call: one run of its body, case by case (a valid tile at the first, an inner and the
    last block of the hidden width; an invalid tile before and at the last). -/

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 512 rows of a tile with their packed words opened: feature `k < 1024` from the low half of word `k`, feature
    `1024 + k` from its high half. -/
def unpacked (x : Vec F S512x1024 .i32) : Vec F S512x2048 .bf16 :=
  View.canon [⟨Rect.unit (s := S512x2048) ![0, 1024] S512x1024.size inb_S512x2048_S512x1024_0_1024, k0_pay2 x⟩,
    ⟨Rect.unit (s := S512x2048) ![0, 0] S512x1024.size inb_S512x2048_S512x1024_0_0, k0_pay1 x⟩]

/-- A load of a whole buffer held at `X` reads `X`. -/
theorem load_whole {sp : Space} {S : Shape} {e : EltTy} {M : Memref sig .tc sp S e} (h : M.IsWhole) (X : S.Idx → Elt F e)
    {off : Fin S.rank → ℕ} (inb : ∀ a, off a + S.size a ≤ S.size a) :
    M.view.readAt (Elt F) (Rect.unit off S.size inb).toLoadRect (h.unread X) = X :=
  (View.readAt_full M.view _ inb).trans (h.read_unread X)

/-- Every feature of a row lies in one of the two halves stored. -/
theorem halves_cover (x : Vec F S512x1024 .i32) (y : S512x2048.Idx) :
    ∃ p ∈ ([⟨Rect.unit (s := S512x2048) ![0, 1024] S512x1024.size inb_S512x2048_S512x1024_0_1024, k0_pay2 x⟩,
      ⟨Rect.unit (s := S512x2048) ![0, 0] S512x1024.size inb_S512x2048_S512x1024_0_0, k0_pay1 x⟩] : List (View.Piece (Elt F) S512x2048 .bf16)), y ∈ p.1.set :=
  View.cover_of_tiled (s := S512x2048) _ S512x1024.size (by rfl) y

/-- The row buffer after its two halves are stored holds the unpacked rows. -/
theorem read_unpacked (v : View sig .tc .vmem S512x2048 .bf16) (f : v.ty.Contents (Elt F)) (x : Vec F S512x1024 .i32) :
    v.read (Elt F) (v.writes (Elt F) f [⟨Rect.unit (s := S512x2048) ![0, 1024] S512x1024.size inb_S512x2048_S512x1024_0_1024, k0_pay2 x⟩,
        ⟨Rect.unit (s := S512x2048) ![0, 0] S512x1024.size inb_S512x2048_S512x1024_0_0, k0_pay1 x⟩]) = unpacked x :=
  View.read_writes_eq_canon _ _ _ (halves_cover x)

/-- The whole row buffer, loaded after its two halves are stored, reads the unpacked rows. -/
theorem load_unpacked (v : View sig .tc .vmem S512x2048 .bf16) (x : Vec F S512x1024 .i32) :
    v.readCov [⟨Rect.unit (s := S512x2048) ![0, 1024] S512x1024.size inb_S512x2048_S512x1024_0_1024, k0_pay2 x⟩,
        ⟨Rect.unit (s := S512x2048) ![0, 0] S512x1024.size inb_S512x2048_S512x1024_0_0, k0_pay1 x⟩]
      (Rect.unit (s := S512x2048) ![0, 0] S512x2048.size inb_S512x2048_S512x2048_0_0).toLoadRect = unpacked x := by
  rw [View.readCov_eq_canon_ld _ _ _ (halves_cover x)]
  exact funext fun j => congrArg (unpacked x) (Rect.emb_unit_full (s := S512x2048) _ j)

set_option maxHeartbeats 1000000 in
/-- A valid tile at the first block: the rows are unpacked, the running sum is the first block's part. -/
theorem run_first (c : Dev nD) (i : grid0.Coords) (arg4 : Memref sig .tc .vmem S512x1024 .i32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
    (x0 : Vec F S512x1024 .i32) (x1 : Vec F S1x2048x512 .bf16) (x2 : Vec F S1x2048x512 .bf16) (x3 : Vec F S1x512x2048 .bf16) (x4 : Vec F S512x128 .f32) (xt0 : TbBuf0 (F := F) c tbM0_0) (xt1 : TbBuf0 (F := F) c tbM0_1) (o : Vec F S512x2048 .f32)
    (hc0 : k0_cond1 i (validRead c xt1) = 1#1) (hc6 : ¬k0_cond6 i (validRead c xt1) = 1#1) (hc1 : cond0_1 i) (hc3 : ¬cond0_3 i) (hc4 : ¬cond0_4 i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ (∃ d, owns (c : Thread nD τ) arg10 fullShare d) ∗ (∃ d, owns (c : Thread nD τ) arg11 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare (unpacked x0) ∗ owns (c : Thread nD τ) arg11 fullShare (k0_pay4 (unpacked x0) x1 x2 x3) ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9 arg10 harg10 arg11 harg11) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5
  sl_exec (disch := first | sl_exact hc0 | sl_exact hc6 | sl_exact hc1 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro
    sl_open_run
    rw [load_whole harg4]
    exact read_unpacked _ _ _
  isplitl [H7]
  · iexists _; isplitr
    swap; · iexact H7
    ipureintro
    sl_open_run
    refine (View.read_writes_full _ _ _ _ _).trans ?_
    rw [load_whole harg4, load_unpacked, load_whole harg5, load_whole harg6, load_whole harg7]
  isplitl [HT0]; · iexact HT0
  iexact HT1

set_option maxHeartbeats 1000000 in
/-- A valid tile at an inner block: the running sum takes the block's part. -/
theorem run_inner (c : Dev nD) (i : grid0.Coords) (arg4 : Memref sig .tc .vmem S512x1024 .i32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
    (x0 : Vec F S512x1024 .i32) (x1 : Vec F S1x2048x512 .bf16) (x2 : Vec F S1x2048x512 .bf16) (x3 : Vec F S1x512x2048 .bf16) (x4 : Vec F S512x128 .f32) (xt0 : TbBuf0 (F := F) c tbM0_0) (xt1 : TbBuf0 (F := F) c tbM0_1) (h : Vec F S512x2048 .bf16) (acc : Vec F S512x2048 .f32) (o : Vec F S512x2048 .f32)
    (hc0 : k0_cond1 i (validRead c xt1) = 1#1) (hc6 : ¬k0_cond6 i (validRead c xt1) = 1#1) (hc1 : ¬cond0_1 i) (hc3 : cond0_3 i) (hc4 : ¬cond0_4 i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare h ∗ owns (c : Thread nD τ) arg11 fullShare acc ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare h ∗ owns (c : Thread nD τ) arg11 fullShare (k0_pay5 h x1 x2 x3 acc) ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9 arg10 harg10 arg11 harg11) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc6 | sl_exact hc1 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    sl_open_run
    refine (View.read_writes_full _ _ _ _ _).trans ?_
    rw [load_whole harg10, load_whole harg5, load_whole harg6, load_whole harg7, load_whole harg11]
  isplitl [HT0]; · iexact HT0
  iexact HT1

set_option maxHeartbeats 1000000 in
/-- A valid tile at the last block: the running sum takes the block's part, and the tile is the sum times its rows' weights. -/
theorem run_last (c : Dev nD) (i : grid0.Coords) (arg4 : Memref sig .tc .vmem S512x1024 .i32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
    (x0 : Vec F S512x1024 .i32) (x1 : Vec F S1x2048x512 .bf16) (x2 : Vec F S1x2048x512 .bf16) (x3 : Vec F S1x512x2048 .bf16) (x4 : Vec F S512x128 .f32) (xt0 : TbBuf0 (F := F) c tbM0_0) (xt1 : TbBuf0 (F := F) c tbM0_1) (h : Vec F S512x2048 .bf16) (acc : Vec F S512x2048 .f32)
    (hc0 : k0_cond1 i (validRead c xt1) = 1#1) (hc6 : ¬k0_cond6 i (validRead c xt1) = 1#1) (hc1 : ¬cond0_1 i) (hc3 : cond0_3 i) (hc4 : cond0_4 i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare h ∗ owns (c : Thread nD τ) arg11 fullShare acc ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay6 (k0_pay5 h x1 x2 x3 acc) x4) ∗ owns (c : Thread nD τ) arg10 fullShare h ∗ owns (c : Thread nD τ) arg11 fullShare (k0_pay5 h x1 x2 x3 acc) ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9 arg10 harg10 arg11 harg11) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg10.eq_unread hf6; obtain rfl := harg11.eq_unread hf7
  sl_exec (disch := first | sl_exact hc0 | sl_exact hc6 | sl_exact hc1 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    sl_open_run
    refine (View.read_writes_full _ _ _ _ _).trans ?_
    rw [View.readCov_full, load_whole harg10, load_whole harg5, load_whole harg6, load_whole harg7, load_whole harg11, load_whole harg8]
  isplitl [H6]
  · iexists _; isplitr; · ipureintro; exact harg10.read_unread _
    iexact H6
  isplitl [H7]
  · iexists _; isplitr
    swap; · iexact H7
    ipureintro
    sl_open_run
    refine (View.read_writes_full _ _ _ _ _).trans ?_
    rw [load_whole harg10, load_whole harg5, load_whole harg6, load_whole harg7, load_whole harg11]
  isplitl [HT0]; · iexact HT0
  iexact HT1

set_option maxHeartbeats 1000000 in
/-- An invalid tile before the last block: nothing is touched. -/
theorem run_skip (c : Dev nD) (i : grid0.Coords) (arg4 : Memref sig .tc .vmem S512x1024 .i32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
    (x0 : Vec F S512x1024 .i32) (x1 : Vec F S1x2048x512 .bf16) (x2 : Vec F S1x2048x512 .bf16) (x3 : Vec F S1x512x2048 .bf16) (x4 : Vec F S512x128 .f32) (xt0 : TbBuf0 (F := F) c tbM0_0) (xt1 : TbBuf0 (F := F) c tbM0_1) (d0 : Vec F S512x2048 .bf16) (d1 : Vec F S512x2048 .f32) (o : Vec F S512x2048 .f32)
    (hc0 : ¬k0_cond1 i (validRead c xt1) = 1#1) (hc6 : ¬k0_cond6 i (validRead c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare d0 ∗ owns (c : Thread nD τ) arg11 fullShare d1 ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o ∗ owns (c : Thread nD τ) arg10 fullShare d0 ∗ owns (c : Thread nD τ) arg11 fullShare d1 ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9 arg10 harg10 arg11 harg11) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc6)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [HT0]; · iexact HT0
  iexact HT1

set_option maxHeartbeats 1000000 in
/-- An invalid tile at the last block: the tile is zero. -/
theorem run_zero (c : Dev nD) (i : grid0.Coords) (arg4 : Memref sig .tc .vmem S512x1024 .i32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole)
    (x0 : Vec F S512x1024 .i32) (x1 : Vec F S1x2048x512 .bf16) (x2 : Vec F S1x2048x512 .bf16) (x3 : Vec F S1x512x2048 .bf16) (x4 : Vec F S512x128 .f32) (xt0 : TbBuf0 (F := F) c tbM0_0) (xt1 : TbBuf0 (F := F) c tbM0_1) (d0 : Vec F S512x2048 .bf16) (d1 : Vec F S512x2048 .f32)
    (hc0 : ¬k0_cond1 i (validRead c xt1) = 1#1) (hc6 : k0_cond6 i (validRead c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay7 (F := F)) ∗ owns (c : Thread nD τ) arg10 fullShare d0 ∗ owns (c : Thread nD τ) arg11 fullShare d1 ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg4 harg4 arg5 harg5 arg6 harg6 arg7 harg7 arg8 harg8 arg9 harg9 arg10 harg10 arg11 harg11) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg10.eq_unread hf6; obtain rfl := harg11.eq_unread hf7
  sl_exec (disch := first | sl_exact hc0 | sl_exact hc6)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    exact View.read_writes_full _ _ _ _ _
  isplitl [H6]
  · iexists _; isplitr; · ipureintro; exact harg10.read_unread _
    iexact H6
  isplitl [H7]
  · iexists _; isplitr; · ipureintro; exact harg11.read_unread _
    iexact H7
  isplitl [HT0]; · iexact HT0
  iexact HT1

end Cert.KernelIdeal.Moe

end
-- ==== Proof.MoeFrame.lean ====
module

public import proofs.«01_k».proof.Proof.MoeBody
public import Idealize.ShloMosaic.Lib.Claim

/-! The experts' feed-forward call: what the two carried buffers hold from point to point, the body's obligation at
    every point, the run and the frame. -/

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Point by point -/

/-- Tile `i` is valid: its number is below the number of valid tiles. -/
def validTile (i : ℕ) : Prop := (BitVec.ofNat 32 i).slt (validWord m) = true

/-- Whether a tile is valid is decided by comparing two words. -/
instance (i : ℕ) : Decidable (validTile m i) := inferInstanceAs (Decidable (_ = true))

/-- What the body's condition asks of the table at a point of tile `t / 14` is that the tile be valid. -/
theorem valid_iff (c : Dev nD) (t : Fin grid0.N) :
    k0_cond1 (grid0.coords t) (validRead c (tbl m 1)) = 1#1 ↔ validTile m (t.val / 14) := by
  have ht : t.val < 1456 := Nat.lt_of_lt_of_eq t.isLt N_0
  have e0 : (grid0.coords t 0).val = t.val / 14 % 104 := Pipeline.Grid.coords_val t 0 (by decide) rfl
  rw [validRead_tbl, cond1_iff, e0, Nat.mod_eq_of_lt (by omega)]
  rfl

/-- The rows and the running sum after a first block. -/
def firstOf (hO : Ok m) (c : Dev nD) (t : Fin (cfgM m hO).N) : Vec F S512x2048 .bf16 × Vec F S512x2048 .f32 :=
  (unpacked (iblk m hO c 0 t), k0_pay4 (unpacked (iblk m hO c 0 t)) (iblk m hO c 1 t) (iblk m hO c 2 t) (iblk m hO c 3 t))

/-- The rows and the running sum after point `n` of a valid tile: the first block's, then each block's part added. -/
def stAt (hO : Ok m) (c : Dev nD) : (n : ℕ) → n < (cfgM m hO).N → Vec F S512x2048 .bf16 × Vec F S512x2048 .f32
  | 0, h => firstOf m hO c ⟨0, h⟩
  | n + 1, h => if (n + 1) % 14 = 0 then firstOf m hO c ⟨n + 1, h⟩ else
      ((stAt hO c n (Nat.lt_of_succ_lt h)).1,
        k0_pay5 (stAt hO c n (Nat.lt_of_succ_lt h)).1 (iblk m hO c 1 ⟨n + 1, h⟩) (iblk m hO c 2 ⟨n + 1, h⟩) (iblk m hO c 3 ⟨n + 1, h⟩) (stAt hO c n (Nat.lt_of_succ_lt h)).2)

/-- At the first block of a tile the carried pair starts anew. -/
theorem stAt_first (hO : Ok m) (c : Dev nD) (n : ℕ) (h : n < (cfgM m hO).N) (h0 : n % 14 = 0) :
    stAt m hO c n h = firstOf m hO c ⟨n, h⟩ := by
  cases n with
  | zero => rfl
  | succ n => exact if_pos h0

/-- At a later block the rows stay and the block's product is added to the sum. -/
theorem stAt_next (hO : Ok m) (c : Dev nD) (n : ℕ) (h : n + 1 < (cfgM m hO).N) (h0 : (n + 1) % 14 ≠ 0) :
    stAt m hO c (n + 1) h = ((stAt m hO c n (Nat.lt_of_succ_lt h)).1,
        k0_pay5 (stAt m hO c n (Nat.lt_of_succ_lt h)).1 (iblk m hO c 1 ⟨n + 1, h⟩) (iblk m hO c 2 ⟨n + 1, h⟩) (iblk m hO c 3 ⟨n + 1, h⟩) (stAt m hO c n (Nat.lt_of_succ_lt h)).2) :=
  if_neg h0

/-- The tile the last block stores: the sum times the rows' weights, or zero where the tile is not valid. -/
def outAt (hO : Ok m) (c : Dev nD) (t : Fin (cfgM m hO).N) : Vec F S512x2048 .f32 :=
  if validTile m (t.val / 14) then k0_pay6 (stAt m hO c t.val t.isLt).2 (iblk m hO c 4 t) else k0_pay7

/-- The invariant before position `n`: after a point of a valid tile the two carried buffers hold that point's rows and
    sum; otherwise they hold anything. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => if validTile m (n / 14) then
      iprop(iprop(iprop(owns (c : Thread nD τ) scM0_0 fullShare (stAt m hO c n hn).1 ∗ owns (c : Thread nD τ) scM0_1 fullShare (stAt m hO c n hn).2) ∗ (∃ r, prngReg c r)) ∗ Pipeline.ΦT pre0 (tbl m) c)
    else iprop(Pipeline.ΦA spec0 c ∗ Pipeline.ΦT pre0 (tbl m) c)

/-- After a point of a valid tile the invariant names the contents of the two carried buffers. -/
theorem PhiS_valid (hO : Ok m) (c : Dev nD) (n : ℕ) (hn : n + 1 ≤ (cfgM m hO).N) (hv : validTile m (n / 14)) :
    PhiS m hO c (n + 1) hn = iprop(iprop(iprop(owns (c : Thread nD τ) scM0_0 fullShare (stAt m hO c n hn).1 ∗ owns (c : Thread nD τ) scM0_1 fullShare (stAt m hO c n hn).2) ∗ (∃ r, prngReg c r)) ∗ Pipeline.ΦT pre0 (tbl m) c) :=
  if_pos hv

/-- After a point of another tile it does not. -/
theorem PhiS_invalid (hO : Ok m) (c : Dev nD) (n : ℕ) (hn : n + 1 ≤ (cfgM m hO).N) (hv : ¬validTile m (n / 14)) :
    PhiS m hO c (n + 1) hn = iprop(Pipeline.ΦA spec0 c ∗ Pipeline.ΦT pre0 (tbl m) c) :=
  if_neg hv

/-- At every position the invariant gives the two carried buffers at some contents. -/
theorem PhiS_any (hO : Ok m) (c : Dev nD) (n : ℕ) (hn : n ≤ (cfgM m hO).N) :
    PhiS m hO c n hn ⊢ iprop(Pipeline.ΦA spec0 c ∗ Pipeline.ΦT pre0 (tbl m) c) := by
  cases n with
  | zero => exact Idealize.SL.BI.Entails.refl _
  | succ n =>
    by_cases hv : validTile m (n / 14)
    · rw [PhiS_valid m hO c n hn hv, PhiA0_eq]
      iintro ⟨⟨⟨HS0, HS1⟩, Hg⟩, HT⟩
      isplitl [HS0 HS1 Hg]
      · isplitl [HS0 HS1]
        · isplitl [HS0]
          · iexists _; iexact HS0
          iexists _; iexact HS1
        iexact Hg
      iexact HT
    · rw [PhiS_invalid m hO c n hn hv]

/-! ## The pipeline's proof data -/

/-- The arrays as the host leaves them; after the body each input's buffer at its block and the output's at the tile;
    the invariant above; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- A block of the first weight is left as it was fetched. -/
theorem after0_1 (hO : Ok m) (c : Dev nD) (t : Fin (cfgM m hO).N) : (dats m hO 0 c).after 1 t = iblk m hO c 1 t := by dsimp only [dats]; try rfl
/-- A block of the second weight is left as it was fetched. -/
theorem after0_2 (hO : Ok m) (c : Dev nD) (t : Fin (cfgM m hO).N) : (dats m hO 0 c).after 2 t = iblk m hO c 2 t := by dsimp only [dats]; try rfl
/-- A block of the third weight is left as it was fetched. -/
theorem after0_3 (hO : Ok m) (c : Dev nD) (t : Fin (cfgM m hO).N) : (dats m hO 0 c).after 3 t = iblk m hO c 3 t := by dsimp only [dats]; try rfl
/-- The rows' weights are left as they were fetched. -/
theorem after0_4 (hO : Ok m) (c : Dev nD) (t : Fin (cfgM m hO).N) : (dats m hO 0 c).after 4 t = iblk m hO c 4 t := by dsimp only [dats]; try rfl
/-- The result's window is left with the tile that the point stores. -/
theorem after0_5 (hO : Ok m) (c : Dev nD) (t : Fin (cfgM m hO).N) : (dats m hO 0 c).after 5 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- A block of the first weight is found as it was fetched. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- A block of the second weight is found as it was fetched. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- A block of the third weight is found as it was fetched. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The rows' weights are found as they were fetched. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

/-! What the body hands back: an input at its block, the output tile at the last block only. -/

/-- What a point leaves in the window of the packed rows. -/
theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
/-- What a point leaves in the window of the first weight. -/
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
/-- What a point leaves in the window of the second weight. -/
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
/-- What a point leaves in the window of the third weight. -/
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
/-- What a point leaves in the window of the rows' weights. -/
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
/-- What the last block of a tile leaves in the window of the result. -/
theorem leaves0_5 (hO : Ok m) (c : Dev nD) (t : Fin (cfgM m hO).N) (h : t.val % 14 = 13) : (dats m hO 0 c).leavesExact 5 t = owns (c : Thread nD τ) (ms0_5 m hO t) fullShare (outAt m hO c t) := by
  rw [show (dats m hO 0 c).leavesExact 5 t = owns (c : Thread nD τ) (ms0_5 m hO t) fullShare ((dats m hO 0 c).after 5 t) from by
    unfold Dat.leavesExact; rw [liveAt0_5 m hO t h]; try rfl, after0_5]

set_option maxHeartbeats 4000000 in
/-- The body at a point of a valid tile, at its first block. -/
theorem sound_first (hO : Ok m) (c : Dev nD) (t : Fin (cfgM m hO).N) (hv : validTile m (t.val / 14)) (hf : t.val % 14 = 0) (hl : ¬t.val % 14 = 13) :
    bodyPre m hO c t ⊢ wp frame (wpE (defs₀ (F := F)) Variants.none c none) Set.univ (bodyAt0 (adm m hO) t) (fun _ => bodyPost m hO c t) := by
    unfold bodyPre bodyPost bodyAt0
    simp only [before0_0, before0_1, before0_2, before0_3, before0_4]
    rw [show (dats m hO 0 c).owesAt () t.succ = (dats m hO 0 c).owesAt () t.castSucc from rfl]
    rw [show (dats m hO 0 c).Φ t.succ = PhiS m hO c (t.val + 1) t.isLt from rfl]
    rw [leaves0_0, leaves0_1, leaves0_2, leaves0_3, leaves0_4]
    rw [PhiS_valid m hO c t.val t.isLt hv]
    rw [PhiS_castSucc m hO c t]
    refine (sep_mono_left (PhiS_any m hO c _ _)).trans ?_
    rw [PhiA0_eq, PhiT0_eq]
    rw [stAt_first m hO c _ t.isLt hf, firstOf]
    rw [Dat.leavesExact_idle (dats m hO 0 c) 5 t (idleAt0_5 m hO t hl) (noFlush0_5 m hO t hl)]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (run_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _)
      (iblk m hO c 0 t) (iblk m hO c 1 t) (iblk m hO c 2 t) (iblk m hO c 3 t) (iblk m hO c 4 t) (tbl m 0) (tbl m 1)  ((dats m hO 0 c).before 5 t d5)
      ((valid_iff m c t).mpr hv) (fun h => ((cond6_iff _ _).mp h).1 ((valid_iff m c t).mpr hv)) ((hcond0_1 t).mpr hf) (fun h => absurd ((hcond0_3 t).mp h) (by omega)) (fun h => hl ((hcond0_4 t).mp h)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4000000 in
/-- The body at a point of a valid tile, at an inner block. -/
theorem sound_inner (hO : Ok m) (c : Dev nD) (t : Fin (cfgM m hO).N) (hv : validTile m (t.val / 14)) (hf : ¬t.val % 14 = 0) (hl : ¬t.val % 14 = 13) :
    bodyPre m hO c t ⊢ wp frame (wpE (defs₀ (F := F)) Variants.none c none) Set.univ (bodyAt0 (adm m hO) t) (fun _ => bodyPost m hO c t) := by
    unfold bodyPre bodyPost bodyAt0
    simp only [before0_0, before0_1, before0_2, before0_3, before0_4]
    rw [show (dats m hO 0 c).owesAt () t.succ = (dats m hO 0 c).owesAt () t.castSucc from rfl]
    rw [show (dats m hO 0 c).Φ t.succ = PhiS m hO c (t.val + 1) t.isLt from rfl]
    rw [leaves0_0, leaves0_1, leaves0_2, leaves0_3, leaves0_4]
    rw [PhiS_valid m hO c t.val t.isLt hv]
    rw [PhiS_castSucc m hO c t]
    obtain ⟨n, hn⟩ := t
    obtain _ | n := n
    · exact absurd (Nat.zero_mod _) hf
    have hq : n / 14 = (n + 1) / 14 := by have : (n + 1) % 14 ≠ 0 := hf; omega
    rw [PhiS_valid m hO c n (Nat.le_of_lt hn) (by rw [hq]; exact hv), PhiT0_eq]
    rw [stAt_next m hO c n hn hf]
    rw [Dat.leavesExact_idle (dats m hO 0 c) 5 ⟨n + 1, hn⟩ (idleAt0_5 m hO ⟨n + 1, hn⟩ hl) (noFlush0_5 m hO ⟨n + 1, hn⟩ hl)]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (run_inner c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _)
      (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) (stAt m hO c n (Nat.lt_of_succ_lt hn)).1 (stAt m hO c n (Nat.lt_of_succ_lt hn)).2 ((dats m hO 0 c).before 5 ⟨n + 1, hn⟩ d5)
      ((valid_iff m c ⟨n + 1, hn⟩).mpr hv) (fun h => ((cond6_iff _ _).mp h).1 ((valid_iff m c ⟨n + 1, hn⟩).mpr hv)) (fun h => hf ((hcond0_1 ⟨n + 1, hn⟩).mp h)) ((hcond0_3 ⟨n + 1, hn⟩).mpr (by have : (n + 1) % 14 ≠ 0 := hf; show 1 ≤ (n + 1) % 14; omega)) (fun h => hl ((hcond0_4 ⟨n + 1, hn⟩).mp h)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4000000 in
/-- The body at a point of a valid tile, at its last block. -/
theorem sound_last (hO : Ok m) (c : Dev nD) (t : Fin (cfgM m hO).N) (hv : validTile m (t.val / 14)) (hf : ¬t.val % 14 = 0) (hl : t.val % 14 = 13) :
    bodyPre m hO c t ⊢ wp frame (wpE (defs₀ (F := F)) Variants.none c none) Set.univ (bodyAt0 (adm m hO) t) (fun _ => bodyPost m hO c t) := by
    unfold bodyPre bodyPost bodyAt0
    simp only [before0_0, before0_1, before0_2, before0_3, before0_4]
    rw [show (dats m hO 0 c).owesAt () t.succ = (dats m hO 0 c).owesAt () t.castSucc from rfl]
    rw [show (dats m hO 0 c).Φ t.succ = PhiS m hO c (t.val + 1) t.isLt from rfl]
    rw [leaves0_0, leaves0_1, leaves0_2, leaves0_3, leaves0_4]
    rw [PhiS_valid m hO c t.val t.isLt hv]
    rw [PhiS_castSucc m hO c t]
    obtain ⟨n, hn⟩ := t
    obtain _ | n := n
    · exact absurd (Nat.zero_mod _) hf
    have hq : n / 14 = (n + 1) / 14 := by have : (n + 1) % 14 ≠ 0 := hf; omega
    rw [PhiS_valid m hO c n (Nat.le_of_lt hn) (by rw [hq]; exact hv), PhiT0_eq]
    rw [stAt_next m hO c n hn hf]
    rw [leaves0_5 m hO c _ hl, outAt, if_pos hv]
    rw [stAt_next m hO c n hn hf]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (run_last c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _)
      (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (tbl m 1) (stAt m hO c n (Nat.lt_of_succ_lt hn)).1 (stAt m hO c n (Nat.lt_of_succ_lt hn)).2
      ((valid_iff m c ⟨n + 1, hn⟩).mpr hv) (fun h => ((cond6_iff _ _).mp h).1 ((valid_iff m c ⟨n + 1, hn⟩).mpr hv)) (fun h => hf ((hcond0_1 ⟨n + 1, hn⟩).mp h)) ((hcond0_3 ⟨n + 1, hn⟩).mpr (by have : (n + 1) % 14 ≠ 0 := hf; show 1 ≤ (n + 1) % 14; omega)) ((hcond0_4 ⟨n + 1, hn⟩).mpr hl) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

set_option maxHeartbeats 4000000 in
/-- The body at a point of an invalid tile, before its last block. -/
theorem sound_skip (hO : Ok m) (c : Dev nD) (t : Fin (cfgM m hO).N) (hv : ¬validTile m (t.val / 14)) (hl : ¬t.val % 14 = 13) :
    bodyPre m hO c t ⊢ wp frame (wpE (defs₀ (F := F)) Variants.none c none) Set.univ (bodyAt0 (adm m hO) t) (fun _ => bodyPost m hO c t) := by
    unfold bodyPre bodyPost bodyAt0
    simp only [before0_0, before0_1, before0_2, before0_3, before0_4]
    rw [show (dats m hO 0 c).owesAt () t.succ = (dats m hO 0 c).owesAt () t.castSucc from rfl]
    rw [show (dats m hO 0 c).Φ t.succ = PhiS m hO c (t.val + 1) t.isLt from rfl]
    rw [leaves0_0, leaves0_1, leaves0_2, leaves0_3, leaves0_4]
    rw [PhiS_invalid m hO c t.val t.isLt hv]
    rw [PhiS_castSucc m hO c t]
    refine (sep_mono_left (PhiS_any m hO c _ _)).trans ?_
    rw [PhiA0_eq, PhiT0_eq]
    rw [Dat.leavesExact_idle (dats m hO 0 c) 5 t (idleAt0_5 m hO t hl) (noFlush0_5 m hO t hl)]
    iintro ⟨⟨⟨⟨⟨%ds0, HS0⟩, ⟨%ds1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (run_skip c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _)
      (iblk m hO c 0 t) (iblk m hO c 1 t) (iblk m hO c 2 t) (iblk m hO c 3 t) (iblk m hO c 4 t) (tbl m 0) (tbl m 1) ds0 ds1 ((dats m hO 0 c).before 5 t d5)
      (fun h => hv ((valid_iff m c t).mp h)) (fun h => hl ((hcond0_4 t).mp ((cond6_iff _ _).mp h).2)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexists _; iexact HS0
          iexists _; iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4000000 in
/-- The body at a point of an invalid tile, at its last block. -/
theorem sound_zero (hO : Ok m) (c : Dev nD) (t : Fin (cfgM m hO).N) (hv : ¬validTile m (t.val / 14)) (hl : t.val % 14 = 13) :
    bodyPre m hO c t ⊢ wp frame (wpE (defs₀ (F := F)) Variants.none c none) Set.univ (bodyAt0 (adm m hO) t) (fun _ => bodyPost m hO c t) := by
    unfold bodyPre bodyPost bodyAt0
    simp only [before0_0, before0_1, before0_2, before0_3, before0_4]
    rw [show (dats m hO 0 c).owesAt () t.succ = (dats m hO 0 c).owesAt () t.castSucc from rfl]
    rw [show (dats m hO 0 c).Φ t.succ = PhiS m hO c (t.val + 1) t.isLt from rfl]
    rw [leaves0_0, leaves0_1, leaves0_2, leaves0_3, leaves0_4]
    rw [PhiS_invalid m hO c t.val t.isLt hv]
    rw [PhiS_castSucc m hO c t]
    refine (sep_mono_left (PhiS_any m hO c _ _)).trans ?_
    rw [PhiA0_eq, PhiT0_eq]
    rw [leaves0_5 m hO c _ hl, outAt, if_neg hv]
    iintro ⟨⟨⟨⟨⟨%ds0, HS0⟩, ⟨%ds1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (run_zero c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _)
      (iblk m hO c 0 t) (iblk m hO c 1 t) (iblk m hO c 2 t) (iblk m hO c 3 t) (iblk m hO c 4 t) (tbl m 0) (tbl m 1) ds0 ds1
      (fun h => hv ((valid_iff m c t).mp h)) ((cond6_iff _ _).mpr ⟨fun h => hv ((valid_iff m c t).mp h), (hcond0_4 t).mpr hl⟩) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexists _; iexact HS0
          iexists _; iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases hv : validTile m (t.val / 14)
  · by_cases hf : t.val % 14 = 0
    · exact sound_first m hO c t hv hf (by omega)
    · by_cases hl : t.val % 14 = 13
      · exact sound_last m hO c t hv hf hl
      · exact sound_inner m hO c t hv hf hl
  · by_cases hl : t.val % 14 = 13
    · exact sound_zero m hO c t hv hl
    · exact sound_skip m hO c t hv hl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  have h := sound_body m hO c t
  unfold bodyPre bodyPost at h
  exact triple_restated h rfl .rfl fun _ => .rfl

/-- What the launch hands the region is the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS]

/-- and after the last point the invariant gives the scratch buffers back. -/
theorem hout (hO : Ok m) (c : Dev nD) : (dats m hO 0 c).Φ (Fin.last (cfgM m hO).N) ⊢ Pipeline.ΦA spec0 c := by
  refine (PhiS_any m hO c _ (Nat.le_of_lt_succ (Fin.last (cfgM m hO).N).isLt)).trans ?_
  iintro ⟨H, -⟩
  iexact H

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: every run ends, with the argument arrays as launched and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Moe

end
-- ==== Proof.MoeOk.lean ====
module

public import proofs.«01_k».proof.Proof.MoeSetup
public import proofs.«01_k».proof.Proof.Gen.Pre_experts_exist
public import Idealize.ShloMosaic.Lib.ValueIdx

/-! The experts' feed-forward call: where the table of the tiles' experts names experts that exist, every block of the
    weights the call asks for lies inside the weights. -/

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The first table is the argument with the tiles' experts. -/
theorem tbl_zero : tbl m 0 = m (((0 : Dev nD) : Thread nD τ).loc main_arg5) :=
  V_of_ne m 0 main_arg5 (by decide) (by decide)

/-- The second table is the argument with the number of valid tiles. -/
theorem tbl_one : tbl m 1 = m (((0 : Dev nD) : Thread nD τ).loc main_arg6) :=
  V_of_ne m 0 main_arg6 (by decide) (by decide)

/-- A word that is nonnegative and below eight as a signed number is below eight as an unsigned one. -/
theorem word_lt_eight (v : BitVec 32) (h0 : (0#32).sle v = true) (h1 : v.slt 8#32 = true) : v.toNat < 8 := by
  have a : (0 : Int) ≤ v.toInt := by simpa [BitVec.sle] using h0
  have b : v.toInt < 8 := by simpa [BitVec.slt] using h1
  rw [BitVec.toInt_eq_toNat_cond] at a b
  split at a <;> omega

/-- A tile's block of the hidden width is one of fourteen. -/
theorem live_lt (i : grid0.Coords) (b : BitVec 1) : (Scalar.select b (BitVec.ofNat 32 (i 1).val) 0#32).toNat < 14 := by
  have hi : (i 1).val < 14 := (i 1).isLt
  by_cases h : b = 1#1
  · subst h
    show (BitVec.ofNat 32 (i 1).val).toNat < 14
    rw [BitVec.toNat_ofNat, Nat.mod_eq_of_lt (by omega)]; exact hi
  · have : b = 0#1 := by revert h; revert b; decide
    subst this
    show (0#32).toNat < 14
    decide

/-- Every block of the weights is inside the weights, and is made of whole words, when each tile's expert is one of
    eight. -/
theorem ok_of_lt (pf : pre0.Contents (Elt F)) (h : ∀ x : S104.Idx, (pf 0 x : BitVec 32).toNat < 8) : ok0 (F := F) pf := by
  have up : ∀ v w : BitVec 32, v.toNat < 8 → w.toNat < 14 →
      ∀ a : Fin 3, ((![v.toNat, (0#32).toNat, w.toNat] : Fin 3 → Nat) a + 1) * S1x2048x512.size a ≤ S8x2048x7168.size a := by
    intro v w hv hw a
    fin_cases a
    · show (v.toNat + 1) * 1 ≤ 8; omega
    · show ((0#32).toNat + 1) * 2048 ≤ 2048; decide
    · show (w.toNat + 1) * 512 ≤ 7168; omega
  have down : ∀ v w : BitVec 32, v.toNat < 8 → w.toNat < 14 →
      ∀ a : Fin 3, ((![v.toNat, w.toNat, (0#32).toNat] : Fin 3 → Nat) a + 1) * S1x512x2048.size a ≤ S8x7168x2048.size a := by
    intro v w hv hw a
    fin_cases a
    · show (v.toNat + 1) * 1 ≤ 8; omega
    · show (w.toNat + 1) * 512 ≤ 7168; omega
    · show ((0#32).toNat + 1) * 2048 ≤ 2048; decide
  exact ⟨fun i => ⟨up _ _ (h _) (live_lt i _), .inr (Affine.block_words_dvd (of_decide_eq_true rfl) (by decide))⟩,
    fun i => ⟨up _ _ (h _) (live_lt i _), .inr (Affine.block_words_dvd (of_decide_eq_true rfl) (by decide))⟩,
    fun i => ⟨down _ _ (h _) (live_lt i _), .inr (Affine.block_words_dvd (of_decide_eq_true rfl) (by decide))⟩⟩

/-- What the precondition says of the tiles' experts: each is one of eight. -/
theorem expert_lt {a0 a1 a2 a3 a4 a6} (te : IVec S104 32)
    (h : Cert.Pre_experts_exist.fn (F := F) a0 a1 a2 a3 a4 te a6 = fun _ => 1#1) (x : S104.Idx) : (te x).toNat < 8 := by
  have hx := congrFun h x
  have key : ∀ p q : Bool, IntOp.andi (BitVec.ofBool p) (BitVec.ofBool q) = 1#1 → p = true ∧ q = true := by decide
  obtain ⟨h0, h1⟩ := key _ _ hx
  exact word_lt_eight (te x) h0 h1

/-- The side condition of the call's tables holds where the precondition does. -/
theorem ok_of_experts (h : ∀ x : S104.Idx, (m (((0 : Dev nD) : Thread nD τ).loc main_arg5) x : BitVec 32).toNat < 8) : Ok m :=
  ok_of_lt (tbl m) (by rw [tbl_zero]; exact h)

end Cert.KernelIdeal.Moe

end
-- ==== Proof.MoeValue.lean ====
/- The experts' feed-forward call: what its result array holds after the run, over the extended reals. -/
module

public import proofs.«01_k».proof.Proof.Swiglu
public import proofs.«01_k».proof.Proof.MoeFrame
public import proofs.«01_k».proof.Proof.MoeOk
public import Idealize.ShloMosaic.Lib.Pipeline.Covers

@[expose] public section

set_option maxRecDepth 16384

noncomputable section

namespace Cert.KernelIdeal.Moe

open Cert.KernelIdeal Cert.KernelIdeal.Gen Cert.Swiglu
open Idealize.ShloMosaic Idealize.ShloMosaic.TcCoe Idealize.SL.Sem
open Idealize.ShloMosaic.Pipeline (Dat)

/-- One block's product at a row `r` and an output feature `d`: the sum over the block's 512 hidden features. -/
theorem pay3_apply (v13 : Vec Ideal S512x2048 .bf16) (v14 v17 : Vec Ideal S1x2048x512 .bf16) (v24 : Vec Ideal S1x512x2048 .bf16)
    (r : Fin 512) (d : Fin 2048) :
    k0_pay3 v13 v14 v17 v24 (ix2 r d)
      = ∑ k : Fin 512, hidden (fun q => v13 (ix2 r q)) (fun q => v14 (ix3 0 q k)) (fun q => v17 (ix3 0 q k)) * v24 (ix3 0 k d) := by
  pointwise [k0_pay3]
  rfl

/-- The tile the last block stores: the sum times the row's weight, which the 128 lanes of its block repeat. -/
theorem pay6_apply (v36 : Vec Ideal S512x2048 .f32) (v37 : Vec Ideal S512x128 .f32) (r : Fin 512) (d : Fin 2048) :
    k0_pay6 v36 v37 (ix2 r d) = v36 (ix2 r d) * v37 (ix2 r ⟨d.val % 128, Nat.mod_lt _ (by decide)⟩) := by
  have hc := concatenate_replicate_apply (t := S512x2048) (s₁ := S512x128) 1 16 v37
    concatenates_S512x128_S512x128_S512x128_S512x128_S512x128_S512x128_S512x128_S512x128_S512x128_S512x128_S512x128_S512x128_S512x128_S512x128_S512x128_S512x128_S512x2048_d1
    rfl (ix2 r d) (ix2 r ⟨d.val % 128, Nat.mod_lt _ (by decide)⟩) rfl (by intro b hb; fin_cases b <;> first | rfl | exact absurd rfl hb)
  rw [← hc, k0_pay6, shapeCast_self]
  rfl

/-- A tile that is not valid gets zeros. -/
theorem pay7_apply (j : S512x2048.Idx) : k0_pay7 (F := Ideal) j = 0 := by
  idx_vars j
  pointwise [k0_pay7]

/-- A feature of a row from its packed words: feature `q < 1024` is the low half of word `q`, feature `1024 + q` its high half. -/
def feature (w : Fin 1024 → BitVec 32) (q : Fin 2048) : EReal :=
  if h : q.val < 1024 then Ideal.ofBits .f32 (w ⟨q.val, h⟩ <<< (16 : ℕ))
  else Ideal.ofBits .f32 (w ⟨q.val - 1024, by omega⟩ &&& 4294901760#32)

/-- The low halves of the words: shifted up by 16 bits and read as floats. -/
theorem low_apply (x : Vec Ideal S512x1024 .i32) (r : Fin 512) (k : Fin 1024) :
    k0_pay1 (F := Ideal) x (ix2 r k) = Ideal.ofBits .f32 (x (ix2 r k) <<< (16 : ℕ)) := by
  pointwise [k0_pay1]
  rfl

/-- The high halves of the words: masked and read as floats. -/
theorem high_apply (x : Vec Ideal S512x1024 .i32) (r : Fin 512) (k : Fin 1024) :
    k0_pay2 (F := Ideal) x (ix2 r k) = Ideal.ofBits .f32 (x (ix2 r k) &&& 4294901760#32) := by
  pointwise [k0_pay2]
  rfl

/-- Where the low half and the high half lie in a row. -/
theorem place_low (r : Fin 512) (k : Fin 1024) :
    (Rect.unit (s := S512x2048) ![0, 0] S512x1024.size inb_S512x2048_S512x1024_0_0).emb (ix2 r k : S512x1024.Idx) = (ix2 r ⟨k.val, by omega⟩ : S512x2048.Idx) := by
  funext b
  fin_cases b
  · apply Fin.ext; show 0 + 1 * r.val = r.val; omega
  · apply Fin.ext; show 0 + 1 * k.val = k.val; omega

/-- The second half of the rows' buffer lies 1024 columns in. -/
theorem place_high (r : Fin 512) (k : Fin 1024) :
    (Rect.unit (s := S512x2048) ![0, 1024] S512x1024.size inb_S512x2048_S512x1024_0_1024).emb (ix2 r k : S512x1024.Idx) = (ix2 r ⟨1024 + k.val, by omega⟩ : S512x2048.Idx) := by
  funext b
  fin_cases b
  · apply Fin.ext; show 0 + 1 * r.val = r.val; omega
  · apply Fin.ext; show 1024 + 1 * k.val = 1024 + k.val; omega

/-- The first 1024 features of the unpacked rows are the low halves. -/
theorem unpacked_low (x : Vec Ideal S512x1024 .i32) (r : Fin 512) (k : Fin 1024) :
    unpacked x (ix2 r ⟨k.val, by omega⟩) = k0_pay1 (F := Ideal) x (ix2 r k) := by
  unfold unpacked
  rw [View.canon_cons_of_not_mem]
  · rw [← place_low]; exact View.canon_cons_emb _ _ _ _
  · intro hm
    obtain ⟨y, hy⟩ := (Rect.unit (s := S512x2048) ![0, 1024] S512x1024.size inb_S512x2048_S512x1024_0_1024).exists_idx_of_mem hm
    have h1 := congrArg Fin.val (congrFun hy 1)
    have : 1024 + 1 * (y 1).val = k.val := h1
    omega

/-- The other 1024 features of the unpacked rows are the high halves. -/
theorem unpacked_high (x : Vec Ideal S512x1024 .i32) (r : Fin 512) (k : Fin 1024) :
    unpacked x (ix2 r ⟨1024 + k.val, by omega⟩) = k0_pay2 (F := Ideal) x (ix2 r k) := by
  unfold unpacked
  rw [← place_high]; exact View.canon_cons_emb _ _ _ _

/-- The tile's rows as the first block leaves them. -/
theorem unpacked_apply (x : Vec Ideal S512x1024 .i32) (r : Fin 512) (q : Fin 2048) :
    unpacked x (ix2 r q) = feature (fun k => x (ix2 r k)) q := by
  unfold feature
  split
  · rename_i h
    exact (unpacked_low x r ⟨q.val, h⟩).trans (low_apply x r _)
  · rename_i h
    have hq : q = ⟨1024 + (q.val - 1024), by omega⟩ := Fin.ext (by simp only; omega)
    have e := (unpacked_high x r ⟨q.val - 1024, by omega⟩).trans (high_apply x r _)
    rw [← e]
    exact congrArg (fun z => unpacked x (ix2 r z)) hq

variable (m : (ℓ : Loc nD τ sig) → Buf (Elt Ideal) ℓ) (hO : Ok m) (c : Dev nD)

/-- The grid has 1456 points: 104 tiles of rows by 14 blocks of the hidden width. -/
theorem point_lt (t : Fin (cfgM m hO).N) : t.val < 1456 := lt_of_lt_of_eq t.isLt N_0

/-- The tile of a point, and the expert its table names. -/
def tile (t : Fin (cfgM m hO).N) : Fin 104 := ⟨t.val / 14, by have := point_lt m hO t; omega⟩

/-- The expert that the table names for a tile. -/
def expert (i : Fin 104) : ℕ := (tbl m 0 (ix1 i) : BitVec 32).toNat

/-- The block of the hidden width a point of the grid asks for. -/
def live (t : Fin (cfgM m hO).N) : ℕ := if validTile m (t.val / 14) then t.val % 14 else 0

/-- The windows of the rows, of their weights and of the result ask for the point's tile. -/
theorem index_rows : ∀ t : Fin grid0.N, cc0_transform_0 (grid0.coords t) = ![t.val / 14, 0] ∧ cc0_transform_4 (grid0.coords t) = ![t.val / 14, 0]
    ∧ cc0_transform_5 (grid0.coords t) = ![t.val / 14, 0] := by
  decide +kernel

/-- A point's first coordinate is its tile. -/
theorem coords0 (t : Fin grid0.N) : (grid0.coords t 0).val = t.val / 14 := by
  have ht : t.val < 1456 := Nat.lt_of_lt_of_eq t.isLt N_0
  have e0 : (grid0.coords t 0).val = t.val / 14 % 104 := Pipeline.Grid.coords_val t 0 (by decide) rfl
  rw [e0, Nat.mod_eq_of_lt (by omega)]

/-- A point's second coordinate is its block of the hidden width. -/
theorem coords1 (t : Fin grid0.N) : (grid0.coords t 1).val = t.val % 14 := by
  have e0 : (grid0.coords t 1).val = t.val / 1 % 14 := Pipeline.Grid.coords_val t 1 (by decide) rfl
  rw [e0, Nat.div_one]

/-- The place along the hidden width that the weights' index maps compute. -/
theorem live_word (t : Fin grid0.N) (hO : Ok m) :
    (Scalar.select (Scalar.cmpi .slt (BitVec.ofNat 32 (grid0.coords t 0).val) (validWord m)) (BitVec.ofNat 32 (grid0.coords t 1).val) 0#32).toNat
      = live m hO t := by
  have h14 : t.val % 14 < 14 := Nat.mod_lt _ (by decide)
  rw [coords0, coords1]
  unfold live
  by_cases h : validTile m (t.val / 14)
  · rw [if_pos h]
    have : Scalar.cmpi .slt (BitVec.ofNat 32 (t.val / 14)) (validWord m) = 1#1 := by
      show BitVec.ofBool _ = 1#1
      rw [h]; rfl
    rw [this]
    show (BitVec.ofNat 32 (t.val % 14)).toNat = _
    rw [BitVec.toNat_ofNat, Nat.mod_eq_of_lt (by omega)]
  · rw [if_neg h]
    have h' : (BitVec.ofNat 32 (t.val / 14)).slt (validWord m) = false := Bool.eq_false_iff.mpr fun e => h e
    have : Scalar.cmpi .slt (BitVec.ofNat 32 (t.val / 14)) (validWord m) = 0#1 := by
      show BitVec.ofBool ((BitVec.ofNat 32 (t.val / 14)).slt (validWord m)) = _
      rw [h']; rfl
    rw [this]
    rfl

/-- The word of the experts' table that the weights' index maps read is the expert of the point's tile. -/
theorem expert_word (t : Fin grid0.N) (hO : Ok m) (b : Fin 1 → ℕ) :
    ((tbl m).at 0 (Rect.unit (s := S104) ![(Scalar.indexCast (BitVec.ofNat 32 (grid0.coords t 0).val)).toNat] S1.size (k0_off1_inb (grid0.coords t))) numel1_S1 : BitVec 32).toNat
      = expert m (tile m hO t) := by
  unfold expert
  refine congrArg (fun z => (tbl m 0 z : BitVec 32).toNat) ?_
  funext a
  fin_cases a
  apply Fin.ext
  show (BitVec.ofNat 32 (grid0.coords t 0).val).toNat + 1 * 0 = t.val / 14
  have ht : t.val < 1456 := Nat.lt_of_lt_of_eq t.isLt N_0
  rw [coords0, BitVec.toNat_ofNat, Nat.mod_eq_of_lt (by omega), Nat.mul_zero, Nat.add_zero]

/-- The word of the other table that they read is the number of valid tiles. -/
theorem valid_word : ((tbl m).at 1 (Rect.unit (s := S1) ![0] S1.size inb_S1_S1_0) numel1_S1 : BitVec 32) = validWord m := by
  unfold validWord; rfl

/-- The first weight's window asks for the tile's expert and the point's block of the hidden width, -/
theorem index_w1 (t : Fin (cfgM m hO).N) : ((cfgM m hO).win 1).index t = ![expert m (tile m hO t), 0, live m hO t] := by
  rw [← live_word m t hO, ← expert_word m t hO ![0], ← valid_word]
  rfl
/-- so does the second weight's, -/
theorem index_w2 (t : Fin (cfgM m hO).N) : ((cfgM m hO).win 2).index t = ![expert m (tile m hO t), 0, live m hO t] := by
  rw [← live_word m t hO, ← expert_word m t hO ![0], ← valid_word]
  rfl
/-- and so does the third weight's. -/
theorem index_w3 (t : Fin (cfgM m hO).N) : ((cfgM m hO).win 3).index t = ![expert m (tile m hO t), live m hO t, 0] := by
  rw [← live_word m t hO, ← expert_word m t hO ![0], ← valid_word]
  rfl
/-- The windows of the rows, of their weights and of the result, at the tables' contents. -/
theorem index_r (t : Fin (cfgM m hO).N) : ((cfgM m hO).win 0).index t = ![t.val / 14, 0] ∧ ((cfgM m hO).win 4).index t = ![t.val / 14, 0]
    ∧ ((cfgM m hO).win 5).index t = ![t.val / 14, 0] := index_rows t

/-- The arguments as arrays. -/
abbrev hpA : S53248x1024.Idx → BitVec 32 := m ((c.tc : Thread nD τ).loc main_arg0)
/-- The first weight, as an array of numbers. -/
abbrev w1A : S8x2048x7168.Idx → EReal := m ((c.tc : Thread nD τ).loc main_arg1)
/-- The second weight. -/
abbrev w3A : S8x2048x7168.Idx → EReal := m ((c.tc : Thread nD τ).loc main_arg2)
/-- The third weight. -/
abbrev w2A : S8x7168x2048.Idx → EReal := m ((c.tc : Thread nD τ).loc main_arg3)
/-- The rows' weights. -/
abbrev pA : S53248.Idx → EReal := m ((c.tc : Thread nD τ).loc main_arg4)

/-- The row of the array at place `r` of the tile that point `t` works on. -/
def row (t : Fin (cfgM m hO).N) (r : Fin 512) : Fin 53248 := ⟨t.val / 14 * 512 + r.val, by have := point_lt m hO t; have := r.isLt; omega⟩

/-- At the launch the packed rows are the argument's, -/
theorem hp_eq : V m c (Pipeline.arrRef spec0 0) = hpA m c := V_of_ne m c main_arg0 (by decide) (by decide)
/-- the first weight is, -/
theorem w1_eq : V m c (Pipeline.arrRef spec0 1) = w1A m c := V_of_ne m c main_arg1 (by decide) (by decide)
/-- the second weight is, -/
theorem w3_eq : V m c (Pipeline.arrRef spec0 2) = w3A m c := V_of_ne m c main_arg2 (by decide) (by decide)
/-- and the third weight is. -/
theorem w2_eq : V m c (Pipeline.arrRef spec0 3) = w2A m c := V_of_ne m c main_arg3 (by decide) (by decide)

/-- The rows' weights as the host lays them out: row `a`'s weight in each of 128 lanes. -/
theorem p_eq (a : Fin 53248) (l : Fin 128) : (V m c (Pipeline.arrRef spec0 4) : S53248x128.Idx → EReal) (ix2 a l) = pA m c (ix1 a) := by
  simp only [V, hostOps0]
  entry_read
  pointwise

/-- The blocks that a point's windows hold. -/
def hpB (t : Fin (cfgM m hO).N) : Vec Ideal S512x1024 .i32 := iblk m hO c 0 t
/-- A point's block of the first weight. -/
def w1B (t : Fin (cfgM m hO).N) : Vec Ideal S1x2048x512 .bf16 := iblk m hO c 1 t
/-- A point's block of the second weight. -/
def w3B (t : Fin (cfgM m hO).N) : Vec Ideal S1x2048x512 .bf16 := iblk m hO c 2 t
/-- A point's block of the third weight. -/
def w2B (t : Fin (cfgM m hO).N) : Vec Ideal S1x512x2048 .bf16 := iblk m hO c 3 t
/-- A point's rows' weights. -/
def pB (t : Fin (cfgM m hO).N) : Vec Ideal S512x128 .f32 := iblk m hO c 4 t

/-- A point's packed rows, entry by entry. -/
theorem hp_apply (t : Fin (cfgM m hO).N) (r : Fin 512) (k : Fin 1024) : hpB m hO c t (ix2 r k) = hpA m c (ix2 (row m hO t r) k) := by
  rw [← hp_eq]
  blk_ext [hpB, w1B, w3B, w2B, pB, iblk, (index_r m hO t).1, row]

/-- The expert of a tile, as one of eight. -/
def expertOf (i : Fin 104) : Fin 8 := ⟨expert m i % 8, Nat.mod_lt _ (by decide)⟩

/-- A point's block of the first weight, entry by entry. -/
theorem w1_apply (hx : ∀ i, expert m i < 8) (t : Fin (cfgM m hO).N) (hb : live m hO t < 14) (q : Fin 2048) (k : Fin 512) :
    w1B m hO c t (ix3 0 q k) = w1A m c (ix3 (expertOf m (tile m hO t)) q ⟨512 * live m hO t + k.val, by omega⟩) := by
  have he : expert m (tile m hO t) % 8 = expert m (tile m hO t) := Nat.mod_eq_of_lt (hx _)
  rw [← w1_eq]
  blk_ext [hpB, w1B, w3B, w2B, pB, iblk, index_w1 m hO t, expertOf, he]

/-- A point's block of the second weight, entry by entry. -/
theorem w3_apply (hx : ∀ i, expert m i < 8) (t : Fin (cfgM m hO).N) (hb : live m hO t < 14) (q : Fin 2048) (k : Fin 512) :
    w3B m hO c t (ix3 0 q k) = w3A m c (ix3 (expertOf m (tile m hO t)) q ⟨512 * live m hO t + k.val, by omega⟩) := by
  have he : expert m (tile m hO t) % 8 = expert m (tile m hO t) := Nat.mod_eq_of_lt (hx _)
  rw [← w3_eq]
  blk_ext [hpB, w1B, w3B, w2B, pB, iblk, index_w2 m hO t, expertOf, he]

/-- A point's block of the third weight, entry by entry. -/
theorem w2_apply (hx : ∀ i, expert m i < 8) (t : Fin (cfgM m hO).N) (hb : live m hO t < 14) (k : Fin 512) (d : Fin 2048) :
    w2B m hO c t (ix3 0 k d) = w2A m c (ix3 (expertOf m (tile m hO t)) ⟨512 * live m hO t + k.val, by omega⟩ d) := by
  have he : expert m (tile m hO t) % 8 = expert m (tile m hO t) := Nat.mod_eq_of_lt (hx _)
  rw [← w2_eq]
  blk_ext [hpB, w1B, w3B, w2B, pB, iblk, index_w3 m hO t, expertOf, he]

/-- A row's weight, the same in every lane. -/
theorem p_apply (t : Fin (cfgM m hO).N) (r : Fin 512) (l : Fin 128) : pB m hO c t (ix2 r l) = pA m c (ix1 (row m hO t r)) := by
  rw [← p_eq m c _ l]
  blk_ext [hpB, w1B, w3B, w2B, pB, iblk, (index_r m hO t).2.1, row]

/-- What hidden feature `k` of expert `e` adds to output feature `d` of row `a`. -/
def summand (e : Fin 8) (a : Fin 53248) (d : Fin 2048) (k : Fin 7168) : EReal :=
  hidden (feature fun j => hpA m c (ix2 a j)) (fun q => w1A m c (ix3 e q k)) (fun q => w3A m c (ix3 e q k)) * w2A m c (ix3 e k d)

/-- The same for any number `k`, zero past the hidden width. -/
def summandAt (e : Fin 8) (a : Fin 53248) (d : Fin 2048) (k : ℕ) : EReal := if h : k < 7168 then summand m c e a d ⟨k, h⟩ else 0

/-- At a tile's first block the rows' buffer gets the unpacked rows, -/
theorem first_rows (n : ℕ) (h : n < (cfgM m hO).N) (h0 : n % 14 = 0) : (stAt m hO c n h).1 = unpacked (hpB m hO c ⟨n, h⟩) := by
  have e := congrArg Prod.fst (stAt_first m hO c n h h0)
  unfold firstOf at e
  unfold hpB
  simp only at e
  exact e

/-- and the sum is the block's product. -/
theorem first_sum (n : ℕ) (h : n < (cfgM m hO).N) (h0 : n % 14 = 0) :
    (stAt m hO c n h).2 = k0_pay4 (stAt m hO c n h).1 (w1B m hO c ⟨n, h⟩) (w3B m hO c ⟨n, h⟩) (w2B m hO c ⟨n, h⟩) := by
  have e := congrArg Prod.snd (stAt_first m hO c n h h0)
  rw [first_rows m hO c n h h0]
  unfold firstOf at e
  unfold hpB w1B w3B w2B
  exact e

/-- At a later block the rows' buffer is as it was, -/
theorem next_rows (n : ℕ) (h : n + 1 < (cfgM m hO).N) (h0 : (n + 1) % 14 ≠ 0) :
    (stAt m hO c (n + 1) h).1 = (stAt m hO c n (Nat.lt_of_succ_lt h)).1 := by
  rw [stAt_next m hO c n h h0]

/-- and the block's product is added to the sum. -/
theorem next_sum (n : ℕ) (h : n + 1 < (cfgM m hO).N) (h0 : (n + 1) % 14 ≠ 0) :
    (stAt m hO c (n + 1) h).2 = k0_pay5 (stAt m hO c (n + 1) h).1 (w1B m hO c ⟨n + 1, h⟩) (w3B m hO c ⟨n + 1, h⟩) (w2B m hO c ⟨n + 1, h⟩)
      (stAt m hO c n (Nat.lt_of_succ_lt h)).2 := by
  rw [stAt_next m hO c n h h0]; rfl

/-- The rows that a valid tile's points multiply, feature by feature. -/
theorem rows_apply (n : ℕ) (h : n < (cfgM m hO).N) (r : Fin 512) (q : Fin 2048) :
    (stAt m hO c n h).1 (ix2 r q) = feature (fun j => hpA m c (ix2 (row m hO ⟨n, h⟩ r) j)) q := by
  have first : ∀ (n : ℕ) (h : n < (cfgM m hO).N), n % 14 = 0 →
      (stAt m hO c n h).1 (ix2 r q) = feature (fun j => hpA m c (ix2 (row m hO ⟨n, h⟩ r) j)) q := by
    intro n h h0
    rw [first_rows m hO c n h h0, unpacked_apply]
    exact congrArg (fun w => feature w q) (funext fun j => hp_apply m hO c ⟨n, h⟩ r j)
  induction n with
  | zero => exact first 0 h rfl
  | succ n ih =>
    by_cases h0 : (n + 1) % 14 = 0
    · exact first _ h h0
    · have ht : row m hO ⟨n, Nat.lt_of_succ_lt h⟩ r = row m hO ⟨n + 1, h⟩ r := Fin.ext (by simp only [row]; omega)
      rw [next_rows m hO c n h h0, ← ht]
      exact ih (Nat.lt_of_succ_lt h)

/-- One point's block product, in the arguments. -/
theorem block_apply (hx : ∀ i, expert m i < 8) (t : Fin (cfgM m hO).N) (hv : validTile m (t.val / 14)) (r : Fin 512) (d : Fin 2048) :
    k0_pay3 (F := Ideal) (stAt m hO c t.val t.isLt).1 (w1B m hO c t) (w3B m hO c t) (w2B m hO c t) (ix2 r d)
      = ∑ k : Fin 512, summandAt m c (expertOf m (tile m hO t)) (row m hO t r) d (512 * (t.val % 14) + k.val) := by
  have hl : live m hO t = t.val % 14 := if_pos hv
  have hb : live m hO t < 14 := by rw [hl]; exact Nat.mod_lt _ (by decide)
  rw [← hl, pay3_apply]
  refine Finset.sum_congr rfl fun k _ => ?_
  have hk := k.isLt
  rw [summandAt, dif_pos (by omega), summand]
  simp only [rows_apply m hO c t.val t.isLt r, w1_apply m hO c hx t hb, w3_apply m hO c hx t hb, w2_apply m hO c hx t hb]

/-- At a valid tile's first block the running sum becomes that block's product. -/
theorem running_first (hx : ∀ i, expert m i < 8) (n : ℕ) (h : n < (cfgM m hO).N) (hv : validTile m (n / 14)) (h0 : n % 14 = 0) (r : Fin 512) (d : Fin 2048) :
    (stAt m hO c n h).2 (ix2 r d) = upTo (summandAt m c (expertOf m (tile m hO ⟨n, h⟩)) (row m hO ⟨n, h⟩ r) d) (512 * (n % 14 + 1)) := by
  have b := block_apply m hO c hx ⟨n, h⟩ hv r d
  simp only [h0] at b
  rw [first_sum m hO c n h h0]
  unfold k0_pay4
  rw [shapeCast_self, b, h0, upTo_first]

/-- After the block `n % 14` of a valid tile's hidden width the running sum holds the hidden features so far. -/
theorem running (hx : ∀ i, expert m i < 8) (n : ℕ) (h : n < (cfgM m hO).N) (hv : validTile m (n / 14)) (r : Fin 512) (d : Fin 2048) :
    (stAt m hO c n h).2 (ix2 r d) = upTo (summandAt m c (expertOf m (tile m hO ⟨n, h⟩)) (row m hO ⟨n, h⟩ r) d) (512 * (n % 14 + 1)) := by
  induction n with
  | zero => exact running_first m hO c hx 0 h hv rfl r d
  | succ n ih =>
    by_cases h0 : (n + 1) % 14 = 0
    · exact running_first m hO c hx _ h hv h0 r d
    · have hv' : validTile m (n / 14) := by rwa [show n / 14 = (n + 1) / 14 by omega]
      have e := ih (Nat.lt_of_succ_lt h) hv'
      have ht : row m hO ⟨n, Nat.lt_of_succ_lt h⟩ r = row m hO ⟨n + 1, h⟩ r := Fin.ext (by simp only [row]; omega)
      have hi : tile m hO ⟨n, Nat.lt_of_succ_lt h⟩ = tile m hO ⟨n + 1, h⟩ := Fin.ext (by simp only [tile]; omega)
      have hf : (n + 1) % 14 = n % 14 + 1 := by omega
      have b := block_apply m hO c hx ⟨n + 1, h⟩ hv r d
      simp only [hf] at b
      rw [ht, hi] at e
      rw [next_sum m hO c n h h0]
      unfold k0_pay5
      rw [shapeCast_self]
      show (stAt m hO c n (Nat.lt_of_succ_lt h)).2 (ix2 r d) + k0_pay3 (F := Ideal) _ _ _ _ (ix2 r d) = _
      rw [b, e, hf, upTo_next]

/-- What the call computes at row `a` and output feature `d`: for a row of a valid tile the sum over the hidden width of the
    tile's expert, times the row's weight; zero for a row of any other tile. -/
def result (a : Fin 53248) (d : Fin 2048) : EReal :=
  if validTile m (a.val / 512) then (∑ k, summand m c (expertOf m ⟨a.val / 512, by omega⟩) a d k) * pA m c (ix1 a) else 0

/-- What the last point of a tile leaves for the tile in the output. -/
theorem out_last (hx : ∀ i, expert m i < 8) (t : Fin (cfgM m hO).N) (h2 : t.val % 14 = 13) (r : Fin 512) (d : Fin 2048) :
    outAt m hO c t (ix2 r d) = result m c (row m hO t r) d := by
  have ht : (row m hO t r).val / 512 = t.val / 14 := by have := r.isLt; simp only [row]; omega
  have hi : (⟨(row m hO t r).val / 512, by omega⟩ : Fin 104) = tile m hO t := Fin.ext ht
  unfold outAt result
  simp only [hi]
  rw [ht]
  split
  · rename_i hv
    have hs := running m hO c hx t.val t.isLt hv r d
    rw [h2, show 512 * (13 + 1) = 7168 from rfl] at hs
    have hu : upTo (summandAt m c (expertOf m (tile m hO t)) (row m hO t r) d) 7168 = ∑ k, summand m c (expertOf m (tile m hO t)) (row m hO t r) d k :=
      upTo_all (summand m c (expertOf m (tile m hO t)) (row m hO t r) d)
    rw [show (⟨t.val, t.isLt⟩ : Fin (cfgM m hO).N) = t from rfl, hu] at hs
    rw [← hs, ← p_apply m hO c t r ⟨d.val % 128, Nat.mod_lt _ (by decide)⟩]
    exact pay6_apply _ (pB m hO c t) r d
  · exact pay7_apply _

/-- Where the block that point `t` writes back lies in the result array. -/
def spot (t : Fin (cfgM m hO).N) : S512x2048.Idx → S53248x2048.Idx := fun y => (((cfgM m hO).win 5).blk t).view.emb y

/-- The block that point `t` writes back lies at its tile's rows. -/
theorem place (t : Fin (cfgM m hO).N) (r : Fin 512) (d : Fin 2048) : spot m hO t (ix2 r d) = ix2 (row m hO t r) d := by
  have e := (index_r m hO t).2.2
  unfold spot
  blk_ext [e, row]

/-- Every place of the result array is in the block that some tile writes back. -/
theorem covered : ((cfgM m hO).win 5).Covers := by
  have size_pos : ∀ a : Fin 2, 0 < S512x2048.size a := by decide
  have onto : ∀ β : (a : Fin 2) → Fin ((![104, 1] : Fin 2 → ℕ) a), ∃ t : Fin grid0.N, ∀ a, cc0_transform_5 (grid0.coords t) a = (β a).val := by
    intro β
    have h0 : (β 0).val < 104 := (β 0).isLt
    have h1 : (β 1).val < 1 := (β 1).isLt
    refine ⟨⟨14 * (β 0).val, lt_of_lt_of_eq (by omega : 14 * (β 0).val < 1456) N_0.symm⟩, fun a => ?_⟩
    rw [(index_rows _).2.2]
    fin_cases a
    · show 14 * (β 0).val / 14 = (β 0).val; omega
    · show 0 = (β 1).val; omega
  have count : ∀ a : Fin 2, ((cfgM m hO).win 5).nblk a = (![104, 1] : Fin 2 → ℕ) a := by
    intro a
    fin_cases a
    · show (53248 + 512 - 1) / 512 = 104; decide
    · show (2048 + 2048 - 1) / 2048 = 1; decide
  refine Pipeline.Window.covers_of_index_surj _ rfl size_pos fun β => ?_
  obtain ⟨t, ht⟩ := onto fun a => Fin.cast (count a) (β a)
  exact ⟨t, ht⟩

/-- The result array after the run. -/
theorem final (hx : ∀ i, expert m i < 8) : (dats m hO 0 c).arrAt 5 (cfgM m hO).N = fun j : S53248x2048.Idx => result m c (j 0) (j 1) := by
  refine (dats m hO 0 c).arrAt_eq_of_covers 5 _ (covered m hO) fun t hf y => ?_
  have h2 := (flush0_5 (adm m hO) t).mp hf
  have hy : ∀ y : S512x2048.Idx, ∃ (a : Fin 512) (d : Fin 2048), y = ix2 a d := fun y => ⟨y 0, y 1, by funext b; fin_cases b <;> rfl⟩
  obtain ⟨y0, y1, rfl⟩ := hy y
  show (dats m hO 0 c).after 5 t (ix2 y0 y1 : S512x2048.Idx) = result m c (spot m hO t (ix2 y0 y1) 0) (spot m hO t (ix2 y0 y1) 1)
  rw [after0_5, place]
  exact out_last m hO c hx t h2 y0 y1

end Cert.KernelIdeal.Moe
end
-- ==== Proof.MoeClaim.lean ====
/- The experts' feed-forward call against its reference: where every tile's expert exists, both programs run and their results
   are equal. -/
module

public import proofs.«01_k».proof.Defs
public import proofs.«01_k».proof.Proof.MoeValue
public import proofs.«01_k».proof.Proof.Gen.ReferenceIdeal.Run
public import Idealize.ShloMosaic.Lib.Claim
public import Idealize.ShloMosaic.Lib.Quiescent
public import Idealize.ShloMosaic.Lib.Tactic.CleanTypes

@[expose] public section

set_option maxRecDepth 16384

noncomputable section

namespace Cert.Moe

open Cert.Swiglu Cert.KernelIdeal.Moe
open Idealize.ShloMosaic Idealize.ShloMosaic.TcCoe Idealize.SL.Sem

section Reference
open Cert.ReferenceIdeal Cert.ReferenceIdeal.Gen Cert.ReferenceIdeal.Value

/-- The rows of the reference, from their packed words. -/
abbrev rows (hp : IVec S53248x1024 32) : FVec Ideal S53248x2048 .f32 :=
  concatenate S53248x2048 1 [⟨S53248x1024, (bitcastToFloat (F := Ideal) .f32 (Host.shli hp (broadcastInDim S53248x1024 ![] bcast_S_S53248x1024 (constantI S_ 32 16#32))))⟩, ⟨S53248x1024, (bitcastToFloat (F := Ideal) .f32 (andi hp (broadcastInDim S53248x1024 ![] bcast_S_S53248x1024 (constantI S_ 32 4294901760#32))))⟩] concatenates_S53248x1024_S53248x1024_S53248x2048_d1

/-- A row's feature `q` in the reference is the one that the row's packed words hold. -/
theorem rows_apply (hp : IVec S53248x1024 32) (a : Fin 53248) (q : Fin 2048) :
    rows hp (ix2 a q) = feature (fun j => hp (ix2 a j)) q := by
  unfold feature
  pointwise [rows]
  rfl

/-- The slab of expert `e` of the first two weights, and of the third. -/
abbrev slab (e : ℕ) (hs : S8x2048x7168.Slices ![e, 0, 0] S1x2048x7168) (w : FVec Ideal S8x2048x7168 .bf16) : FVec Ideal S2048x7168 .f32 :=
  shapeCast S2048x7168 (extractStridedSlice S1x2048x7168 ![e, 0, 0] (extf (F := Ideal) .f32 w bitsLt_bf16_f32) hs) shapeCasts_S1x2048x7168_S2048x7168

/-- The slab of expert `e` holds that expert's entries of the weight. -/
theorem slab_apply (e : ℕ) (he : e < 8) (hs : S8x2048x7168.Slices ![e, 0, 0] S1x2048x7168) (w : FVec Ideal S8x2048x7168 .bf16) (q : Fin 2048) (k : Fin 7168) :
    slab e hs w (ix2 q k) = w (ix3 ⟨e, he⟩ q k) := by
  pointwise [slab]

/-- The slab of expert `e` of the third weight. -/
abbrev slabDown (e : ℕ) (hs : S8x7168x2048.Slices ![e, 0, 0] S1x7168x2048) (w : FVec Ideal S8x7168x2048 .bf16) : FVec Ideal S7168x2048 .f32 :=
  shapeCast S7168x2048 (extractStridedSlice S1x7168x2048 ![e, 0, 0] (extf (F := Ideal) .f32 w bitsLt_bf16_f32) hs) shapeCasts_S1x7168x2048_S7168x2048

/-- The third weight's slab of expert `e` holds that expert's entries. -/
theorem slabDown_apply (e : ℕ) (he : e < 8) (hs : S8x7168x2048.Slices ![e, 0, 0] S1x7168x2048) (w : FVec Ideal S8x7168x2048 .bf16) (k : Fin 7168) (d : Fin 2048) :
    slabDown e hs w (ix2 k d) = w (ix3 ⟨e, he⟩ k d) := by
  pointwise [slabDown]

/-- A product of the rows with a slab. -/
abbrev proj (h : FVec Ideal S53248x2048 .f32) (w : FVec Ideal S2048x7168 .f32) : FVec Ideal S53248x7168 .f32 :=
  Host.dotGeneral (F := Ideal) dot_S53248x2048_S2048x7168_S53248x7168_1_0_0_1_n_n none h w

/-- A product with a slab, entry by entry: the sum over the row's features. -/
theorem proj_apply (h : FVec Ideal S53248x2048 .f32) (w : FVec Ideal S2048x7168 .f32) (a : Fin 53248) (k : Fin 7168) :
    proj h w (ix2 a k) = ∑ q : Fin 2048, h (ix2 a q) * w (ix2 q k) := by
  pointwise [proj]

/-- The hidden features of the reference from its two products. -/
abbrev hid (A B : FVec Ideal S53248x7168 .f32) : FVec Ideal S53248x7168 .f32 :=
  mulf (mulf A (Host.divf (broadcastInDim S53248x7168 ![] bcast_S_S53248x7168 (constant S_ .f32 0x3F800000#32))
    (addf (broadcastInDim S53248x7168 ![] bcast_S_S53248x7168 (constant S_ .f32 0x3F800000#32)) (Host.exp (Host.negf A))))) B

/-- A hidden feature of the reference: the first product's SiLU times the second product. -/
theorem hid_apply (A B : FVec Ideal S53248x7168 .f32) (a : Fin 53248) (k : Fin 7168) :
    hid A B (ix2 a k) = A (ix2 a k) * Ideal.logistic (A (ix2 a k)) * B (ix2 a k) := by
  pointwise [hid]
  rfl

/-- The reference's last product of an expert. -/
abbrev down (H : FVec Ideal S53248x7168 .f32) (w : FVec Ideal S7168x2048 .f32) : FVec Ideal S53248x2048 .f32 :=
  Host.dotGeneral (F := Ideal) dot_S53248x7168_S7168x2048_S53248x2048_1_0_0_1_n_n none H w

/-- The last product of an expert, entry by entry: the sum over the hidden features. -/
theorem down_apply (H : FVec Ideal S53248x7168 .f32) (w : FVec Ideal S7168x2048 .f32) (a : Fin 53248) (d : Fin 2048) :
    down H w (ix2 a d) = ∑ k : Fin 7168, H (ix2 a k) * w (ix2 k d) := by
  pointwise [down]

/-- A choice by a truth value's word. -/
theorem select_ofBool (b : Bool) (x y : EReal) : Scalar.select (BitVec.ofBool b) x y = if b = true then x else y := by
  cases b <;> rfl

/-- The zero word is the number zero. -/
theorem zero_word : constant (F := Ideal) S_ .f32 0#32 ix0 = 0 := by
  pointwise

/-- The weights of the rows, tile by tile, zero in the tiles that are not valid. -/
abbrev weights (p : FVec Ideal S53248 .f32) (nv : IVec S1 32) : FVec Ideal S104x512 .f32 :=
  select (broadcastInDim S104x512 ![0, 1] bcast_S104x1_S104x512_0_1 (broadcastInDim S104x1 ![0] bcast_S104_S104x1_0 (cmpi .slt (iotaInDim S104 32 0) (broadcastInDim S104 ![] bcast_S_S104 (shapeCast S_ nv shapeCasts_S1_S_))))) (shapeCast S104x512 p shapeCasts_S53248_S104x512) (broadcastInDim S104x512 ![] bcast_S_S104x512 (id (constant (F := Ideal) S_ .f32 0x00000000#32)))

/-- The weight of row `r` of tile `i`: the argument's in a valid tile, zero in another. -/
theorem weights_apply (p : FVec Ideal S53248 .f32) (nv : IVec S1 32) (i : Fin 104) (r : Fin 512) :
    weights p nv (ix2 i r) = if (BitVec.ofNat 32 i.val).slt (nv (ix1 0)) = true then p (ix1 ⟨i.val * 512 + r.val, by omega⟩) else 0 := by
  pointwise [weights]
  exact (select_ofBool _ _ _).trans (by rw [show id (constant (F := Ideal) S_ .f32 0#32) ix0 = 0 from zero_word])

/-- The weights of the rows whose tile has expert `e`, zero in the other rows, over every output feature. -/
abbrev combine (e : BitVec 32) (te : IVec S104 32) (W : FVec Ideal S104x512 .f32) : FVec Ideal S53248x2048 .f32 :=
  broadcastInDim S53248x2048 ![0, 1] bcast_S53248x1_S53248x2048_0_1 (shapeCast S53248x1 (select (broadcastInDim S104x512 ![0, 1] bcast_S104x1_S104x512_0_1 (broadcastInDim S104x1 ![0] bcast_S104_S104x1_0 (cmpi .eq te (broadcastInDim S104 ![] bcast_S_S104 (constantI S_ 32 e))))) W (broadcastInDim S104x512 ![] bcast_S_S104x512 (id (constant (F := Ideal) S_ .f32 0x00000000#32)))) shapeCasts_S104x512_S53248x1)

/-- A row's weight for expert `e`: the row's weight where its tile has that expert, zero elsewhere. -/
theorem combine_apply (e : BitVec 32) (te : IVec S104 32) (W : FVec Ideal S104x512 .f32) (a : Fin 53248) (d : Fin 2048) :
    combine e te W (ix2 a d) = if te (ix1 ⟨a.val / 512, by omega⟩) = e then W (ix2 ⟨a.val / 512, by omega⟩ ⟨a.val % 512, Nat.mod_lt _ (by decide)⟩) else 0 := by
  pointwise [combine]
  refine (select_ofBool (te (ix1 ⟨a.val / 512, by omega⟩) == e) _ _).trans ?_
  rw [show id (constant (F := Ideal) S_ .f32 0#32) ix0 = 0 from zero_word]
  simp only [beq_iff_eq]

/-- Hidden feature `k` of expert `e` at a row. -/
theorem hidden_apply (e : ℕ) (he : e < 8) (hs : S8x2048x7168.Slices ![e, 0, 0] S1x2048x7168) (hp : IVec S53248x1024 32) (w1 w3 : FVec Ideal S8x2048x7168 .bf16)
    (a : Fin 53248) (k : Fin 7168) :
    hid (proj (rows hp) (slab e hs w1)) (proj (rows hp) (slab e hs w3)) (ix2 a k)
      = hidden (feature fun j => hp (ix2 a j)) (fun q => w1 (ix3 ⟨e, he⟩ q k)) (fun q => w3 (ix3 ⟨e, he⟩ q k)) := by
  have product : ∀ w : FVec Ideal S8x2048x7168 .bf16, proj (rows hp) (slab e hs w) (ix2 a k)
      = ∑ q : Fin 2048, feature (fun j => hp (ix2 a j)) q * w (ix3 ⟨e, he⟩ q k) := by
    intro w
    rw [proj_apply]
    refine Finset.sum_congr rfl fun q _ => ?_
    rw [rows_apply, slab_apply e he]
  rw [hid_apply, product, product]
  rfl

/-- What expert `e` adds to the reference's result. -/
abbrev term (e : ℕ) (hs : S8x2048x7168.Slices ![e, 0, 0] S1x2048x7168) (hd : S8x7168x2048.Slices ![e, 0, 0] S1x7168x2048)
    (hp : IVec S53248x1024 32) (w1 w3 : FVec Ideal S8x2048x7168 .bf16) (w2 : FVec Ideal S8x7168x2048 .bf16) (te : IVec S104 32)
    (W : FVec Ideal S104x512 .f32) : FVec Ideal S53248x2048 .f32 :=
  mulf (combine (BitVec.ofNat 32 e) te W) (down (hid (proj (rows hp) (slab e hs w1)) (proj (rows hp) (slab e hs w3))) (slabDown e hd w2))

/-- An expert's feed-forward of a row. -/
def ffn (hp : IVec S53248x1024 32) (w1 w3 : FVec Ideal S8x2048x7168 .bf16) (w2 : FVec Ideal S8x7168x2048 .bf16) (a : Fin 53248) (d : Fin 2048)
    (e : Fin 8) : EReal :=
  ∑ k : Fin 7168, hidden (feature fun j => hp (ix2 a j)) (fun q => w1 (ix3 e q k)) (fun q => w3 (ix3 e q k)) * w2 (ix3 e k d)

/-- What expert `e` adds at a row: the row's weight times that expert's feed-forward where the tile has the expert, and zero times it elsewhere. -/
theorem term_apply (e : ℕ) (he : e < 8) (hs : S8x2048x7168.Slices ![e, 0, 0] S1x2048x7168) (hd : S8x7168x2048.Slices ![e, 0, 0] S1x7168x2048)
    (hp : IVec S53248x1024 32) (w1 w3 : FVec Ideal S8x2048x7168 .bf16) (w2 : FVec Ideal S8x7168x2048 .bf16) (te : IVec S104 32)
    (W : FVec Ideal S104x512 .f32) (a : Fin 53248) (d : Fin 2048) :
    term e hs hd hp w1 w3 w2 te W (ix2 a d)
      = (if te (ix1 ⟨a.val / 512, by omega⟩) = BitVec.ofNat 32 e then W (ix2 ⟨a.val / 512, by omega⟩ ⟨a.val % 512, Nat.mod_lt _ (by decide)⟩) else 0)
        * ffn hp w1 w3 w2 a d ⟨e, he⟩ := by
  show combine (BitVec.ofNat 32 e) te W (ix2 a d) * down (hid (proj (rows hp) (slab e hs w1)) (proj (rows hp) (slab e hs w3))) (slabDown e hd w2) (ix2 a d) = _
  rw [combine_apply, down_apply]
  refine congrArg₂ (fun x y : EReal => x * y) rfl ?_
  unfold ffn
  refine Finset.sum_congr rfl fun k _ => ?_
  rw [hidden_apply e he, slabDown_apply e he]

/-- Of the eight terms only that of the tile's expert is not zero. -/
theorem pick (S : Fin 8 → EReal) (w : EReal) (v : BitVec 32) (hv : v.toNat < 8) :
    0 + (if v = 0#32 then w else 0) * S 0 + (if v = 1#32 then w else 0) * S 1 + (if v = 2#32 then w else 0) * S 2 + (if v = 3#32 then w else 0) * S 3
      + (if v = 4#32 then w else 0) * S 4 + (if v = 5#32 then w else 0) * S 5 + (if v = 6#32 then w else 0) * S 6 + (if v = 7#32 then w else 0) * S 7
      = w * S ⟨v.toNat % 8, Nat.mod_lt _ (by decide)⟩ := by
  have key : ∀ e : Fin 8, v = BitVec.ofNat 32 e.val →
      0 + (if v = 0#32 then w else 0) * S 0 + (if v = 1#32 then w else 0) * S 1 + (if v = 2#32 then w else 0) * S 2 + (if v = 3#32 then w else 0) * S 3
      + (if v = 4#32 then w else 0) * S 4 + (if v = 5#32 then w else 0) * S 5 + (if v = 6#32 then w else 0) * S 6 + (if v = 7#32 then w else 0) * S 7
      = w * S e := by
    intro e he
    subst he
    fin_cases e <;> simp
  have hm : v.toNat % 8 = v.toNat := Nat.mod_eq_of_lt hv
  exact key ⟨v.toNat % 8, Nat.mod_lt _ (by decide)⟩ (by simp only [hm]; exact (BitVec.ofNat_toNat 32 v).symm ▸ (by simp))

/-- The reference's result, from its arguments. -/
abbrev refTerm (hp : IVec S53248x1024 32) (w1 w3 : FVec Ideal S8x2048x7168 .bf16) (w2 : FVec Ideal S8x7168x2048 .bf16) (p : FVec Ideal S53248 .f32)
    (te : IVec S104 32) (nv : IVec S1 32) : FVec Ideal S53248x2048 .f32 :=
  addf (addf (addf (addf (addf (addf (addf (addf (broadcastInDim S53248x2048 ![] bcast_S_S53248x2048 (constant (F := Ideal) S_ .f32 0x00000000#32))
    (term 0 slices_S8x2048x7168_S1x2048x7168_0_0_0 slices_S8x7168x2048_S1x7168x2048_0_0_0 hp w1 w3 w2 te (weights p nv)))
    (term 1 slices_S8x2048x7168_S1x2048x7168_1_0_0 slices_S8x7168x2048_S1x7168x2048_1_0_0 hp w1 w3 w2 te (weights p nv)))
    (term 2 slices_S8x2048x7168_S1x2048x7168_2_0_0 slices_S8x7168x2048_S1x7168x2048_2_0_0 hp w1 w3 w2 te (weights p nv)))
    (term 3 slices_S8x2048x7168_S1x2048x7168_3_0_0 slices_S8x7168x2048_S1x7168x2048_3_0_0 hp w1 w3 w2 te (weights p nv)))
    (term 4 slices_S8x2048x7168_S1x2048x7168_4_0_0 slices_S8x7168x2048_S1x7168x2048_4_0_0 hp w1 w3 w2 te (weights p nv)))
    (term 5 slices_S8x2048x7168_S1x2048x7168_5_0_0 slices_S8x7168x2048_S1x7168x2048_5_0_0 hp w1 w3 w2 te (weights p nv)))
    (term 6 slices_S8x2048x7168_S1x2048x7168_6_0_0 slices_S8x7168x2048_S1x7168x2048_6_0_0 hp w1 w3 w2 te (weights p nv)))
    (term 7 slices_S8x2048x7168_S1x2048x7168_7_0_0 slices_S8x7168x2048_S1x7168x2048_7_0_0 hp w1 w3 w2 te (weights p nv))

/-- An entry of the reference's result: the sum over the eight experts collapses to the one that the row's tile has. -/
theorem refTerm_apply (hp : IVec S53248x1024 32) (w1 w3 : FVec Ideal S8x2048x7168 .bf16) (w2 : FVec Ideal S8x7168x2048 .bf16) (p : FVec Ideal S53248 .f32)
    (te : IVec S104 32) (nv : IVec S1 32) (hte : ∀ i : Fin 104, (te (ix1 i)).toNat < 8) (a : Fin 53248) (d : Fin 2048) :
    refTerm hp w1 w3 w2 p te nv (ix2 a d)
      = if (BitVec.ofNat 32 (a.val / 512)).slt (nv (ix1 0)) = true then
          ffn hp w1 w3 w2 a d ⟨(te (ix1 ⟨a.val / 512, by omega⟩)).toNat % 8, Nat.mod_lt _ (by decide)⟩ * p (ix1 a) else 0 := by
  have hz : (broadcastInDim S53248x2048 ![] bcast_S_S53248x2048 (constant (F := Ideal) S_ .f32 0x00000000#32) : FVec Ideal S53248x2048 .f32) (ix2 a d) = 0 := by
    pointwise
  have hi : a.val / 512 < 104 := by omega
  refine Eq.trans ?_ ((pick (ffn hp w1 w3 w2 a d) (weights p nv (ix2 ⟨a.val / 512, hi⟩ ⟨a.val % 512, Nat.mod_lt _ (by decide)⟩)) (te (ix1 ⟨a.val / 512, hi⟩)) (hte _)).trans ?_)
  · show (broadcastInDim S53248x2048 ![] bcast_S_S53248x2048 (constant (F := Ideal) S_ .f32 0x00000000#32) : FVec Ideal S53248x2048 .f32) (ix2 a d)
      + term 0 slices_S8x2048x7168_S1x2048x7168_0_0_0 slices_S8x7168x2048_S1x7168x2048_0_0_0 hp w1 w3 w2 te (weights p nv) (ix2 a d)
      + term 1 slices_S8x2048x7168_S1x2048x7168_1_0_0 slices_S8x7168x2048_S1x7168x2048_1_0_0 hp w1 w3 w2 te (weights p nv) (ix2 a d)
      + term 2 slices_S8x2048x7168_S1x2048x7168_2_0_0 slices_S8x7168x2048_S1x7168x2048_2_0_0 hp w1 w3 w2 te (weights p nv) (ix2 a d)
      + term 3 slices_S8x2048x7168_S1x2048x7168_3_0_0 slices_S8x7168x2048_S1x7168x2048_3_0_0 hp w1 w3 w2 te (weights p nv) (ix2 a d)
      + term 4 slices_S8x2048x7168_S1x2048x7168_4_0_0 slices_S8x7168x2048_S1x7168x2048_4_0_0 hp w1 w3 w2 te (weights p nv) (ix2 a d)
      + term 5 slices_S8x2048x7168_S1x2048x7168_5_0_0 slices_S8x7168x2048_S1x7168x2048_5_0_0 hp w1 w3 w2 te (weights p nv) (ix2 a d)
      + term 6 slices_S8x2048x7168_S1x2048x7168_6_0_0 slices_S8x7168x2048_S1x7168x2048_6_0_0 hp w1 w3 w2 te (weights p nv) (ix2 a d)
      + term 7 slices_S8x2048x7168_S1x2048x7168_7_0_0 slices_S8x7168x2048_S1x7168x2048_7_0_0 hp w1 w3 w2 te (weights p nv) (ix2 a d) = _
    rw [hz, term_apply 0 (by decide), term_apply 1 (by decide), term_apply 2 (by decide), term_apply 3 (by decide), term_apply 4 (by decide),
      term_apply 5 (by decide), term_apply 6 (by decide), term_apply 7 (by decide)]
    rfl
  · rw [weights_apply]
    have ha : (⟨a.val / 512 * 512 + a.val % 512, by omega⟩ : Fin 53248) = a := Fin.ext (by simp only; omega)
    simp only [ha]
    split
    · exact mul_comm _ _
    · exact zero_mul _

end Reference

/-- The reference's result as the run states it is `refTerm` of the arguments. -/
theorem result_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v169 (F := Ideal) (StableHlo.launchContents m' c)
      = refTerm (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  rfl

/-- From equal arguments the reference's result is the call's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hx : ∀ i, expert m i < 8) :
    Cert.ReferenceIdeal.Value.res_main_v169 (F := Ideal) (StableHlo.launchContents m' c)
      = (fun j : Cert.KernelIdeal.S53248x2048.Idx => result m c (j 0) (j 1)) := by
  obtain rfl : c = 0 := Subsingleton.elim _ _
  obtain ⟨a0, a1, a2, a3, a4, a5, a6⟩ := hargs
  have h5 : tbl m 0 = m (((0 : Dev Cert.KernelIdeal.nD) : Thread Cert.KernelIdeal.nD Cert.KernelIdeal.τ).loc Cert.KernelIdeal.main_arg5) := tbl_zero m
  have h6 : validWord m = m (((0 : Dev Cert.KernelIdeal.nD) : Thread Cert.KernelIdeal.nD Cert.KernelIdeal.τ).loc Cert.KernelIdeal.main_arg6) (ix1 0) := by
    rw [← tbl_one m, ← valid_word m]
    refine congrArg (tbl m 1) ?_
    funext b
    fin_cases b
    rfl
  rw [result_eq, a0, a1, a2, a3, a4, a5, a6, ← h5]
  funext j
  obtain ⟨a, d, rfl⟩ : ∃ (a : Fin 53248) (d : Fin 2048), j = ix2 a d := ⟨j 0, j 1, by funext b; fin_cases b <;> rfl⟩
  refine (refTerm_apply _ _ _ _ _ (tbl m 0) _ hx a d).trans ?_
  show _ = result m 0 a d
  have hvi : (BitVec.ofNat 32 (a.val / 512)).slt (m (((0 : Dev Cert.KernelIdeal.nD) : Thread Cert.KernelIdeal.nD Cert.KernelIdeal.τ).loc Cert.KernelIdeal.main_arg6) (ix1 0)) = true
      ↔ validTile m (a.val / 512) := by
    unfold validTile
    rw [h6]
  unfold result
  by_cases hv : validTile m (a.val / 512)
  · exact (if_pos (hvi.mpr hv)).trans (if_pos hv).symm
  · exact (if_neg fun e => hv (hvi.mp e)).trans (if_neg hv).symm

/-- Where every tile's expert exists, from equal arguments both programs run and leave the same result. -/
theorem algebraic : Cert.algebraic_KernelIdeal_ReferenceIdeal (hKernelIdeal := Cert.KernelIdeal.Gen.facts)
    (hReferenceIdeal := Cert.ReferenceIdeal.Gen.facts) (hPre_experts_exist := Cert.Pre_experts_exist.Gen.facts) := by
  intro m g m' g' hpre hargs
  have hx : ∀ i, expert m i < 8 := fun i => by
    unfold expert
    rw [tbl_zero]
    exact expert_lt (F := Ideal) _ (hpre 0) (ix1 i)
  have hO : Ok m := ok_of_experts m fun x => expert_lt (F := Ideal) _ (hpre 0) x
  refine ⟨fun c => (fun j : Cert.KernelIdeal.S53248x2048.Idx => result m c (j 0) (j 1)), ?_, ?_⟩
  · refine (θ_run (Cert.KernelIdeal.defs (F := Ideal)) _ _).mono (fun r h c => ?_)
      (θ_run_and (run_main (F := Ideal) m g hO) (frame (F := Ideal) m g hO))
    exact ⟨((h.1 c).1 5).trans (final m hO c hx), h.2.1 c⟩
  · refine (θ_run (Cert.ReferenceIdeal.defs (F := Ideal)) _ _).mono (fun r h c => ?_) (Cert.ReferenceIdeal.Value.run (F := Ideal) m' g')
    obtain ⟨hv, hrest⟩ := h c
    refine ⟨hv.trans ?_, hrest⟩
    exact reference_result m m' c (hargs c) hx

end Cert.Moe

end
-- ==== Proof.DenseValue.lean ====
/- The dense feed-forward call: what its result array holds after the run, over the extended reals. -/
module

public import proofs.«01_k».proof.Proof.Swiglu
public import proofs.«01_k».proof.Proof.Gen.Kernel2Ideal.Frame
public import Idealize.ShloMosaic.Lib.Pipeline.ReadBack

@[expose] public section

set_option maxRecDepth 16384

noncomputable section

namespace Cert.Kernel2Ideal.Dense

open Cert.Kernel2Ideal Cert.Kernel2Ideal.Gen Cert.Swiglu
open Idealize.ShloMosaic Idealize.ShloMosaic.TcCoe Idealize.SL.Sem
open Idealize.ShloMosaic.Pipeline (Dat)

/-- One block's product at a token `r` and an output feature `d`: the sum over the block's 512 hidden features. -/
theorem pay1_apply (v0 : Vec Ideal S512x2048 .bf16) (v1 v3 : Vec Ideal S2048x512 .bf16) (v9 : Vec Ideal S512x2048 .bf16)
    (r : Fin 512) (d : Fin 2048) :
    k0_pay1 v0 v1 v3 v9 (ix2 r d)
      = ∑ k : Fin 512, hidden (fun q => v0 (ix2 r q)) (fun q => v1 (ix2 q k)) (fun q => v3 (ix2 q k)) * v9 (ix2 k d) := by
  pointwise [k0_pay1]
  rfl

/-- The row of `mod` from which the tile of tokens `i` takes its gate: row 5 of sequence 0 for the prompt's 16 tiles, and
    of the sequences 1, 2, … for four tiles each after them. -/
def gateRow (i : ℕ) : ℕ := (if i < 16 then 0 else 1 + (i - 16) / 4) * 6 + 5

/-- Which block each window holds at the point `t`, that is at tile `t / 11` and block of hidden features `t % 11`. -/
theorem index_eq : ∀ t : Fin grid0.N,
    win0_0.index t = ![t.val / 11, 0] ∧ win0_1.index t = ![0, t.val % 11] ∧ win0_2.index t = ![0, t.val % 11]
    ∧ win0_3.index t = ![t.val % 11, 0] ∧ win0_4.index t = ![t.val / 11, 0] ∧ win0_5.index t = ![gateRow (t.val / 11), 0, 0]
    ∧ win0_6.index t = ![t.val / 11, 0] := by
  decide +kernel

variable (m : (ℓ : Loc nD τ sig) → Buf (Elt Ideal) ℓ) (c : Dev nD)

/-- The arguments as arrays of extended reals. -/
abbrev hA : S24576x2048.Idx → EReal := m ((c.tc : Thread nD τ).loc main_arg0)
/-- The first weight, as an array of numbers. -/
abbrev w1A : S2048x5632.Idx → EReal := m ((c.tc : Thread nD τ).loc main_arg1)
/-- The second weight. -/
abbrev w3A : S2048x5632.Idx → EReal := m ((c.tc : Thread nD τ).loc main_arg2)
/-- The third weight. -/
abbrev w2A : S5632x2048.Idx → EReal := m ((c.tc : Thread nD τ).loc main_arg3)
/-- The residual. -/
abbrev xA : S24576x2048.Idx → EReal := m ((c.tc : Thread nD τ).loc main_arg4)
/-- The modulation. -/
abbrev gA : S96x1x2048.Idx → EReal := m ((c.tc : Thread nD τ).loc main_arg5)

/-- What hidden feature `k` adds to output feature `d` of token `a`. -/
def summand (a : Fin 24576) (d : Fin 2048) (k : Fin 5632) : EReal :=
  hidden (fun q : Fin 2048 => hA m c (ix2 a q)) (fun q => w1A m c (ix2 q k)) (fun q => w3A m c (ix2 q k)) * w2A m c (ix2 k d)

/-- The same for any number `k`, zero past the hidden width. -/
def summandAt (a : Fin 24576) (d : Fin 2048) (k : ℕ) : EReal := if h : k < 5632 then summand m c a d ⟨k, h⟩ else 0

/-- The grid has 528 points: 48 tiles of tokens by 11 blocks of the hidden width. -/
theorem point_lt (t : Fin cfg0.N) : t.val < 528 := lt_of_lt_of_eq t.isLt N_0

/-- The token at row `r` of the tile that point `t` works on. -/
def tok (t : Fin cfg0.N) (r : Fin 512) : Fin 24576 := ⟨t.val / 11 * 512 + r.val, by have := point_lt t; have := r.isLt; omega⟩

/-- One point's block product, in the arguments. -/
theorem block_apply (t : Fin cfg0.N) (r : Fin 512) (d : Fin 2048) :
    k0_pay1 (F := Ideal) (iblk m c 0 t) (iblk m c 1 t) (iblk m c 2 t) (iblk m c 3 t) (ix2 r d)
      = ∑ k : Fin 512, summandAt m c (tok t r) d (512 * (t.val % 11) + k.val) := by
  rw [pay1_apply]
  refine Finset.sum_congr rfl fun k _ => ?_
  have hk := k.isLt
  have hb : 512 * (t.val % 11) + k.val < 5632 := by have := Nat.mod_lt t.val (show 0 < 11 by decide); omega
  rw [summandAt, dif_pos hb, summand]
  obtain ⟨e0, e1, e2, e3, -, -, -⟩ := index_eq t
  have h0 : ∀ q : Fin 2048, iblk m c 0 t (ix2 r q) = hA m c (ix2 (tok t r) q) := fun q => by blk_ext [iblk, V, e0, tok]
  have h1 : ∀ q : Fin 2048, iblk m c 1 t (ix2 q k) = w1A m c (ix2 q ⟨_, hb⟩) := fun q => by blk_ext [iblk, V, e1]
  have h2 : ∀ q : Fin 2048, iblk m c 2 t (ix2 q k) = w3A m c (ix2 q ⟨_, hb⟩) := fun q => by blk_ext [iblk, V, e2]
  have h3 : iblk m c 3 t (ix2 k d) = w2A m c (ix2 ⟨_, hb⟩ d) := by blk_ext [iblk, V, e3]
  simp only [h0, h1, h2, h3]

/-- At a tile's first block the running sum becomes that block's product. -/
theorem scratch_first (t : Fin cfg0.N) (h0 : t.val % 11 = 0) (r : Fin 512) (d : Fin 2048) :
    (outsAt0 m c t.val t.isLt).2 (ix2 r d) = upTo (summandAt m c (tok t r) d) (512 * (t.val % 11 + 1)) := by
  rw [outsAt0_A m c t h0 (by omega) (by omega)]
  frame_out
  rw [k0_pay2, shapeCast_self, block_apply, h0, upTo_first]

/-- At a later block the block's product is added to what the point before left. -/
theorem scratch_next (t : Fin cfg0.N) (h0 : ¬t.val % 11 = 0) (r : Fin 512) (d : Fin 2048) :
    (outsAt0 m c t.val t.isLt).2 (ix2 r d)
      = (outsAt0 m c (t.val - 1) (Nat.lt_of_le_of_lt (Nat.sub_le _ _) t.isLt)).2 (ix2 r d)
        + ∑ k : Fin 512, summandAt m c (tok t r) d (512 * (t.val % 11) + k.val) := by
  rw [← block_apply]
  by_cases h2 : t.val % 11 = 10
  · rw [outsAt0_C m c t h0 (by omega) h2]
    frame_out
    simp only [read_unread_whole]
    rw [k0_pay3, shapeCast_self]
    rfl
  · rw [outsAt0_B m c t h0 (by omega) h2]
    frame_out
    simp only [read_unread_whole]
    rw [k0_pay3, shapeCast_self]
    rfl

/-- After the block of hidden features `t % 11` the running sum holds, at every token of the tile, the hidden features so far. -/
theorem running (n : ℕ) (h : n < cfg0.N) (r : Fin 512) (d : Fin 2048) :
    (outsAt0 m c n h).2 (ix2 r d) = upTo (summandAt m c (tok ⟨n, h⟩ r) d) (512 * (n % 11 + 1)) := by
  induction n with
  | zero => exact scratch_first m c ⟨0, h⟩ rfl r d
  | succ n ih =>
    by_cases h0 : (n + 1) % 11 = 0
    · exact scratch_first m c ⟨n + 1, h⟩ h0 r d
    · have e := ih (Nat.lt_of_succ_lt h)
      have ht : tok ⟨n, Nat.lt_of_succ_lt h⟩ r = tok ⟨n + 1, h⟩ r := Fin.ext (by simp only [tok]; omega)
      have hf : (n + 1) % 11 = n % 11 + 1 := by omega
      have s := scratch_next m c ⟨n + 1, h⟩ h0 r d
      simp only [Nat.add_sub_cancel] at s
      rw [s, e, ht, hf, upTo_next]

/-- What the dense call computes at token `a` and output feature `d`: the token's own feature plus the gate of its sequence
    times the layer's sum over the hidden width. -/
def result (a : Fin 24576) (d : Fin 2048) : EReal :=
  xA m c (ix2 a d) + gA m c (ix3 ⟨gateRow (a.val / 512), by unfold gateRow; split <;> omega⟩ 0 d) * ∑ k, summand m c a d k

/-- What the last point of a tile leaves for the tile in the output. -/
theorem out_last (t : Fin cfg0.N) (h2 : t.val % 11 = 10) (r : Fin 512) (d : Fin 2048) :
    (outsAt0 m c t.val t.isLt).1 (ix2 r d) = result m c (tok t r) d := by
  have hs := running m c t.val t.isLt r d
  rw [h2, show 512 * (10 + 1) = 5632 from rfl] at hs
  have hu : upTo (summandAt m c (tok t r) d) 5632 = ∑ k, summand m c (tok t r) d k := upTo_all (summand m c (tok t r) d)
  rw [show (⟨t.val, t.isLt⟩ : Fin cfg0.N) = t from rfl, hu] at hs
  rw [result, ← hs]
  rw [outsAt0_C m c t (by omega) (by omega) h2]
  frame_out
  obtain ⟨-, -, -, -, e4, e5, -⟩ := index_eq t
  have h4 : iblk m c 4 t (ix2 r d) = xA m c (ix2 (tok t r) d) := by blk_ext [iblk, V, e4, tok]
  have ht : (tok t r).val / 512 = t.val / 11 := by have := r.isLt; simp only [tok]; omega
  have h5 : iblk m c 5 t (ix3 0 0 d) = gA m c (ix3 ⟨gateRow ((tok t r).val / 512), by unfold gateRow; have := (tok t r).isLt; split <;> omega⟩ 0 d) := by
    blk_ext [iblk, V, e5, ht]
  rw [← h4, ← h5]
  pointwise [k0_pay4]

/-- Where the place `(r, d)` of the block that point `t` writes back lies in the result array. -/
theorem place (t : Fin cfg0.N) (r : Fin 512) (d : Fin 2048) :
    (((cfg0.win 6).blk t).view.emb (ix2 r d) 0 : Fin 24576) = tok t r ∧ (((cfg0.win 6).blk t).view.emb (ix2 r d) 1 : Fin 2048) = d := by
  obtain ⟨-, -, -, -, -, -, e6⟩ := index_eq t
  constructor
  · apply Fin.ext; blk_simp [e6, tok]
  · apply Fin.ext; blk_simp [e6]

/-- The result array after the run. -/
theorem final : (dats m 0 c).arrAt 6 cfg0.N = fun j => result m c (j 0) (j 1) := by
  refine (dats m 0 c).arrAt_eq_of_covers 6 _ (by decide +kernel) fun t hf y => ?_
  have h2 := (flush0_6 t).mp hf
  idx_vars y
  obtain ⟨p0, p1⟩ := place t y0 y1
  show (dats m 0 c).after 6 t (ix2 y0 y1) = result m c (((cfg0.win 6).blk t).view.emb (ix2 y0 y1) 0) (((cfg0.win 6).blk t).view.emb (ix2 y0 y1) 1)
  rw [after0_6, p0, p1]
  exact out_last m c t h2 y0 y1

end Cert.Kernel2Ideal.Dense
end
-- ==== Proof.DenseClaim.lean ====
/- The dense feed-forward call against its reference: both programs run and their results are equal. -/
module

public import proofs.«01_k».proof.Defs
public import proofs.«01_k».proof.Proof.DenseValue
public import proofs.«01_k».proof.Proof.Gen.Reference2Ideal.Run
public import Idealize.ShloMosaic.Lib.Claim
public import Idealize.ShloMosaic.Lib.Quiescent
public import Idealize.ShloMosaic.Lib.Tactic.CleanTypes

@[expose] public section

set_option maxRecDepth 16384

noncomputable section

namespace Cert.Dense

open Cert.Swiglu Cert.Kernel2Ideal.Dense
open Idealize.ShloMosaic Idealize.ShloMosaic.TcCoe Idealize.SL.Sem

section Reference
open Cert.Reference2Ideal Cert.Reference2Ideal.Gen

/-- A product `h @ w` of the reference. -/
abbrev proj (h : FVec Ideal S24576x2048 .bf16) (w : FVec Ideal S2048x5632 .bf16) : FVec Ideal S24576x5632 .f32 :=
  Host.dotGeneral dot_S24576x2048_S2048x5632_S24576x5632_1_0_0_1_n_n none (extf .f32 h bitsLt_bf16_f32) (extf .f32 w bitsLt_bf16_f32)

/-- One product of the reference at a token and a hidden feature. -/
theorem proj_apply (h : FVec Ideal S24576x2048 .bf16) (w : FVec Ideal S2048x5632 .bf16) (a : Fin 24576) (k : Fin 5632) :
    proj h w (ix2 a k) = ∑ q : Fin 2048, h (ix2 a q) * w (ix2 q k) := by
  pointwise [proj]

/-- The hidden features of the reference from its two products. -/
abbrev hid (A B : FVec Ideal S24576x5632 .f32) : FVec Ideal S24576x5632 .f32 :=
  mulf (mulf A (Host.divf (broadcastInDim S24576x5632 ![] bcast_S_S24576x5632 (constant S_ .f32 0x3F800000#32))
    (addf (broadcastInDim S24576x5632 ![] bcast_S_S24576x5632 (constant S_ .f32 0x3F800000#32)) (Host.exp (Host.negf A))))) B

/-- A hidden feature of the reference: the first product's SiLU times the second product. -/
theorem hid_apply (A B : FVec Ideal S24576x5632 .f32) (a : Fin 24576) (k : Fin 5632) :
    hid A B (ix2 a k) = A (ix2 a k) * Ideal.logistic (A (ix2 a k)) * B (ix2 a k) := by
  pointwise [hid]
  rfl

/-- The reference's last product. -/
abbrev down (H : FVec Ideal S24576x5632 .f32) (w : FVec Ideal S5632x2048 .bf16) : FVec Ideal S24576x2048 .f32 :=
  Host.dotGeneral dot_S24576x5632_S5632x2048_S24576x2048_1_0_0_1_n_n none H (extf .f32 w bitsLt_bf16_f32)

/-- The reference's last product, entry by entry: the sum over the hidden features. -/
theorem down_apply (H : FVec Ideal S24576x5632 .f32) (w : FVec Ideal S5632x2048 .bf16) (a : Fin 24576) (d : Fin 2048) :
    down H w (ix2 a d) = ∑ k : Fin 5632, H (ix2 a k) * w (ix2 k d) := by
  pointwise [down]

/-- The gates of the 16 sequences: row 5 of the six rows of each. -/
abbrev gates (g : FVec Ideal S96x1x2048 .f32) : FVec Ideal S16x2048 .f32 :=
  shapeCast S16x2048 (extractStridedSlice S16x1x2048 ![0, 5, 0] (shapeCast S16x6x2048 g shapeCasts_S96x1x2048_S16x6x2048) slices_S16x6x2048_S16x1x2048_0_5_0) shapeCasts_S16x1x2048_S16x2048

/-- The gate of a sequence `s` is row `6 s + 5` of the modulation. -/
theorem gates_apply (g : FVec Ideal S96x1x2048 .f32) (s : Fin 16) (d : Fin 2048) :
    gates g (ix2 s d) = g (ix3 ⟨s.val * 6 + 5, by omega⟩ 0 d) := by
  pointwise [gates]

/-- The gate of every token, from the gates of the sequences. -/
abbrev spread (G : FVec Ideal S16x2048 .f32) : FVec Ideal S24576x2048 .f32 :=
  concatenate S24576x2048 0 [⟨S8192x2048, (shapeCast S8192x2048 (broadcastInDim S1x8192x2048 ![0, 1, 2] bcast_S1x1x2048_S1x8192x2048_0_1_2 (broadcastInDim S1x1x2048 ![0, 2] bcast_S1x2048_S1x1x2048_0_2 (extractStridedSlice S1x2048 ![0, 0] G slices_S16x2048_S1x2048_0_0))) shapeCasts_S1x8192x2048_S8192x2048)⟩, ⟨S16384x2048, (shapeCast S16384x2048 (broadcastInDim S8x2048x2048 ![0, 1, 2] bcast_S8x1x2048_S8x2048x2048_0_1_2 (broadcastInDim S8x1x2048 ![0, 2] bcast_S8x2048_S8x1x2048_0_2 (extractStridedSlice S8x2048 ![1, 0] G slices_S16x2048_S8x2048_1_0))) shapeCasts_S8x2048x2048_S16384x2048)⟩] concatenates_S8192x2048_S16384x2048_S24576x2048_d0

/-- A prompt token has the gate of row 0, a token of sample `s` that of row `1 + s`. -/
theorem spread_apply (G : FVec Ideal S16x2048 .f32) (a : Fin 24576) (d : Fin 2048) :
    spread G (ix2 a d) = G (ix2 ⟨if a.val < 8192 then 0 else 1 + (a.val - 8192) / 2048, by split <;> omega⟩ d) := by
  pointwise [spread]
  split <;> rename_i h
  · congr 2
  · congr 2

/-- The sequence of a token is the sequence of its tile: a tile lies in one sequence. -/
theorem gateRow_eq (a : ℕ) : (if a < 8192 then 0 else 1 + (a - 8192) / 2048) * 6 + 5 = gateRow (a / 512) := by
  unfold gateRow
  split <;> split <;> omega

/-- The reference's result, from its arguments. -/
abbrev refTerm (h : FVec Ideal S24576x2048 .bf16) (w1 w3 : FVec Ideal S2048x5632 .bf16) (w2 : FVec Ideal S5632x2048 .bf16)
    (x : FVec Ideal S24576x2048 .f32) (g : FVec Ideal S96x1x2048 .f32) : FVec Ideal S24576x2048 .f32 :=
  addf x (mulf (spread (gates g)) (down (hid (proj h w1) (proj h w3)) w2))

/-- An entry of the reference's result: the residual plus the gate times the feed-forward of the token. -/
theorem refTerm_apply (h : FVec Ideal S24576x2048 .bf16) (w1 w3 : FVec Ideal S2048x5632 .bf16) (w2 : FVec Ideal S5632x2048 .bf16)
    (x : FVec Ideal S24576x2048 .f32) (g : FVec Ideal S96x1x2048 .f32) (a : Fin 24576) (d : Fin 2048) :
    refTerm h w1 w3 w2 x g (ix2 a d)
      = x (ix2 a d) + g (ix3 ⟨gateRow (a.val / 512), by unfold gateRow; split <;> omega⟩ 0 d)
          * ∑ k : Fin 5632, hidden (fun q : Fin 2048 => h (ix2 a q)) (fun q => w1 (ix2 q k)) (fun q => w3 (ix2 q k)) * w2 (ix2 k d) := by
  show x (ix2 a d) + spread (gates g) (ix2 a d) * down (hid (proj h w1) (proj h w3)) w2 (ix2 a d) = _
  rw [spread_apply, gates_apply, down_apply]
  congr 2
  · congr 2
    exact Fin.ext (gateRow_eq a.val)
  · refine Finset.sum_congr rfl fun k _ => ?_
    rw [hid_apply, proj_apply, proj_apply]
    rfl

end Reference

/-- From equal arguments both programs run and leave the same result. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (fun j => result m c (j 0) (j 1)), ?_, ?_⟩
  · refine (θ_run (Cert.Kernel2Ideal.defs (F := Ideal)) _ _).mono (fun r h c => ?_)
      (θ_run_and (Cert.Kernel2Ideal.Gen.run_main (F := Ideal) m g) (Cert.Kernel2Ideal.Gen.frame (F := Ideal) m g))
    exact ⟨((h.1 c).1 6).trans (final m c), h.2.1 c⟩
  · refine (θ_run (Cert.Reference2Ideal.defs (F := Ideal)) _ _).mono (fun r h c => ?_) (Cert.Reference2Ideal.Value.run (F := Ideal) m' g')
    obtain ⟨hv, hrest⟩ := h c
    refine ⟨hv.trans ?_, hrest⟩
    obtain ⟨a0, a1, a2, a3, a4, a5⟩ := hargs c
    rw [a0, a1, a2, a3, a4, a5]
    funext j
    obtain ⟨a, d, rfl⟩ : ∃ (a : Fin 24576) (d : Fin 2048), j = ix2 a d := ⟨j 0, j 1, by funext b; fin_cases b <;> rfl⟩
    exact refTerm_apply _ _ _ _ _ _ a d

end Cert.Dense

end
-- ==== Proof.Gates.lean ====
/- The mixer's gates, the logistic function of a product: what its result array holds after the run over the extended reals, and that its reference computes the same. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.Gates

open Idealize.ShloMosaic Idealize.ShloMosaic.TcCoe Idealize.SL.Sem

/-- The gate of a branch of a token with features `h`, from the column `u` of the weight. -/
def entry (h u : Fin 2048 → EReal) : EReal := Ideal.logistic (∑ q, h q * u q)

section Kernel
open Cert.Kernel3Ideal Cert.Kernel3Ideal.Gen

/-- A block's result at a token `r` and a column `k`. -/
theorem pay1_apply (v0 : Vec Ideal S1024x2048 .bf16) (v1 : Vec Ideal S2048x512 .bf16) (r : Fin 1024) (k : Fin 512) :
    k0_pay1 v0 v1 (ix2 r k) = entry (fun q => v0 (ix2 r q)) (fun q => v1 (ix2 q k)) := by
  unfold entry
  pointwise [k0_pay1]

/-- Which block each window holds at the point `t`, that is at tile of tokens `t / 16` and block of columns `t % 16`. -/
theorem index_eq : ∀ t : Fin grid0.N,
    win0_0.index t = ![t.val / 16, 0] ∧ win0_1.index t = ![0, t.val % 16] ∧ win0_2.index t = ![t.val / 16, t.val % 16] := by
  decide +kernel

variable (m : (ℓ : Loc nD τ sig) → Buf (Elt Ideal) ℓ) (c : Dev nD)

/-- The tokens, as an array of numbers. -/
abbrev hA : S24576x2048.Idx → EReal := m ((c.tc : Thread nD τ).loc main_arg0)
/-- The weight. -/
abbrev wA : S2048x8192.Idx → EReal := m ((c.tc : Thread nD τ).loc main_arg1)

/-- What the call computes at token `a` and column `k`. -/
def result (a : Fin 24576) (k : Fin 8192) : EReal := entry (fun q => hA m c (ix2 a q)) (fun q => wA m c (ix2 q k))

/-- The grid has 384 points: 24 tiles of tokens by 16 blocks of columns. -/
theorem point_lt (t : Fin cfg0.N) : t.val < 384 := lt_of_lt_of_eq t.isLt N_0

/-- The token at row `r` of the tile that point `t` works on. -/
def tok (t : Fin cfg0.N) (r : Fin 1024) : Fin 24576 := ⟨t.val / 16 * 1024 + r.val, by have := point_lt t; have := r.isLt; omega⟩

/-- The column at place `k` of the block that point `t` works on. -/
def col (t : Fin cfg0.N) (k : Fin 512) : Fin 8192 := ⟨t.val % 16 * 512 + k.val, by have := k.isLt; omega⟩

/-- What a point stores for its tile and its block of columns. -/
theorem out_apply (t : Fin cfg0.N) (r : Fin 1024) (k : Fin 512) :
    out0_2 (F := Ideal) (iblk m c 0 t) (iblk m c 1 t) (ix2 r k) = result m c (tok t r) (col t k) := by
  obtain ⟨e0, e1, -⟩ := index_eq t
  have h0 : ∀ q : Fin 2048, iblk m c 0 t (ix2 r q) = hA m c (ix2 (tok t r) q) := fun q => by blk_ext [iblk, V, e0, tok]
  have h1 : ∀ q : Fin 2048, iblk m c 1 t (ix2 q k) = wA m c (ix2 q (col t k)) := fun q => by blk_ext [iblk, V, e1, col]
  frame_out
  rw [pay1_apply, result]
  simp only [h0, h1]

/-- Where the place `(r, k)` of the block that point `t` writes back lies in the result array. -/
theorem place (t : Fin cfg0.N) (r : Fin 1024) (k : Fin 512) :
    (((cfg0.win 2).blk t).view.emb (ix2 r k) 0 : Fin 24576) = tok t r ∧ (((cfg0.win 2).blk t).view.emb (ix2 r k) 1 : Fin 8192) = col t k := by
  obtain ⟨-, -, e2⟩ := index_eq t
  constructor
  · apply Fin.ext; blk_simp [e2, tok]
  · apply Fin.ext; blk_simp [e2, col]

/-- The result array after the run. -/
theorem final : (dats m 0 c).arrAt 2 cfg0.N = fun j => result m c (j 0) (j 1) := by
  refine (dats m 0 c).arrAt_eq_of_covers 2 _ (by decide +kernel) fun t hf y => ?_
  idx_vars y
  obtain ⟨p0, p1⟩ := place t y0 y1
  show (dats m 0 c).after 2 t (ix2 y0 y1) = result m c (((cfg0.win 2).blk t).view.emb (ix2 y0 y1) 0) (((cfg0.win 2).blk t).view.emb (ix2 y0 y1) 1)
  rw [after0_2, p0, p1]
  exact out_apply m c t y0 y1

end Kernel

section Reference
open Cert.Reference3Ideal Cert.Reference3Ideal.Gen

/-- The product of the reference. -/
abbrev product (h : FVec Ideal S24576x2048 .bf16) (w : FVec Ideal S2048x8192 .bf16) : FVec Ideal S24576x8192 .f32 :=
  Host.dotGeneral dot_S24576x2048_S2048x8192_S24576x8192_1_0_0_1_n_n none (extf .f32 h bitsLt_bf16_f32) (extf .f32 w bitsLt_bf16_f32)

/-- The product, entry by entry: the sum over the token's features. -/
theorem product_apply (h : FVec Ideal S24576x2048 .bf16) (w : FVec Ideal S2048x8192 .bf16) (a : Fin 24576) (k : Fin 8192) :
    product h w (ix2 a k) = ∑ q : Fin 2048, h (ix2 a q) * w (ix2 q k) := by
  pointwise [product]

/-- The reference's result, from its arguments. -/
abbrev refTerm (h : FVec Ideal S24576x2048 .bf16) (w : FVec Ideal S2048x8192 .bf16) : FVec Ideal S24576x8192 .bf16 :=
  truncf .bf16 (Host.divf (broadcastInDim S24576x8192 ![] bcast_S_S24576x8192 (constant S_ .f32 0x3F800000#32))
    (addf (broadcastInDim S24576x8192 ![] bcast_S_S24576x8192 (constant S_ .f32 0x3F800000#32)) (Host.exp (Host.negf (product h w))))) bitsLt_bf16_f32

/-- The reference's result, entry by entry. -/
theorem refTerm_apply (h : FVec Ideal S24576x2048 .bf16) (w : FVec Ideal S2048x8192 .bf16) (a : Fin 24576) (k : Fin 8192) :
    refTerm h w (ix2 a k) = entry (fun q => h (ix2 a q)) (fun q => w (ix2 q k)) := by
  unfold entry
  rw [← product_apply]
  pointwise [refTerm]
  rfl
end Reference

/-- From equal arguments both programs run and leave the same result. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (fun j => result m c (j 0) (j 1)), ?_, ?_⟩
  · refine (θ_run (Cert.Kernel3Ideal.defs (F := Ideal)) _ _).mono (fun r h c => ?_) (Cert.Kernel3Ideal.Value.run_blocks (F := Ideal) m g)
    exact ⟨(h c).1.trans (final m c), (h c).2⟩
  · refine (θ_run (Cert.Reference3Ideal.defs (F := Ideal)) _ _).mono (fun r h c => ?_) (Cert.Reference3Ideal.Value.run (F := Ideal) m' g')
    obtain ⟨hv, hrest⟩ := h c
    refine ⟨hv.trans ?_, hrest⟩
    obtain ⟨a0, a1⟩ := hargs c
    rw [a0, a1]
    funext j
    obtain ⟨a, k, rfl⟩ : ∃ (a : Fin 24576) (k : Fin 8192), j = ix2 a k := ⟨j 0, j 1, by funext b; fin_cases b <;> rfl⟩
    exact refTerm_apply _ _ a k

end Cert.Gates

end
-- ==== Proof.InProj.lean ====
/- The mixer's input projection: what its result array holds after the run over the extended reals, and that its reference computes the same. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.InProj

open Idealize.ShloMosaic Idealize.ShloMosaic.TcCoe Idealize.SL.Sem

/-- A projected feature of a token with features `h`, from the column `u` of the weight. -/
def entry (h u : Fin 2048 → EReal) : EReal := ∑ q, h q * u q

section Kernel
open Cert.Kernel4Ideal Cert.Kernel4Ideal.Gen

/-- A block's result at a token `r` and a column `k`. -/
theorem pay1_apply (v0 : Vec Ideal S1024x2048 .bf16) (v1 : Vec Ideal S2048x512 .bf16) (r : Fin 1024) (k : Fin 512) :
    k0_pay1 v0 v1 (ix2 r k) = entry (fun q => v0 (ix2 r q)) (fun q => v1 (ix2 q k)) := by
  unfold entry
  pointwise [k0_pay1]

/-- Which block each window holds at the point `t`, that is at tile of tokens `t / 7` and block of columns `t % 7`. -/
theorem index_eq : ∀ t : Fin grid0.N,
    win0_0.index t = ![t.val / 7, 0] ∧ win0_1.index t = ![0, t.val % 7] ∧ win0_2.index t = ![t.val / 7, t.val % 7] := by
  decide +kernel

variable (m : (ℓ : Loc nD τ sig) → Buf (Elt Ideal) ℓ) (c : Dev nD)

/-- The tokens, as an array of numbers. -/
abbrev hA : S24576x2048.Idx → EReal := m ((c.tc : Thread nD τ).loc main_arg0)
/-- The weight. -/
abbrev wA : S2048x3584.Idx → EReal := m ((c.tc : Thread nD τ).loc main_arg1)

/-- What the call computes at token `a` and column `k`. -/
def result (a : Fin 24576) (k : Fin 3584) : EReal := entry (fun q => hA m c (ix2 a q)) (fun q => wA m c (ix2 q k))

/-- The grid has 168 points: 24 tiles of tokens by 7 blocks of columns. -/
theorem point_lt (t : Fin cfg0.N) : t.val < 168 := lt_of_lt_of_eq t.isLt N_0

/-- The token at row `r` of the tile that point `t` works on. -/
def tok (t : Fin cfg0.N) (r : Fin 1024) : Fin 24576 := ⟨t.val / 7 * 1024 + r.val, by have := point_lt t; have := r.isLt; omega⟩

/-- The column at place `k` of the block that point `t` works on. -/
def col (t : Fin cfg0.N) (k : Fin 512) : Fin 3584 := ⟨t.val % 7 * 512 + k.val, by have := k.isLt; omega⟩

/-- What a point stores for its tile and its block of columns. -/
theorem out_apply (t : Fin cfg0.N) (r : Fin 1024) (k : Fin 512) :
    out0_2 (F := Ideal) (iblk m c 0 t) (iblk m c 1 t) (ix2 r k) = result m c (tok t r) (col t k) := by
  obtain ⟨e0, e1, -⟩ := index_eq t
  have h0 : ∀ q : Fin 2048, iblk m c 0 t (ix2 r q) = hA m c (ix2 (tok t r) q) := fun q => by blk_ext [iblk, V, e0, tok]
  have h1 : ∀ q : Fin 2048, iblk m c 1 t (ix2 q k) = wA m c (ix2 q (col t k)) := fun q => by blk_ext [iblk, V, e1, col]
  frame_out
  rw [pay1_apply, result]
  simp only [h0, h1]

/-- Where the place `(r, k)` of the block that point `t` writes back lies in the result array. -/
theorem place (t : Fin cfg0.N) (r : Fin 1024) (k : Fin 512) :
    (((cfg0.win 2).blk t).view.emb (ix2 r k) 0 : Fin 24576) = tok t r ∧ (((cfg0.win 2).blk t).view.emb (ix2 r k) 1 : Fin 3584) = col t k := by
  obtain ⟨-, -, e2⟩ := index_eq t
  constructor
  · apply Fin.ext; blk_simp [e2, tok]
  · apply Fin.ext; blk_simp [e2, col]

/-- The result array after the run. -/
theorem final : (dats m 0 c).arrAt 2 cfg0.N = fun j => result m c (j 0) (j 1) := by
  refine (dats m 0 c).arrAt_eq_of_covers 2 _ (by decide +kernel) fun t hf y => ?_
  idx_vars y
  obtain ⟨p0, p1⟩ := place t y0 y1
  show (dats m 0 c).after 2 t (ix2 y0 y1) = result m c (((cfg0.win 2).blk t).view.emb (ix2 y0 y1) 0) (((cfg0.win 2).blk t).view.emb (ix2 y0 y1) 1)
  rw [after0_2, p0, p1]
  exact out_apply m c t y0 y1

end Kernel

section Reference
open Cert.Reference4Ideal Cert.Reference4Ideal.Gen

/-- The product of the reference. -/
abbrev product (h : FVec Ideal S24576x2048 .bf16) (w : FVec Ideal S2048x3584 .bf16) : FVec Ideal S24576x3584 .f32 :=
  Host.dotGeneral dot_S24576x2048_S2048x3584_S24576x3584_1_0_0_1_n_n none (extf .f32 h bitsLt_bf16_f32) (extf .f32 w bitsLt_bf16_f32)

/-- The product, entry by entry: the sum over the token's features. -/
theorem product_apply (h : FVec Ideal S24576x2048 .bf16) (w : FVec Ideal S2048x3584 .bf16) (a : Fin 24576) (k : Fin 3584) :
    product h w (ix2 a k) = ∑ q : Fin 2048, h (ix2 a q) * w (ix2 q k) := by
  pointwise [product]

/-- The reference's result, from its arguments. -/
abbrev refTerm (h : FVec Ideal S24576x2048 .bf16) (w : FVec Ideal S2048x3584 .bf16) : FVec Ideal S24576x3584 .f32 :=
  product h w

/-- The reference's result, entry by entry. -/
theorem refTerm_apply (h : FVec Ideal S24576x2048 .bf16) (w : FVec Ideal S2048x3584 .bf16) (a : Fin 24576) (k : Fin 3584) :
    refTerm h w (ix2 a k) = entry (fun q => h (ix2 a q)) (fun q => w (ix2 q k)) := by
  unfold entry
  rw [← product_apply]

end Reference

/-- From equal arguments both programs run and leave the same result. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (fun j => result m c (j 0) (j 1)), ?_, ?_⟩
  · refine (θ_run (Cert.Kernel4Ideal.defs (F := Ideal)) _ _).mono (fun r h c => ?_) (Cert.Kernel4Ideal.Value.run_blocks (F := Ideal) m g)
    exact ⟨(h c).1.trans (final m c), (h c).2⟩
  · refine (θ_run (Cert.Reference4Ideal.defs (F := Ideal)) _ _).mono (fun r h c => ?_) (Cert.Reference4Ideal.Value.run (F := Ideal) m' g')
    obtain ⟨hv, hrest⟩ := h c
    refine ⟨hv.trans ?_, hrest⟩
    obtain ⟨a0, a1⟩ := hargs c
    rw [a0, a1]
    funext j
    obtain ⟨a, k, rfl⟩ : ∃ (a : Fin 24576) (k : Fin 3584), j = ix2 a k := ⟨j 0, j 1, by funext b; fin_cases b <;> rfl⟩
    exact refTerm_apply _ _ a k

end Cert.InProj

end
-- ==== Proof.Merge.lean ====
/- The merge of the mixer's four branches: what its result array holds after the run over the extended reals, and that its reference
   computes the same. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.Merge

open Idealize.ShloMosaic Idealize.ShloMosaic.TcCoe Idealize.SL.Sem

/-- A feature of a token after the merge: over the four branches, the gate `g n` times the product of the branch's features `b n`
    with a column `u n` of its weight. -/
def entry (g : Fin 4 → EReal) (b u : Fin 4 → Fin 512 → EReal) : EReal := ∑ n, g n * ∑ q, b n q * u n q

section Kernel
open Cert.Kernel5Ideal Cert.Kernel5Ideal.Gen

/-- A tile's result at a token `r` and a feature `d`. -/
theorem pay_apply (b0 b1 b2 b3 : Vec Ideal S512x512 .bf16) (w0 w1 w2 w3 : Vec Ideal S1x512x2048 .bf16)
    (g0 g1 g2 g3 : Vec Ideal S512x2048 .bf16) (r : Fin 512) (d : Fin 2048) :
    k0_pay1 (k0_pay2 b0 w0 g0 b1 w1 g1 b2 w2 g2) (k0_pay3 b3 w3) g3 (ix2 r d)
      = entry ![g0 (ix2 r d), g1 (ix2 r d), g2 (ix2 r d), g3 (ix2 r d)]
          ![fun q => b0 (ix2 r q), fun q => b1 (ix2 r q), fun q => b2 (ix2 r q), fun q => b3 (ix2 r q)]
          ![fun q => w0 (ix3 0 q d), fun q => w1 (ix3 0 q d), fun q => w2 (ix3 0 q d), fun q => w3 (ix3 0 q d)] := by
  unfold entry
  rw [Fin.sum_univ_four]
  pointwise [k0_pay1, k0_pay2, k0_pay3]

/-- Which block each window holds at the point `t`, which works on the tile of tokens `t`. -/
theorem index_eq : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![t.val, 0] := by
  decide +kernel

variable (m : (ℓ : Loc nD τ sig) → Buf (Elt Ideal) ℓ) (c : Dev nD)

/-- The four branches, as arrays of numbers. -/
abbrev bA : Fin 4 → S24576x512.Idx → EReal := ![m ((c.tc : Thread nD τ).loc main_arg0), m ((c.tc : Thread nD τ).loc main_arg1),
  m ((c.tc : Thread nD τ).loc main_arg2), m ((c.tc : Thread nD τ).loc main_arg3)]
/-- The gates, the four branches' side by side. -/
abbrev gA : S24576x8192.Idx → EReal := m ((c.tc : Thread nD τ).loc main_arg4)
/-- The branches' weights. -/
abbrev wA : S4x512x2048.Idx → EReal := m ((c.tc : Thread nD τ).loc main_arg5)

/-- What the call computes at token `a` and feature `d`. -/
def result (a : Fin 24576) (d : Fin 2048) : EReal :=
  entry (fun n => gA m c (ix2 a ⟨n.val * 2048 + d.val, by omega⟩)) (fun n q => bA m c n (ix2 a q)) (fun n q => wA m c (ix3 n q d))

/-- The grid has 48 points, one for each tile of tokens. -/
theorem point_lt (t : Fin cfg0.N) : t.val < 48 := lt_of_lt_of_eq t.isLt N_0

/-- The token at row `r` of the tile that point `t` works on. -/
def tok (t : Fin cfg0.N) (r : Fin 512) : Fin 24576 := ⟨t.val * 512 + r.val, by have := point_lt t; have := r.isLt; omega⟩

/-- What a point stores for its tile. -/
theorem out_apply (t : Fin cfg0.N) (r : Fin 512) (d : Fin 2048) :
    out0_6 (F := Ideal) (iblk m c 0 t) (iblk m c 1 t) (iblk m c 2 t) (iblk m c 3 t) (iblk m c 4 t) (iblk m c 5 t) (ix2 r d) = result m c (tok t r) d := by
  obtain ⟨e0, e1, e2, e3, e4, e5, -⟩ := index_eq t
  have h0 : ∀ q : Fin 512, iblk m c 0 t (ix2 r q) = bA m c 0 (ix2 (tok t r) q) := fun q => by blk_ext [iblk, V, e0, tok]
  have h1 : ∀ q : Fin 512, iblk m c 1 t (ix2 r q) = bA m c 1 (ix2 (tok t r) q) := fun q => by blk_ext [iblk, V, e1, tok]
  have h2 : ∀ q : Fin 512, iblk m c 2 t (ix2 r q) = bA m c 2 (ix2 (tok t r) q) := fun q => by blk_ext [iblk, V, e2, tok]
  have h3 : ∀ q : Fin 512, iblk m c 3 t (ix2 r q) = bA m c 3 (ix2 (tok t r) q) := fun q => by blk_ext [iblk, V, e3, tok]
  have h4 : ∀ k : Fin 8192, iblk m c 4 t (ix2 r k) = gA m c (ix2 (tok t r) k) := fun k => by blk_ext [iblk, V, e4, tok]
  have h5 : ∀ (n : Fin 4) (q : Fin 512), iblk m c 5 t (ix3 n q d) = wA m c (ix3 n q d) := fun n q => by blk_ext [iblk, V, e5]
  have g0 : View.ld (iblk m c 4 t) r0_2 (ix2 r d) = gA m c (ix2 (tok t r) ⟨0 * 2048 + d.val, by omega⟩) := by
    rw [← h4]; exact congrArg (iblk m c 4 t) (by funext b; fin_cases b <;> (apply Fin.ext; show _ + _ * _ = _; simp [ix2, ix3]))
  have u0 : ∀ q : Fin 512, View.ld (iblk m c 5 t) r0_1 (ix3 0 q d) = wA m c (ix3 0 q d) := fun q => by
    rw [← h5]; exact congrArg (iblk m c 5 t) (by funext b; fin_cases b <;> (apply Fin.ext; show _ + _ * _ = _; simp [ix2, ix3]))
  have g1 : View.ld (iblk m c 4 t) r0_4 (ix2 r d) = gA m c (ix2 (tok t r) ⟨1 * 2048 + d.val, by omega⟩) := by
    rw [← h4]; exact congrArg (iblk m c 4 t) (by funext b; fin_cases b <;> (apply Fin.ext; show _ + _ * _ = _; simp [ix2, ix3]))
  have u1 : ∀ q : Fin 512, View.ld (iblk m c 5 t) r0_3 (ix3 0 q d) = wA m c (ix3 1 q d) := fun q => by
    rw [← h5]; exact congrArg (iblk m c 5 t) (by funext b; fin_cases b <;> (apply Fin.ext; show _ + _ * _ = _; simp [ix2, ix3]))
  have g2 : View.ld (iblk m c 4 t) r0_6 (ix2 r d) = gA m c (ix2 (tok t r) ⟨2 * 2048 + d.val, by omega⟩) := by
    rw [← h4]; exact congrArg (iblk m c 4 t) (by funext b; fin_cases b <;> (apply Fin.ext; show _ + _ * _ = _; simp [ix2, ix3]))
  have u2 : ∀ q : Fin 512, View.ld (iblk m c 5 t) r0_5 (ix3 0 q d) = wA m c (ix3 2 q d) := fun q => by
    rw [← h5]; exact congrArg (iblk m c 5 t) (by funext b; fin_cases b <;> (apply Fin.ext; show _ + _ * _ = _; simp [ix2, ix3]))
  have g3 : View.ld (iblk m c 4 t) r0_8 (ix2 r d) = gA m c (ix2 (tok t r) ⟨3 * 2048 + d.val, by omega⟩) := by
    rw [← h4]; exact congrArg (iblk m c 4 t) (by funext b; fin_cases b <;> (apply Fin.ext; show _ + _ * _ = _; simp [ix2, ix3]))
  have u3 : ∀ q : Fin 512, View.ld (iblk m c 5 t) r0_7 (ix3 0 q d) = wA m c (ix3 3 q d) := fun q => by
    rw [← h5]; exact congrArg (iblk m c 5 t) (by funext b; fin_cases b <;> (apply Fin.ext; show _ + _ * _ = _; simp [ix2, ix3]))
  frame_out
  rw [pay_apply, result]
  simp only [g0, g1, g2, g3, u0, u1, u2, u3, h0, h1, h2, h3]
  unfold entry
  rw [Fin.sum_univ_four, Fin.sum_univ_four]
  rfl

/-- Where the place `(r, d)` of the block that point `t` writes back lies in the result array. -/
theorem place (t : Fin cfg0.N) (r : Fin 512) (d : Fin 2048) :
    (((cfg0.win 6).blk t).view.emb (ix2 r d) 0 : Fin 24576) = tok t r ∧ (((cfg0.win 6).blk t).view.emb (ix2 r d) 1 : Fin 2048) = d := by
  obtain ⟨-, -, -, -, -, -, e6⟩ := index_eq t
  constructor
  · apply Fin.ext; blk_simp [e6, tok]
  · apply Fin.ext; blk_simp [e6]

/-- The result array after the run. -/
theorem final : (dats m 0 c).arrAt 6 cfg0.N = fun j => result m c (j 0) (j 1) := by
  refine (dats m 0 c).arrAt_eq_of_covers 6 _ (by decide +kernel) fun t hf y => ?_
  idx_vars y
  obtain ⟨p0, p1⟩ := place t y0 y1
  show (dats m 0 c).after 6 t (ix2 y0 y1) = result m c (((cfg0.win 6).blk t).view.emb (ix2 y0 y1) 0) (((cfg0.win 6).blk t).view.emb (ix2 y0 y1) 1)
  rw [after0_6, p0, p1]
  exact out_apply m c t y0 y1

end Kernel

section Reference
open Cert.Reference5Ideal Cert.Reference5Ideal.Gen

/-- The four branches stacked along a new axis. -/
abbrev stack (b0 b1 b2 b3 : FVec Ideal S24576x512 .bf16) : FVec Ideal S24576x4x512 .bf16 :=
  concatenate S24576x4x512 1 [⟨S24576x1x512, broadcastInDim S24576x1x512 ![0, 2] bcast_S24576x512_S24576x1x512_0_2 b0⟩,
    ⟨S24576x1x512, broadcastInDim S24576x1x512 ![0, 2] bcast_S24576x512_S24576x1x512_0_2 b1⟩,
    ⟨S24576x1x512, broadcastInDim S24576x1x512 ![0, 2] bcast_S24576x512_S24576x1x512_0_2 b2⟩,
    ⟨S24576x1x512, broadcastInDim S24576x1x512 ![0, 2] bcast_S24576x512_S24576x1x512_0_2 b3⟩] concatenates_S24576x1x512_S24576x1x512_S24576x1x512_S24576x1x512_S24576x4x512_d1

/-- The stack, entry by entry. -/
theorem stack_apply (b0 b1 b2 b3 : FVec Ideal S24576x512 .bf16) (a : Fin 24576) (n : Fin 4) (q : Fin 512) :
    stack b0 b1 b2 b3 (ix3 a n q) = (![b0, b1, b2, b3] : Fin 4 → S24576x512.Idx → EReal) n (ix2 a q) := by
  fin_cases n <;> pointwise [stack]

/-- The products of the branches with their weights. -/
abbrev up (s : FVec Ideal S24576x4x512 .bf16) (w : FVec Ideal S4x512x2048 .bf16) : FVec Ideal S24576x4x2048 .f32 :=
  transpose S24576x4x2048 [2, 0, 1] (Host.dotGeneral dot_S4x512x2048_S24576x4x512_S4x2048x24576_1_2_2_0_0_1 none (extf .f32 w bitsLt_bf16_f32) (extf .f32 s bitsLt_bf16_f32)) transposes_S4x2048x24576_S24576x4x2048_2_0_1

/-- A branch's product, entry by entry. -/
theorem up_apply (s : FVec Ideal S24576x4x512 .bf16) (w : FVec Ideal S4x512x2048 .bf16) (a : Fin 24576) (n : Fin 4) (d : Fin 2048) :
    up s w (ix3 a n d) = ∑ q : Fin 512, w (ix3 n q d) * s (ix3 a n q) := by
  pointwise [up]

/-- The sum over the branches of the gates times the products. -/
abbrev gated (g : FVec Ideal S24576x8192 .bf16) (u : FVec Ideal S24576x4x2048 .f32) : FVec Ideal S24576x2048 .bf16 :=
  truncf .bf16 (Host.dotGeneral dot_S24576x4x2048_S24576x4x2048_S24576x2048_1_1_n_n_02_02 none (shapeCast S24576x4x2048 (extf .f32 g bitsLt_bf16_f32) shapeCasts_S24576x8192_S24576x4x2048) u) bitsLt_bf16_f32

/-- That sum, entry by entry. -/
theorem gated_apply (g : FVec Ideal S24576x8192 .bf16) (u : FVec Ideal S24576x4x2048 .f32) (a : Fin 24576) (d : Fin 2048) :
    gated g u (ix2 a d) = ∑ n : Fin 4, g (ix2 a ⟨n.val * 2048 + d.val, by omega⟩) * u (ix3 a n d) := by
  pointwise [gated]

/-- The reference's result, from its arguments. -/
abbrev refTerm (b0 b1 b2 b3 : FVec Ideal S24576x512 .bf16) (g : FVec Ideal S24576x8192 .bf16) (w : FVec Ideal S4x512x2048 .bf16) :
    FVec Ideal S24576x2048 .bf16 := gated g (up (stack b0 b1 b2 b3) w)

/-- The reference's result, entry by entry. -/
theorem refTerm_apply (b0 b1 b2 b3 : FVec Ideal S24576x512 .bf16) (g : FVec Ideal S24576x8192 .bf16) (w : FVec Ideal S4x512x2048 .bf16)
    (a : Fin 24576) (d : Fin 2048) :
    refTerm b0 b1 b2 b3 g w (ix2 a d) = entry (fun n => g (ix2 a ⟨n.val * 2048 + d.val, by omega⟩))
      (fun n q => (![b0, b1, b2, b3] : Fin 4 → S24576x512.Idx → EReal) n (ix2 a q)) (fun n q => w (ix3 n q d)) := by
  rw [refTerm, gated_apply, entry]
  refine Finset.sum_congr rfl fun n _ => ?_
  rw [up_apply]
  refine congrArg _ (Finset.sum_congr rfl fun q _ => ?_)
  rw [stack_apply]
  exact mul_comm _ _

end Reference

/-- From equal arguments both programs run and leave the same result. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (fun j => result m c (j 0) (j 1)), ?_, ?_⟩
  · refine (θ_run (Cert.Kernel5Ideal.defs (F := Ideal)) _ _).mono (fun r h c => ?_) (Cert.Kernel5Ideal.Value.run_blocks (F := Ideal) m g)
    exact ⟨(h c).1.trans (final m c), (h c).2⟩
  · refine (θ_run (Cert.Reference5Ideal.defs (F := Ideal)) _ _).mono (fun r h c => ?_) (Cert.Reference5Ideal.Value.run (F := Ideal) m' g')
    obtain ⟨hv, hrest⟩ := h c
    refine ⟨hv.trans ?_, hrest⟩
    obtain ⟨a0, a1, a2, a3, a4, a5⟩ := hargs c
    rw [a0, a1, a2, a3, a4, a5]
    funext j
    obtain ⟨a, d, rfl⟩ : ∃ (a : Fin 24576) (d : Fin 2048), j = ix2 a d := ⟨j 0, j 1, by funext b; fin_cases b <;> rfl⟩
    exact refTerm_apply _ _ _ _ _ _ a d

end Cert.Merge

end
-- ==== Proof.OutProj.lean ====
/- The mixer's output projection with its gate and residual: what its result array holds after the run over the extended reals, and
   that its reference computes the same. -/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.OutProj

open Idealize.ShloMosaic Idealize.ShloMosaic.TcCoe Idealize.SL.Sem

/-- A feature of a token after the projection: its residual `x` plus the gate `g` times the product of the merged features `a`
    with a column `u` of the weight. -/
def entry (x g : EReal) (a u : Fin 2048 → EReal) : EReal := x + g * ∑ q, a q * u q

/-- The row of the modulation from which the tile of tokens `i` takes its gate: row 2 of sequence 0 for the prompt's 16 tiles, and
    of the sequences 1, 2, … for four tiles each after them. -/
def gateRow (i : ℕ) : ℕ := (if i < 16 then 0 else 1 + (i - 16) / 4) * 6 + 2

/-- A tile's row is one of the 96. -/
theorem gateRow_lt {i : ℕ} (h : i < 48) : gateRow i < 96 := by unfold gateRow; split <;> omega

section Kernel
open Cert.Kernel6Ideal Cert.Kernel6Ideal.Gen

/-- A tile's result at a token `r` and a feature `d`. -/
theorem pay1_apply (v0 : Vec Ideal S512x2048 .bf16) (v1 : Vec Ideal S2048x2048 .bf16) (v3 : Vec Ideal S512x2048 .f32)
    (v4 : Vec Ideal S1x1x2048 .f32) (r : Fin 512) (d : Fin 2048) :
    k0_pay1 v0 v1 v3 v4 (ix2 r d) = entry (v3 (ix2 r d)) (v4 (ix3 0 0 d)) (fun q => v0 (ix2 r q)) (fun q => v1 (ix2 q d)) := by
  unfold entry
  pointwise [k0_pay1]

/-- Which block each window holds at the point `t`, which works on the tile of tokens `t`. -/
theorem index_eq : ∀ t : Fin grid0.N,
    win0_0.index t = ![t.val, 0] ∧ win0_1.index t = ![0, 0] ∧ win0_2.index t = ![t.val, 0] ∧ win0_3.index t = ![gateRow t.val, 0, 0]
    ∧ win0_4.index t = ![t.val, 0] := by
  decide +kernel

variable (m : (ℓ : Loc nD τ sig) → Buf (Elt Ideal) ℓ) (c : Dev nD)

/-- The merged branches, as an array of numbers. -/
abbrev aA : S24576x2048.Idx → EReal := m ((c.tc : Thread nD τ).loc main_arg0)
/-- The weight. -/
abbrev wA : S2048x2048.Idx → EReal := m ((c.tc : Thread nD τ).loc main_arg1)
/-- The residual. -/
abbrev xA : S24576x2048.Idx → EReal := m ((c.tc : Thread nD τ).loc main_arg2)
/-- The modulation. -/
abbrev gA : S96x1x2048.Idx → EReal := m ((c.tc : Thread nD τ).loc main_arg3)

/-- What the call computes at token `a` and feature `d`. -/
def result (a : Fin 24576) (d : Fin 2048) : EReal :=
  entry (xA m c (ix2 a d)) (gA m c (ix3 ⟨gateRow (a.val / 512), gateRow_lt (by omega)⟩ 0 d)) (fun q => aA m c (ix2 a q)) (fun q => wA m c (ix2 q d))

/-- The grid has 48 points, one for each tile of tokens. -/
theorem point_lt (t : Fin cfg0.N) : t.val < 48 := lt_of_lt_of_eq t.isLt N_0

/-- The token at row `r` of the tile that point `t` works on. -/
def tok (t : Fin cfg0.N) (r : Fin 512) : Fin 24576 := ⟨t.val * 512 + r.val, by have := point_lt t; have := r.isLt; omega⟩

/-- What a point stores for its tile. -/
theorem out_apply (t : Fin cfg0.N) (r : Fin 512) (d : Fin 2048) :
    out0_4 (F := Ideal) (iblk m c 0 t) (iblk m c 1 t) (iblk m c 2 t) (iblk m c 3 t) (ix2 r d) = result m c (tok t r) d := by
  obtain ⟨e0, e1, e2, e3, -⟩ := index_eq t
  have ht : (tok t r).val / 512 = t.val := by have := r.isLt; simp only [tok]; omega
  have h0 : ∀ q : Fin 2048, iblk m c 0 t (ix2 r q) = aA m c (ix2 (tok t r) q) := fun q => by blk_ext [iblk, V, e0, tok]
  have h1 : ∀ q : Fin 2048, iblk m c 1 t (ix2 q d) = wA m c (ix2 q d) := fun q => by blk_ext [iblk, V, e1]
  have h2 : iblk m c 2 t (ix2 r d) = xA m c (ix2 (tok t r) d) := by blk_ext [iblk, V, e2, tok]
  have h3 : iblk m c 3 t (ix3 0 0 d) = gA m c (ix3 ⟨gateRow ((tok t r).val / 512), gateRow_lt (by have := (tok t r).isLt; omega)⟩ 0 d) := by
    blk_ext [iblk, V, e3, ht]
  frame_out
  rw [pay1_apply, result]
  simp only [h0, h1, h2, h3]

/-- Where the place `(r, d)` of the block that point `t` writes back lies in the result array. -/
theorem place (t : Fin cfg0.N) (r : Fin 512) (d : Fin 2048) :
    (((cfg0.win 4).blk t).view.emb (ix2 r d) 0 : Fin 24576) = tok t r ∧ (((cfg0.win 4).blk t).view.emb (ix2 r d) 1 : Fin 2048) = d := by
  obtain ⟨-, -, -, -, e4⟩ := index_eq t
  constructor
  · apply Fin.ext; blk_simp [e4, tok]
  · apply Fin.ext; blk_simp [e4]

/-- The result array after the run. -/
theorem final : (dats m 0 c).arrAt 4 cfg0.N = fun j => result m c (j 0) (j 1) := by
  refine (dats m 0 c).arrAt_eq_of_covers 4 _ (by decide +kernel) fun t hf y => ?_
  idx_vars y
  obtain ⟨p0, p1⟩ := place t y0 y1
  show (dats m 0 c).after 4 t (ix2 y0 y1) = result m c (((cfg0.win 4).blk t).view.emb (ix2 y0 y1) 0) (((cfg0.win 4).blk t).view.emb (ix2 y0 y1) 1)
  rw [after0_4, p0, p1]
  exact out_apply m c t y0 y1

end Kernel

section Reference
open Cert.Reference6Ideal Cert.Reference6Ideal.Gen

/-- The product of the reference. -/
abbrev product (h : FVec Ideal S24576x2048 .bf16) (w : FVec Ideal S2048x2048 .bf16) : FVec Ideal S24576x2048 .f32 :=
  Host.dotGeneral dot_S24576x2048_S2048x2048_S24576x2048_1_0_0_1_n_n none (extf .f32 h bitsLt_bf16_f32) (extf .f32 w bitsLt_bf16_f32)

/-- The product, entry by entry: the sum over the token's merged features. -/
theorem product_apply (h : FVec Ideal S24576x2048 .bf16) (w : FVec Ideal S2048x2048 .bf16) (a : Fin 24576) (d : Fin 2048) :
    product h w (ix2 a d) = ∑ q : Fin 2048, h (ix2 a q) * w (ix2 q d) := by
  pointwise [product]

/-- The gates of the 16 sequences: row 2 of the six rows of each. -/
abbrev gates (g : FVec Ideal S96x1x2048 .f32) : FVec Ideal S16x2048 .f32 :=
  shapeCast S16x2048 (extractStridedSlice S16x1x2048 ![0, 2, 0] (shapeCast S16x6x2048 g shapeCasts_S96x1x2048_S16x6x2048) slices_S16x6x2048_S16x1x2048_0_2_0) shapeCasts_S16x1x2048_S16x2048

/-- The gate of a sequence `s` is row `6 s + 2` of the modulation. -/
theorem gates_apply (g : FVec Ideal S96x1x2048 .f32) (s : Fin 16) (d : Fin 2048) :
    gates g (ix2 s d) = g (ix3 ⟨s.val * 6 + 2, by omega⟩ 0 d) := by
  pointwise [gates]

/-- The gate of every token, from the gates of the sequences. -/
abbrev spread (G : FVec Ideal S16x2048 .f32) : FVec Ideal S24576x2048 .f32 :=
  concatenate S24576x2048 0 [⟨S8192x2048, (shapeCast S8192x2048 (broadcastInDim S1x8192x2048 ![0, 1, 2] bcast_S1x1x2048_S1x8192x2048_0_1_2 (broadcastInDim S1x1x2048 ![0, 2] bcast_S1x2048_S1x1x2048_0_2 (extractStridedSlice S1x2048 ![0, 0] G slices_S16x2048_S1x2048_0_0))) shapeCasts_S1x8192x2048_S8192x2048)⟩, ⟨S16384x2048, (shapeCast S16384x2048 (broadcastInDim S8x2048x2048 ![0, 1, 2] bcast_S8x1x2048_S8x2048x2048_0_1_2 (broadcastInDim S8x1x2048 ![0, 2] bcast_S8x2048_S8x1x2048_0_2 (extractStridedSlice S8x2048 ![1, 0] G slices_S16x2048_S8x2048_1_0))) shapeCasts_S8x2048x2048_S16384x2048)⟩] concatenates_S8192x2048_S16384x2048_S24576x2048_d0

/-- A prompt token has the gate of row 0, a token of sample `s` that of row `1 + s`. -/
theorem spread_apply (G : FVec Ideal S16x2048 .f32) (a : Fin 24576) (d : Fin 2048) :
    spread G (ix2 a d) = G (ix2 ⟨if a.val < 8192 then 0 else 1 + (a.val - 8192) / 2048, by split <;> omega⟩ d) := by
  pointwise [spread]
  split <;> rename_i h
  · congr 2
  · congr 2

/-- The sequence of a token is the sequence of its tile: a tile lies in one sequence. -/
theorem gateRow_eq (a : ℕ) : (if a < 8192 then 0 else 1 + (a - 8192) / 2048) * 6 + 2 = gateRow (a / 512) := by
  unfold gateRow
  split <;> split <;> omega

/-- The reference's result, from its arguments. -/
abbrev refTerm (h : FVec Ideal S24576x2048 .bf16) (w : FVec Ideal S2048x2048 .bf16) (x : FVec Ideal S24576x2048 .f32)
    (g : FVec Ideal S96x1x2048 .f32) : FVec Ideal S24576x2048 .f32 :=
  addf x (mulf (spread (gates g)) (product h w))

/-- The reference's result, entry by entry. -/
theorem refTerm_apply (h : FVec Ideal S24576x2048 .bf16) (w : FVec Ideal S2048x2048 .bf16) (x : FVec Ideal S24576x2048 .f32)
    (g : FVec Ideal S96x1x2048 .f32) (a : Fin 24576) (d : Fin 2048) :
    refTerm h w x g (ix2 a d) = entry (x (ix2 a d)) (g (ix3 ⟨gateRow (a.val / 512), gateRow_lt (by omega)⟩ 0 d)) (fun q => h (ix2 a q)) (fun q => w (ix2 q d)) := by
  show x (ix2 a d) + spread (gates g) (ix2 a d) * product h w (ix2 a d) = _
  rw [spread_apply, gates_apply, product_apply, entry]
  have e : (⟨(if a.val < 8192 then 0 else 1 + (a.val - 8192) / 2048) * 6 + 2, by split <;> omega⟩ : Fin 96)
      = ⟨gateRow (a.val / 512), gateRow_lt (by omega)⟩ := Fin.ext (gateRow_eq a.val)
  rw [e]

end Reference

/-- From equal arguments both programs run and leave the same result. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (fun j => result m c (j 0) (j 1)), ?_, ?_⟩
  · refine (θ_run (Cert.Kernel6Ideal.defs (F := Ideal)) _ _).mono (fun r h c => ?_) (Cert.Kernel6Ideal.Value.run_blocks (F := Ideal) m g)
    exact ⟨(h c).1.trans (final m c), (h c).2⟩
  · refine (θ_run (Cert.Reference6Ideal.defs (F := Ideal)) _ _).mono (fun r h c => ?_) (Cert.Reference6Ideal.Value.run (F := Ideal) m' g')
    obtain ⟨hv, hrest⟩ := h c
    refine ⟨hv.trans ?_, hrest⟩
    obtain ⟨a0, a1, a2, a3⟩ := hargs c
    rw [a0, a1, a2, a3]
    funext j
    obtain ⟨a, d, rfl⟩ : ∃ (a : Fin 24576) (d : Fin 2048), j = ix2 a d := ⟨j 0, j 1, by funext b; fin_cases b <;> rfl⟩
    exact refTerm_apply _ _ _ _ a d

end Cert.OutProj

end
-- ==== Proof.FinalNorm.lean ====
/- The final norm: what its result array holds after the run over the extended reals, and that its reference computes the same. -/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.FinalNorm

open Idealize.ShloMosaic Idealize.ShloMosaic.TcCoe Idealize.SL.Sem

/-- One normalised feature: the row's feature `x d`, times the reciprocal root of the mean of the row's squares plus `10⁻⁶`, times
    the weight `g`. -/
def norm (x : Fin 2048 → EReal) (g : EReal) (d : Fin 2048) : EReal :=
  x d * Ideal.rsqrt (Ideal.div (∑ q, x q * x q) (Ideal.ofBits FTy.f32 1157627904#32) + Ideal.ofBits FTy.f32 897988541#32) * g

section Kernel
open Cert.Kernel7Ideal Cert.Kernel7Ideal.Gen

/-- A tile's result at a token `r` and a feature `d`. -/
theorem pay1_apply (v0 : Vec Ideal S512x2048 .f32) (v1 : Vec Ideal S1x2048 .f32) (r : Fin 512) (d : Fin 2048) :
    k0_pay1 v0 v1 (ix2 r d) = norm (fun q => v0 (ix2 r q)) (v1 (ix2 0 d)) d := by
  unfold norm
  pointwise [k0_pay1]

/-- Which block each window holds at the point `t`, which works on the tile of tokens `t`. -/
theorem index_eq : ∀ t : Fin grid0.N,
    win0_0.index t = ![t.val, 0] ∧ win0_1.index t = ![0, 0] ∧ win0_2.index t = ![t.val, 0] := by
  decide +kernel

variable (m : (ℓ : Loc nD τ sig) → Buf (Elt Ideal) ℓ) (c : Dev nD)

/-- The tokens, as an array of numbers. -/
abbrev xA : S24576x2048.Idx → EReal := m ((c.tc : Thread nD τ).loc main_arg0)
/-- The norm's weight. -/
abbrev gA : S2048.Idx → EReal := m ((c.tc : Thread nD τ).loc main_arg1)

/-- What the call computes at token `a` and feature `d`. -/
def result (a : Fin 24576) (d : Fin 2048) : EReal := norm (fun q => xA m c (ix2 a q)) (gA m c (ix1 d)) d

/-- The grid has 48 points, one for each tile of tokens. -/
theorem point_lt (t : Fin cfg0.N) : t.val < 48 := lt_of_lt_of_eq t.isLt N_0

/-- The token at row `r` of the tile that point `t` works on. -/
def tok (t : Fin cfg0.N) (r : Fin 512) : Fin 24576 := ⟨t.val * 512 + r.val, by have := point_lt t; have := r.isLt; omega⟩

/-- The tokens reach the tiles as launched. -/
theorem x_eq : V m c (Pipeline.arrRef spec0 0) = xA m c := V_main_arg0 m c

/-- The weight as the host lays it out, one row. -/
theorem g_eq (d : Fin 2048) : (V m c (Pipeline.arrRef spec0 1) : S1x2048.Idx → EReal) (ix2 0 d) = gA m c (ix1 d) := by
  simp only [V, hostOps0]
  entry_read
  pointwise

/-- What a point stores for its tile. -/
theorem out_apply (t : Fin cfg0.N) (r : Fin 512) (d : Fin 2048) :
    out0_2 (F := Ideal) (iblk m c 0 t) (iblk m c 1 t) (ix2 r d) = result m c (tok t r) d := by
  obtain ⟨e0, e1, -⟩ := index_eq t
  have h0 : ∀ q : Fin 2048, iblk m c 0 t (ix2 r q) = xA m c (ix2 (tok t r) q) := fun q => by rw [← x_eq]; blk_ext [iblk, e0, tok]
  have h1 : iblk m c 1 t (ix2 0 d) = gA m c (ix1 d) := by rw [← g_eq]; blk_ext [iblk, e1]
  frame_out
  rw [pay1_apply, result]
  simp only [h0, h1]

/-- Where the place `(r, d)` of the block that point `t` writes back lies in the result array. -/
theorem place (t : Fin cfg0.N) (r : Fin 512) (d : Fin 2048) :
    (((cfg0.win 2).blk t).view.emb (ix2 r d) 0 : Fin 24576) = tok t r ∧ (((cfg0.win 2).blk t).view.emb (ix2 r d) 1 : Fin 2048) = d := by
  obtain ⟨-, -, e2⟩ := index_eq t
  constructor
  · apply Fin.ext; blk_simp [e2, tok]
  · apply Fin.ext; blk_simp [e2]

/-- The result array after the run. -/
theorem final : (dats m 0 c).arrAt 2 cfg0.N = fun j => result m c (j 0) (j 1) := by
  refine (dats m 0 c).arrAt_eq_of_covers 2 _ (by decide +kernel) fun t hf y => ?_
  idx_vars y
  obtain ⟨p0, p1⟩ := place t y0 y1
  show (dats m 0 c).after 2 t (ix2 y0 y1) = result m c (((cfg0.win 2).blk t).view.emb (ix2 y0 y1) 0) (((cfg0.win 2).blk t).view.emb (ix2 y0 y1) 1)
  rw [after0_2, p0, p1]
  exact out_apply m c t y0 y1

end Kernel

section Reference
open Cert.Reference7Ideal Cert.Reference7Ideal.Gen

/-- The reference's result, from its arguments. -/
abbrev refTerm (x : FVec Ideal S24576x2048 .f32) (g : FVec Ideal S2048 .f32) : FVec Ideal S24576x2048 .f32 :=
  mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))

/-- The reference's result, entry by entry. -/
theorem refTerm_apply (x : FVec Ideal S24576x2048 .f32) (g : FVec Ideal S2048 .f32) (a : Fin 24576) (d : Fin 2048) :
    refTerm x g (ix2 a d) = norm (fun q => x (ix2 a q)) (g (ix1 d)) d := by
  unfold norm
  pointwise [refTerm]

end Reference

/-- From equal arguments both programs run and leave the same result. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (fun j => result m c (j 0) (j 1)), ?_, ?_⟩
  · refine (θ_run (Cert.Kernel7Ideal.defs (F := Ideal)) _ _).mono (fun r h c => ?_) (Cert.Kernel7Ideal.Value.run_blocks (F := Ideal) m g)
    exact ⟨(h c).1.trans (final m c), (h c).2⟩
  · refine (θ_run (Cert.Reference7Ideal.defs (F := Ideal)) _ _).mono (fun r h c => ?_) (Cert.Reference7Ideal.Value.run (F := Ideal) m' g')
    obtain ⟨hv, hrest⟩ := h c
    refine ⟨hv.trans ?_, hrest⟩
    obtain ⟨a0, a1⟩ := hargs c
    rw [a0, a1]
    funext j
    obtain ⟨a, d, rfl⟩ : ∃ (a : Fin 24576) (d : Fin 2048), j = ix2 a d := ⟨j 0, j 1, by funext b; fin_cases b <;> rfl⟩
    exact refTerm_apply _ _ a d

end Cert.FinalNorm

end
-- ==== Proof.NormMod.lean ====
/- The mixer's modulated norm: what its result array holds after the run over the extended reals, and that its reference computes the
   same. -/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.NormMod

open Idealize.ShloMosaic Idealize.ShloMosaic.TcCoe Idealize.SL.Sem

/-- One normalised feature: the row's feature `x d`, times the reciprocal root of the mean of the row's squares plus `10⁻⁶`, times
    the weight `g`. -/
def norm (x : Fin 2048 → EReal) (g : EReal) (d : Fin 2048) : EReal :=
  x d * Ideal.rsqrt (Ideal.div (∑ q, x q * x q) (Ideal.ofBits FTy.f32 1157627904#32) + Ideal.ofBits FTy.f32 897988541#32) * g

/-- A modulated feature: the normalised feature times one plus the scale `s`, plus the shift `b`. -/
def entry (x : Fin 2048 → EReal) (g s b : EReal) (d : Fin 2048) : EReal := norm x g d * (1 + s) + b

/-- The row of the modulation from which the tile of tokens `i` takes its row `k` of six: of sequence 0 for the prompt's 16 tiles, and
    of the sequences 1, 2, … for four tiles each after them. -/
def modRow (k i : ℕ) : ℕ := (if i < 16 then 0 else 1 + (i - 16) / 4) * 6 + k

/-- A tile's row is one of the 96. -/
theorem modRow_lt {k i : ℕ} (hk : k < 6) (h : i < 48) : modRow k i < 96 := by unfold modRow; split <;> omega

section Kernel
open Cert.Kernel8Ideal Cert.Kernel8Ideal.Gen

/-- A tile's result at a token `r` and a feature `d`. -/
theorem pay1_apply (v0 : Vec Ideal S512x2048 .f32) (v1 : Vec Ideal S1x2048 .f32) (v15 : Vec Ideal S1x1x2048 .f32)
    (v21 : Vec Ideal S1x1x2048 .f32) (r : Fin 512) (d : Fin 2048) :
    k0_pay1 v0 v1 v15 v21 (ix2 r d) = entry (fun q => v0 (ix2 r q)) (v1 (ix2 0 d)) (v15 (ix3 0 0 d)) (v21 (ix3 0 0 d)) d := by
  unfold entry norm
  pointwise [k0_pay1]

/-- Which block each window holds at the point `t`, which works on the tile of tokens `t`. -/
theorem index_eq : ∀ t : Fin grid0.N,
    win0_0.index t = ![t.val, 0] ∧ win0_1.index t = ![0, 0] ∧ win0_2.index t = ![modRow 1 t.val, 0, 0] ∧ win0_3.index t = ![modRow 0 t.val, 0, 0]
    ∧ win0_4.index t = ![t.val, 0] := by
  decide +kernel

variable (m : (ℓ : Loc nD τ sig) → Buf (Elt Ideal) ℓ) (c : Dev nD)

/-- The tokens, as an array of numbers. -/
abbrev xA : S24576x2048.Idx → EReal := m ((c.tc : Thread nD τ).loc main_arg0)
/-- The norm's weight. -/
abbrev gA : S2048.Idx → EReal := m ((c.tc : Thread nD τ).loc main_arg1)
/-- The modulation. -/
abbrev pA : S96x1x2048.Idx → EReal := m ((c.tc : Thread nD τ).loc main_arg2)

/-- What the call computes at token `a` and feature `d`. -/
def result (a : Fin 24576) (d : Fin 2048) : EReal :=
  entry (fun q => xA m c (ix2 a q)) (gA m c (ix1 d)) (pA m c (ix3 ⟨modRow 1 (a.val / 512), modRow_lt (by omega) (by omega)⟩ 0 d))
    (pA m c (ix3 ⟨modRow 0 (a.val / 512), modRow_lt (by omega) (by omega)⟩ 0 d)) d

/-- The grid has 48 points, one for each tile of tokens. -/
theorem point_lt (t : Fin cfg0.N) : t.val < 48 := lt_of_lt_of_eq t.isLt N_0

/-- The token at row `r` of the tile that point `t` works on. -/
def tok (t : Fin cfg0.N) (r : Fin 512) : Fin 24576 := ⟨t.val * 512 + r.val, by have := point_lt t; have := r.isLt; omega⟩

/-- The tokens reach the tiles as launched. -/
theorem x_eq : V m c (Pipeline.arrRef spec0 0) = xA m c := V_main_arg0 m c

/-- The weight as the host lays it out, one row. -/
theorem g_eq (d : Fin 2048) : (V m c (Pipeline.arrRef spec0 1) : S1x2048.Idx → EReal) (ix2 0 d) = gA m c (ix1 d) := by
  simp only [V, hostOps0]
  entry_read
  pointwise

/-- The modulation reaches the scale's window as launched, -/
theorem s_eq : V m c (Pipeline.arrRef spec0 2) = pA m c := V_main_arg2 m c
/-- and the shift's. -/
theorem b_eq : V m c (Pipeline.arrRef spec0 3) = pA m c := V_main_arg2 m c

/-- What a point stores for its tile. -/
theorem out_apply (t : Fin cfg0.N) (r : Fin 512) (d : Fin 2048) :
    out0_4 (F := Ideal) (iblk m c 0 t) (iblk m c 1 t) (iblk m c 2 t) (iblk m c 3 t) (ix2 r d) = result m c (tok t r) d := by
  obtain ⟨e0, e1, e2, e3, -⟩ := index_eq t
  have ht : (tok t r).val / 512 = t.val := by have := r.isLt; simp only [tok]; omega
  have h0 : ∀ q : Fin 2048, iblk m c 0 t (ix2 r q) = xA m c (ix2 (tok t r) q) := fun q => by rw [← x_eq]; blk_ext [iblk, e0, tok]
  have h1 : iblk m c 1 t (ix2 0 d) = gA m c (ix1 d) := by rw [← g_eq]; blk_ext [iblk, e1]
  have h2 : iblk m c 2 t (ix3 0 0 d) = pA m c (ix3 ⟨modRow 1 ((tok t r).val / 512), modRow_lt (by omega) (by have := (tok t r).isLt; omega)⟩ 0 d) := by
    rw [← s_eq]; blk_ext [iblk, e2, ht]
  have h3 : iblk m c 3 t (ix3 0 0 d) = pA m c (ix3 ⟨modRow 0 ((tok t r).val / 512), modRow_lt (by omega) (by have := (tok t r).isLt; omega)⟩ 0 d) := by
    rw [← b_eq]; blk_ext [iblk, e3, ht]
  frame_out
  rw [pay1_apply, result]
  simp only [h0, h1, h2, h3]

/-- Where the place `(r, d)` of the block that point `t` writes back lies in the result array. -/
theorem place (t : Fin cfg0.N) (r : Fin 512) (d : Fin 2048) :
    (((cfg0.win 4).blk t).view.emb (ix2 r d) 0 : Fin 24576) = tok t r ∧ (((cfg0.win 4).blk t).view.emb (ix2 r d) 1 : Fin 2048) = d := by
  obtain ⟨-, -, -, -, e4⟩ := index_eq t
  constructor
  · apply Fin.ext; blk_simp [e4, tok]
  · apply Fin.ext; blk_simp [e4]

/-- The result array after the run. -/
theorem final : (dats m 0 c).arrAt 4 cfg0.N = fun j => result m c (j 0) (j 1) := by
  refine (dats m 0 c).arrAt_eq_of_covers 4 _ (by decide +kernel) fun t hf y => ?_
  idx_vars y
  obtain ⟨p0, p1⟩ := place t y0 y1
  show (dats m 0 c).after 4 t (ix2 y0 y1) = result m c (((cfg0.win 4).blk t).view.emb (ix2 y0 y1) 0) (((cfg0.win 4).blk t).view.emb (ix2 y0 y1) 1)
  rw [after0_4, p0, p1]
  exact out_apply m c t y0 y1

end Kernel

section Reference
open Cert.Reference8Ideal Cert.Reference8Ideal.Gen

/-- The normalised tokens of the reference. -/
abbrev norms (x : FVec Ideal S24576x2048 .f32) (g : FVec Ideal S2048 .f32) : FVec Ideal S24576x2048 .f32 :=
  mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))

/-- They are the normalised features, entry by entry. -/
theorem norms_apply (x : FVec Ideal S24576x2048 .f32) (g : FVec Ideal S2048 .f32) (a : Fin 24576) (d : Fin 2048) :
    norms x g (ix2 a d) = norm (fun q => x (ix2 a q)) (g (ix1 d)) d := by
  unfold norm
  pointwise [norms]

/-- The scale of the 16 sequences: row 1 of the six rows of each. -/
abbrev scales (p : FVec Ideal S96x1x2048 .f32) : FVec Ideal S16x2048 .f32 :=
  shapeCast S16x2048 (extractStridedSlice S16x1x2048 ![0, 1, 0] (shapeCast S16x6x2048 p shapeCasts_S96x1x2048_S16x6x2048) slices_S16x6x2048_S16x1x2048_0_1_0) shapeCasts_S16x1x2048_S16x2048

/-- The scale of a sequence `s` is row `6 s + 1` of the modulation. -/
theorem scales_apply (p : FVec Ideal S96x1x2048 .f32) (s : Fin 16) (d : Fin 2048) :
    scales p (ix2 s d) = p (ix3 ⟨s.val * 6 + 1, by omega⟩ 0 d) := by
  pointwise [scales]

/-- The shift of the 16 sequences: row 0 of the six rows of each. -/
abbrev shifts (p : FVec Ideal S96x1x2048 .f32) : FVec Ideal S16x2048 .f32 :=
  shapeCast S16x2048 (extractStridedSlice S16x1x2048 ![0, 0, 0] (shapeCast S16x6x2048 p shapeCasts_S96x1x2048_S16x6x2048) slices_S16x6x2048_S16x1x2048_0_0_0) shapeCasts_S16x1x2048_S16x2048

/-- The shift of a sequence `s` is row `6 s + 0` of the modulation. -/
theorem shifts_apply (p : FVec Ideal S96x1x2048 .f32) (s : Fin 16) (d : Fin 2048) :
    shifts p (ix2 s d) = p (ix3 ⟨s.val * 6 + 0, by omega⟩ 0 d) := by
  pointwise [shifts]

/-- The row of every token, from the rows of the sequences. -/
abbrev spread (G : FVec Ideal S16x2048 .f32) : FVec Ideal S24576x2048 .f32 :=
  concatenate S24576x2048 0 [⟨S8192x2048, (shapeCast S8192x2048 (broadcastInDim S1x8192x2048 ![0, 1, 2] bcast_S1x1x2048_S1x8192x2048_0_1_2 (broadcastInDim S1x1x2048 ![0, 2] bcast_S1x2048_S1x1x2048_0_2 (extractStridedSlice S1x2048 ![0, 0] G slices_S16x2048_S1x2048_0_0))) shapeCasts_S1x8192x2048_S8192x2048)⟩, ⟨S16384x2048, (shapeCast S16384x2048 (broadcastInDim S8x2048x2048 ![0, 1, 2] bcast_S8x1x2048_S8x2048x2048_0_1_2 (broadcastInDim S8x1x2048 ![0, 2] bcast_S8x2048_S8x1x2048_0_2 (extractStridedSlice S8x2048 ![1, 0] G slices_S16x2048_S8x2048_1_0))) shapeCasts_S8x2048x2048_S16384x2048)⟩] concatenates_S8192x2048_S16384x2048_S24576x2048_d0

/-- A prompt token has row 0, a token of sample `s` row `1 + s`. -/
theorem spread_apply (G : FVec Ideal S16x2048 .f32) (a : Fin 24576) (d : Fin 2048) :
    spread G (ix2 a d) = G (ix2 ⟨if a.val < 8192 then 0 else 1 + (a.val - 8192) / 2048, by split <;> omega⟩ d) := by
  pointwise [spread]
  split <;> rename_i h
  · congr 2
  · congr 2

/-- The sequence of a token is the sequence of its tile: a tile lies in one sequence. -/
theorem modRow_eq (k a : ℕ) : (if a < 8192 then 0 else 1 + (a - 8192) / 2048) * 6 + k = modRow k (a / 512) := by
  unfold modRow
  split <;> split <;> omega

/-- The reference's result, from its arguments. -/
abbrev refTerm (x : FVec Ideal S24576x2048 .f32) (g : FVec Ideal S2048 .f32) (p : FVec Ideal S96x1x2048 .f32) : FVec Ideal S24576x2048 .bf16 :=
  truncf .bf16 (addf (mulf (norms x g) (addf (broadcastInDim S24576x2048 ![] bcast_S_S24576x2048 (constant S_ .f32 0x3F800000#32)) (spread (scales p)))) (spread (shifts p))) bitsLt_bf16_f32

/-- The reference's result, over its named parts. -/
theorem refTerm_parts (n : FVec Ideal S24576x2048 .f32) (s b : FVec Ideal S24576x2048 .f32) (a : Fin 24576) (d : Fin 2048) :
    (truncf .bf16 (addf (mulf n (addf (broadcastInDim S24576x2048 ![] bcast_S_S24576x2048 (constant S_ .f32 0x3F800000#32)) s)) b) bitsLt_bf16_f32 : FVec Ideal S24576x2048 .bf16) (ix2 a d)
      = n (ix2 a d) * (1 + s (ix2 a d)) + b (ix2 a d) := by
  pointwise

/-- The reference's result, entry by entry. -/
theorem refTerm_apply (x : FVec Ideal S24576x2048 .f32) (g : FVec Ideal S2048 .f32) (p : FVec Ideal S96x1x2048 .f32) (a : Fin 24576) (d : Fin 2048) :
    refTerm x g p (ix2 a d) = entry (fun q => x (ix2 a q)) (g (ix1 d)) (p (ix3 ⟨modRow 1 (a.val / 512), modRow_lt (by omega) (by omega)⟩ 0 d))
      (p (ix3 ⟨modRow 0 (a.val / 512), modRow_lt (by omega) (by omega)⟩ 0 d)) d := by
  have e : ∀ k, (hk : k < 6) → (⟨(if a.val < 8192 then 0 else 1 + (a.val - 8192) / 2048) * 6 + k, by split <;> omega⟩ : Fin 96)
      = ⟨modRow k (a.val / 512), modRow_lt hk (by omega)⟩ := fun k hk => Fin.ext (modRow_eq k a.val)
  rw [refTerm, refTerm_parts, norms_apply, spread_apply, scales_apply, spread_apply, shifts_apply, entry, e 1 (by omega), e 0 (by omega)]

end Reference

/-- From equal arguments both programs run and leave the same result. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (fun j => result m c (j 0) (j 1)), ?_, ?_⟩
  · refine (θ_run (Cert.Kernel8Ideal.defs (F := Ideal)) _ _).mono (fun r h c => ?_) (Cert.Kernel8Ideal.Value.run_blocks (F := Ideal) m g)
    exact ⟨(h c).1.trans (final m c), (h c).2⟩
  · refine (θ_run (Cert.Reference8Ideal.defs (F := Ideal)) _ _).mono (fun r h c => ?_) (Cert.Reference8Ideal.Value.run (F := Ideal) m' g')
    obtain ⟨hv, hrest⟩ := h c
    refine ⟨hv.trans ?_, hrest⟩
    obtain ⟨a0, a1, a2⟩ := hargs c
    rw [a0, a1, a2]
    funext j
    obtain ⟨a, d, rfl⟩ : ∃ (a : Fin 24576) (d : Fin 2048), j = ix2 a d := ⟨j 0, j 1, by funext b; fin_cases b <;> rfl⟩
    exact refTerm_apply _ _ _ a d

end Cert.NormMod

end
-- ==== Proof.Glu.lean ====
/- The mixer's gated unit on the gelu of a branch: what its result array holds after the run over the extended reals, and that its
   reference computes the same. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.Glu

open Idealize.ShloMosaic Idealize.ShloMosaic.TcCoe Idealize.SL.Sem

/-- The gelu of a number, in its form with the hyperbolic tangent. -/
def gelu (y : EReal) : EReal :=
  y * (Ideal.ofBits FTy.f32 1056964608#32 * (1 + Ideal.tanh (Ideal.ofBits FTy.f32 1061962282#32 * (y + Ideal.ofBits FTy.f32 1027024659#32 * (y * (y * y))))))

/-- A feature of a token: the gelu of the token's branch `y` at `d`, times the logistic function of the product of the branch's gelu
    with the column `u` of the weight. -/
def entry (y u : Fin 512 → EReal) (d : Fin 512) : EReal := gelu (y d) * Ideal.logistic (∑ q, gelu (y q) * u q)

section Kernel
open Cert.Kernel9Ideal Cert.Kernel9Ideal.Gen

/-- A tile's result at a token `r` and a feature `d`. -/
theorem pay1_apply (v0 : Vec Ideal S512x512 .f32) (v1 : Vec Ideal S512x512 .bf16) (r : Fin 512) (d : Fin 512) :
    k0_pay1 v0 v1 (ix2 r d) = entry (fun q => v0 (ix2 r q)) (fun q => v1 (ix2 q d)) d := by
  unfold entry gelu
  pointwise [k0_pay1]

/-- Which block each window holds at the point `t`, which works on the tile of tokens `t`. -/
theorem index_eq : ∀ t : Fin grid0.N,
    win0_0.index t = ![t.val, 0] ∧ win0_1.index t = ![0, 0] ∧ win0_2.index t = ![t.val, 0] := by
  decide +kernel

variable (m : (ℓ : Loc nD τ sig) → Buf (Elt Ideal) ℓ) (c : Dev nD)

/-- The branch, as an array of numbers. -/
abbrev yA : S24576x512.Idx → EReal := m ((c.tc : Thread nD τ).loc main_arg0)
/-- The weight. -/
abbrev wA : S512x512.Idx → EReal := m ((c.tc : Thread nD τ).loc main_arg1)

/-- What the call computes at token `a` and feature `d`. -/
def result (a : Fin 24576) (d : Fin 512) : EReal := entry (fun q => yA m c (ix2 a q)) (fun q => wA m c (ix2 q d)) d

/-- The grid has 48 points, one for each tile of tokens. -/
theorem point_lt (t : Fin cfg0.N) : t.val < 48 := lt_of_lt_of_eq t.isLt N_0

/-- The token at row `r` of the tile that point `t` works on. -/
def tok (t : Fin cfg0.N) (r : Fin 512) : Fin 24576 := ⟨t.val * 512 + r.val, by have := point_lt t; have := r.isLt; omega⟩

/-- What a point stores for its tile. -/
theorem out_apply (t : Fin cfg0.N) (r : Fin 512) (d : Fin 512) :
    out0_2 (F := Ideal) (iblk m c 0 t) (iblk m c 1 t) (ix2 r d) = result m c (tok t r) d := by
  obtain ⟨e0, e1, -⟩ := index_eq t
  have h0 : ∀ q : Fin 512, iblk m c 0 t (ix2 r q) = yA m c (ix2 (tok t r) q) := fun q => by blk_ext [iblk, V, e0, tok]
  have h1 : ∀ q : Fin 512, iblk m c 1 t (ix2 q d) = wA m c (ix2 q d) := fun q => by blk_ext [iblk, V, e1]
  frame_out
  rw [pay1_apply, result]
  simp only [h0, h1]

/-- Where the place `(r, d)` of the block that point `t` writes back lies in the result array. -/
theorem place (t : Fin cfg0.N) (r : Fin 512) (d : Fin 512) :
    (((cfg0.win 2).blk t).view.emb (ix2 r d) 0 : Fin 24576) = tok t r ∧ (((cfg0.win 2).blk t).view.emb (ix2 r d) 1 : Fin 512) = d := by
  obtain ⟨-, -, e2⟩ := index_eq t
  constructor
  · apply Fin.ext; blk_simp [e2, tok]
  · apply Fin.ext; blk_simp [e2]

/-- The result array after the run. -/
theorem final : (dats m 0 c).arrAt 2 cfg0.N = fun j => result m c (j 0) (j 1) := by
  refine (dats m 0 c).arrAt_eq_of_covers 2 _ (by decide +kernel) fun t hf y => ?_
  idx_vars y
  obtain ⟨p0, p1⟩ := place t y0 y1
  show (dats m 0 c).after 2 t (ix2 y0 y1) = result m c (((cfg0.win 2).blk t).view.emb (ix2 y0 y1) 0) (((cfg0.win 2).blk t).view.emb (ix2 y0 y1) 1)
  rw [after0_2, p0, p1]
  exact out_apply m c t y0 y1

end Kernel

section Reference
open Cert.Reference9Ideal Cert.Reference9Ideal.Gen

/-- The gelu of the branch in the reference. -/
abbrev gelus (y : FVec Ideal S24576x512 .f32) : FVec Ideal S24576x512 .f32 :=
  mulf y (mulf (broadcastInDim S24576x512 ![] bcast_S_S24576x512 (constant S_ .f32 0x3F000000#32)) (addf (broadcastInDim S24576x512 ![] bcast_S_S24576x512 (constant S_ .f32 0x3F800000#32)) (Host.tanh (mulf (broadcastInDim S24576x512 ![] bcast_S_S24576x512 (constant S_ .f32 0x3F4C422A#32)) (addf y (mulf (broadcastInDim S24576x512 ![] bcast_S_S24576x512 (constant S_ .f32 0x3D372713#32)) (mulf (mulf y y) y)))))))

/-- It is the gelu of each number: the cube's two groupings agree. -/
theorem gelus_apply (y : FVec Ideal S24576x512 .f32) (a : Fin 24576) (d : Fin 512) : gelus y (ix2 a d) = gelu (y (ix2 a d)) := by
  unfold gelu
  rw [← mul_assoc (y (ix2 a d)) (y (ix2 a d)) (y (ix2 a d))]
  pointwise [gelus]

/-- The product of the reference, of the gelus `y` with the weight. -/
abbrev product (y : FVec Ideal S24576x512 .f32) (w : FVec Ideal S512x512 .bf16) : FVec Ideal S24576x512 .f32 :=
  Host.dotGeneral dot_S24576x512_S512x512_S24576x512_1_0_0_1_n_n none y (extf .f32 w bitsLt_bf16_f32)

/-- The product, entry by entry: the sum over the branch's features. -/
theorem product_apply (y : FVec Ideal S24576x512 .f32) (w : FVec Ideal S512x512 .bf16) (a : Fin 24576) (d : Fin 512) :
    product y w (ix2 a d) = ∑ q : Fin 512, y (ix2 a q) * w (ix2 q d) := by
  pointwise [product]

/-- The reference's unit, from the gelus `y` and the product `z`. -/
abbrev unit (y z : FVec Ideal S24576x512 .f32) : FVec Ideal S24576x512 .bf16 :=
  truncf .bf16 (mulf y (Host.divf (broadcastInDim S24576x512 ![] bcast_S_S24576x512 (constant S_ .f32 0x3F800000#32))
    (addf (broadcastInDim S24576x512 ![] bcast_S_S24576x512 (constant S_ .f32 0x3F800000#32)) (Host.exp (Host.negf z))))) bitsLt_bf16_f32

/-- It is the gelu times the logistic function of the product, entry by entry. -/
theorem unit_apply (y z : FVec Ideal S24576x512 .f32) (a : Fin 24576) (d : Fin 512) :
    unit y z (ix2 a d) = y (ix2 a d) * Ideal.logistic (z (ix2 a d)) := by
  pointwise [unit]
  rfl

/-- The reference's result, from its arguments. -/
abbrev refTerm (y : FVec Ideal S24576x512 .f32) (w : FVec Ideal S512x512 .bf16) : FVec Ideal S24576x512 .bf16 :=
  unit (gelus y) (product (gelus y) w)

/-- The reference's result, entry by entry. -/
theorem refTerm_apply (y : FVec Ideal S24576x512 .f32) (w : FVec Ideal S512x512 .bf16) (a : Fin 24576) (d : Fin 512) :
    refTerm y w (ix2 a d) = entry (fun q => y (ix2 a q)) (fun q => w (ix2 q d)) d := by
  rw [refTerm, unit_apply, product_apply, gelus_apply, entry]
  simp only [gelus_apply]

end Reference

/-- From equal arguments both programs run and leave the same result. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => (fun j => result m c (j 0) (j 1)), ?_, ?_⟩
  · refine (θ_run (Cert.Kernel9Ideal.defs (F := Ideal)) _ _).mono (fun r h c => ?_) (Cert.Kernel9Ideal.Value.run_blocks (F := Ideal) m g)
    exact ⟨(h c).1.trans (final m c), (h c).2⟩
  · refine (θ_run (Cert.Reference9Ideal.defs (F := Ideal)) _ _).mono (fun r h c => ?_) (Cert.Reference9Ideal.Value.run (F := Ideal) m' g')
    obtain ⟨hv, hrest⟩ := h c
    refine ⟨hv.trans ?_, hrest⟩
    obtain ⟨a0, a1⟩ := hargs c
    rw [a0, a1]
    funext j
    obtain ⟨a, d, rfl⟩ : ∃ (a : Fin 24576) (d : Fin 512), j = ix2 a d := ⟨j 0, j 1, by funext b; fin_cases b <;> rfl⟩
    exact refTerm_apply _ _ a d

end Cert.Glu

end
-- ==== Proof.Conv.lean ====
/- The mixer's short convolution: what its result array holds after the run over the extended reals, and that its reference computes the
   same. -/
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.Conv

open Idealize.ShloMosaic Idealize.ShloMosaic.TcCoe Idealize.SL.Sem

/-- The three taps at place `n` of a line of `p` places: the place before, the place itself and the place after, each times its weight; a
    place outside the line counts as zero. -/
def taps (p n : ℕ) (before here after : EReal) (w : Fin 3 → EReal) : EReal :=
  (if n = 0 then 0 else before) * w 0 + here * w 1 + (if n + 1 = p then 0 else after) * w 2

/-- The taps read the place before only inside the line, and the place after likewise. -/
theorem taps_congr (p n : ℕ) {x x' y y' z z' : EReal} (w : Fin 3 → EReal) (hx : n ≠ 0 → x = x') (hy : y = y') (hz : n + 1 ≠ p → z = z') :
    taps p n x y z w = taps p n x' y' z' w := by
  unfold taps
  rw [hy]
  refine congrArg₂ _ (congrArg₂ _ (congrArg₂ _ ?_ rfl) rfl) (congrArg₂ _ ?_ rfl)
  · split
    · rfl
    · exact hx ‹_›
  · split
    · rfl
    · exact hz ‹_›

/-- The length of the lines that a token lies in: 256 in the prompt, 64 after it. -/
def period (a : ℕ) : ℕ := if a < 8192 then 256 else 64

/-- The token before. -/
def prevTok (a : Fin 24576) : Fin 24576 := ⟨a.val - 1, by omega⟩
/-- The token after. -/
def nextTok (a : Fin 24576) : Fin 24576 := ⟨(a.val + 1) % 24576, by omega⟩

/-- The product that the taps read, at token `a` and feature `d`, from the projected array `z`. -/
def prod (z : Fin 24576 → Fin 3584 → EReal) (a : Fin 24576) (d : Fin 512) : EReal := z a ⟨3072 + d.val, by omega⟩ * z a ⟨2048 + d.val, by omega⟩

/-- A feature of a token of the convolution. -/
def entry (z : Fin 24576 → Fin 3584 → EReal) (w : Fin 512 → Fin 3 → EReal) (a : Fin 24576) (d : Fin 512) : EReal :=
  z a ⟨2560 + d.val, by omega⟩ * taps (period a.val) (a.val % period a.val) (prod z (prevTok a) d) (prod z a d) (prod z (nextTok a) d) (w d)

section Kernel
open Cert.Kernel10Ideal Cert.Kernel10Ideal.Gen

/-- The length of the lines of tile `i`. -/
def tilePeriod (i : ℕ) : ℕ := if i < 16 then 256 else 64

/-- The kernel's choice of the length. -/
theorem select_period : ∀ i : Fin 48, Scalar.select (Scalar.cmpi CmpIPredicate.slt (BitVec.ofNat 32 i.val) 16#32) 256#32 64#32
    = if i.val < 16 then 256#32 else 64#32 := by decide +kernel

/-- The test for a line's first place, for the long lines, -/
theorem first_256 : ∀ r : Fin 512, IntOp.cmpi CmpIPredicate.eq (IntOp.andi (BitVec.ofNat 32 r.val) (Scalar.subi 256#32 1#32)) 0#32
    = if r.val % 256 = 0 then 1#1 else 0#1 := by decide +kernel
/-- and for the short ones. -/
theorem first_64 : ∀ r : Fin 512, IntOp.cmpi CmpIPredicate.eq (IntOp.andi (BitVec.ofNat 32 r.val) (Scalar.subi 64#32 1#32)) 0#32
    = if r.val % 64 = 0 then 1#1 else 0#1 := by decide +kernel
/-- The test for a line's last place, for the long lines, -/
theorem last_256 : ∀ r : Fin 512, IntOp.cmpi CmpIPredicate.eq (IntOp.andi (BitVec.ofNat 32 r.val) (Scalar.subi 256#32 1#32)) (Scalar.subi 256#32 1#32)
    = if r.val % 256 + 1 = 256 then 1#1 else 0#1 := by decide +kernel
/-- and for the short ones. -/
theorem last_64 : ∀ r : Fin 512, IntOp.cmpi CmpIPredicate.eq (IntOp.andi (BitVec.ofNat 32 r.val) (Scalar.subi 64#32 1#32)) (Scalar.subi 64#32 1#32)
    = if r.val % 64 + 1 = 64 then 1#1 else 0#1 := by decide +kernel

/-- A choice of zero or a product, made by a test that says `P`, is the choice of zero or its first factor times the second. -/
theorem select_mul {P : Prop} [Decidable P] {b : BitVec 1} (hb : b = if P then 1#1 else 0#1) (x y : EReal) :
    Scalar.select b 0 (x * y) = (if P then 0 else x) * y := by
  subst hb
  by_cases h : P
  · simp [Scalar.select, h]
  · simp [Scalar.select, h]

/-- A tile's result at a token `r` and a feature `d`. -/
theorem pay1_apply (i : grid0.Coords) (v0 v1 : Vec Ideal S512x512 .f32) (v20 : Vec Ideal S8x512 .f32) (v22 : Vec Ideal S512x512 .f32)
    (r : Fin 512) (d : Fin 512) :
    k0_pay1 i v0 v1 v20 v22 (ix2 r d) = v22 (ix2 r d) * taps (tilePeriod (i 0).val) (r.val % tilePeriod (i 0).val)
      (v0 (ix2 ⟨(r.val + 512 - 1) % 512, by omega⟩ d) * v1 (ix2 ⟨(r.val + 512 - 1) % 512, by omega⟩ d)) (v0 (ix2 r d) * v1 (ix2 r d))
      (v0 (ix2 ⟨(r.val + 512 - 511) % 512, by omega⟩ d) * v1 (ix2 ⟨(r.val + 512 - 511) % 512, by omega⟩ d))
      (fun k => v20 (ix2 ⟨k.val, by omega⟩ d)) := by
  unfold taps tilePeriod
  have hp := select_period (i 0)
  pointwise [k0_pay1]
  by_cases h : (i 0).val < 16
  · rw [if_pos h] at hp
    rw [hp, select_mul (first_256 r), select_mul (last_256 r)]
    simp only [h, if_true]
  · rw [if_neg h] at hp
    rw [hp, select_mul (first_64 r), select_mul (last_64 r)]
    simp only [h, if_false]

/-- Which block each window holds at the point `t`, which works on the tile of tokens `t`. -/
theorem index_eq : ∀ t : Fin grid0.N,
    win0_0.index t = ![t.val, 4] ∧ win0_1.index t = ![t.val, 5] ∧ win0_2.index t = ![t.val, 6] ∧ win0_3.index t = ![0, 0]
    ∧ win0_4.index t = ![t.val, 0] ∧ (grid0.coords t 0).val = t.val := by
  decide +kernel

variable (m : (ℓ : Loc nD τ sig) → Buf (Elt Ideal) ℓ) (c : Dev nD)

/-- The projected tokens, as an array of numbers. -/
abbrev zA : S24576x3584.Idx → EReal := m ((c.tc : Thread nD τ).loc main_arg0)
/-- The taps' weights. -/
abbrev wA : S512x3.Idx → EReal := m ((c.tc : Thread nD τ).loc main_arg1)

/-- What the call computes at token `a` and feature `d`. -/
def result (a : Fin 24576) (d : Fin 512) : EReal := entry (fun a k => zA m c (ix2 a k)) (fun d k => wA m c (ix2 d k)) a d

/-- The grid has 48 points, one for each tile of tokens. -/
theorem point_lt (t : Fin cfg0.N) : t.val < 48 := lt_of_lt_of_eq t.isLt N_0

/-- The token at row `r` of the tile that point `t` works on. -/
def tok (t : Fin cfg0.N) (r : Fin 512) : Fin 24576 := ⟨t.val * 512 + r.val, by have := point_lt t; have := r.isLt; omega⟩

/-- The projected tokens reach the three windows on them as launched: the first, -/
theorem x_eq : V m c (Pipeline.arrRef spec0 0) = zA m c := V_main_arg0 m c
/-- the second, -/
theorem b_eq : V m c (Pipeline.arrRef spec0 1) = zA m c := V_main_arg0 m c
/-- and the third. -/
theorem c_eq : V m c (Pipeline.arrRef spec0 2) = zA m c := V_main_arg0 m c

/-- The weights as the host lays them out: row `k` is tap `k`. -/
theorem w_eq (k : Fin 3) (d : Fin 512) : (V m c (Pipeline.arrRef spec0 3) : S8x512.Idx → EReal) (ix2 ⟨k.val, by omega⟩ d) = wA m c (ix2 d k) := by
  simp only [V, hostOps0, hostOps0_1, List.flatten_cons, List.flatten_nil, List.append_nil, List.cons_append, List.nil_append, StableHlo.TRef.binary, StableHlo.TRef.unary, StableHlo.TRef.toBuf, StableHlo.TRef.ofBuf, cast_eq]
  entry_read
  pointwise

/-- A tile lies in one region of the tokens, and a line lies in one tile. -/
theorem period_tok (t : Fin cfg0.N) (r : Fin 512) : tilePeriod t.val = period (tok t r).val ∧ r.val % tilePeriod t.val = (tok t r).val % period (tok t r).val := by
  have hr := r.isLt
  unfold tilePeriod period tok
  by_cases h : t.val < 16
  · rw [if_pos h, if_pos (show t.val * 512 + r.val < 8192 by omega)]
    exact ⟨rfl, by show r.val % 256 = (t.val * 512 + r.val) % 256; omega⟩
  · rw [if_neg h, if_neg (show ¬t.val * 512 + r.val < 8192 by omega)]
    exact ⟨rfl, by show r.val % 64 = (t.val * 512 + r.val) % 64; omega⟩

/-- A line's first place is the only one whose predecessor may lie in another tile. -/
theorem prev_tok (t : Fin cfg0.N) (r : Fin 512) (h : r.val % tilePeriod t.val ≠ 0) : tok t ⟨(r.val + 512 - 1) % 512, by omega⟩ = prevTok (tok t r) := by
  have hr := r.isLt
  have h0 : r.val ≠ 0 := fun e => h (by rw [e]; exact Nat.zero_mod _)
  apply Fin.ext
  show t.val * 512 + (r.val + 512 - 1) % 512 = t.val * 512 + r.val - 1
  omega

/-- A line's last place is the only one whose successor may lie in another tile. -/
theorem next_tok (t : Fin cfg0.N) (r : Fin 512) (h : r.val % tilePeriod t.val + 1 ≠ tilePeriod t.val) :
    tok t ⟨(r.val + 512 - 511) % 512, by omega⟩ = nextTok (tok t r) := by
  have hr := r.isLt
  have ht := point_lt t
  have h0 : r.val ≠ 511 := fun e => h (by rw [e]; unfold tilePeriod; split <;> rfl)
  apply Fin.ext
  show t.val * 512 + (r.val + 512 - 511) % 512 = (t.val * 512 + r.val + 1) % 24576
  omega

/-- What a point stores for its tile. -/
theorem out_apply (t : Fin cfg0.N) (r : Fin 512) (d : Fin 512) :
    out0_4 (F := Ideal) (grid0.coords t) (iblk m c 0 t) (iblk m c 1 t) (iblk m c 2 t) (iblk m c 3 t) (ix2 r d) = result m c (tok t r) d := by
  obtain ⟨e0, e1, e2, e3, -, ei⟩ := index_eq t
  have h0 : ∀ s : Fin 512, iblk m c 0 t (ix2 s d) = zA m c (ix2 (tok t s) ⟨2048 + d.val, by omega⟩) := fun s => by rw [← x_eq]; blk_ext [iblk, e0, tok]
  have h1 : iblk m c 1 t (ix2 r d) = zA m c (ix2 (tok t r) ⟨2560 + d.val, by omega⟩) := by rw [← b_eq]; blk_ext [iblk, e1, tok]
  have h2 : ∀ s : Fin 512, iblk m c 2 t (ix2 s d) = zA m c (ix2 (tok t s) ⟨3072 + d.val, by omega⟩) := fun s => by rw [← c_eq]; blk_ext [iblk, e2, tok]
  have h3 : ∀ k : Fin 3, iblk m c 3 t (ix2 ⟨k.val, by omega⟩ d) = wA m c (ix2 d k) := fun k => by rw [← w_eq]; blk_ext [iblk, e3]
  obtain ⟨p0, p1⟩ := period_tok t r
  frame_out
  rw [pay1_apply, result, entry, ei]
  simp only [h0, h1, h2, h3]
  rw [← p1, ← p0]
  refine congrArg₂ _ rfl (taps_congr _ _ _ (fun h => ?_) rfl (fun h => ?_))
  · rw [prev_tok t r h]; rfl
  · rw [next_tok t r h]; rfl

/-- Where the place `(r, d)` of the block that point `t` writes back lies in the result array. -/
theorem place (t : Fin cfg0.N) (r : Fin 512) (d : Fin 512) :
    (((cfg0.win 4).blk t).view.emb (ix2 r d) 0 : Fin 24576) = tok t r ∧ (((cfg0.win 4).blk t).view.emb (ix2 r d) 1 : Fin 512) = d := by
  obtain ⟨-, -, -, -, e4, -⟩ := index_eq t
  constructor
  · apply Fin.ext; blk_simp [e4, tok]
  · apply Fin.ext; blk_simp [e4]

/-- The result array after the run. -/
theorem final : (dats m 0 c).arrAt 4 cfg0.N = fun j => result m c (j 0) (j 1) := by
  refine (dats m 0 c).arrAt_eq_of_covers 4 _ (by decide +kernel) fun t hf y => ?_
  idx_vars y
  obtain ⟨p0, p1⟩ := place t y0 y1
  show (dats m 0 c).after 4 t (ix2 y0 y1) = result m c (((cfg0.win 4).blk t).view.emb (ix2 y0 y1) 0) (((cfg0.win 4).blk t).view.emb (ix2 y0 y1) 1)
  rw [after0_4, p0, p1]
  exact out_apply m c t y0 y1

end Kernel

section Reference
open Cert.Reference10Ideal Cert.Reference10Ideal.Gen

/-- The whole number 0 is the number 0. -/
theorem zero_eq : (FloatOps.sitofp FTy.f32 0#32 : Ideal FTy.f32) = (0 : EReal) := by
  show (((0#32 : BitVec 32).toInt : ℝ) : EReal) = 0
  simp

/-- The reference's product. -/
abbrev prods (z : FVec Ideal S24576x3584 .f32) : FVec Ideal S24576x512 .f32 :=
  mulf (extractStridedSlice S24576x512 ![0, 3072] z slices_S24576x3584_S24576x512_0_3072) (extractStridedSlice S24576x512 ![0, 2048] z slices_S24576x3584_S24576x512_0_2048)

/-- It is the product, entry by entry. -/
theorem prods_apply (z : FVec Ideal S24576x3584 .f32) (a : Fin 24576) (d : Fin 512) : prods z (ix2 a d) = prod (fun a k => z (ix2 a k)) a d := by
  unfold prod
  pointwise [prods]

/-- The taps of the prompt's lines. -/
abbrev promptTaps (z : FVec Ideal S32x256x512 .f32) (w : FVec Ideal S512x3 .f32) : FVec Ideal S32x256x512 .f32 :=
  addf (addf (mulf (extractStridedSlice S32x256x512 ![0, 0, 0] (pad S32x258x512 ![0, 1, 0] ![0, 1, 0] ![0, 0, 0] z (sitofp .f32 (constantI S_ 32 0#32)) pads_S32x256x512_S32x258x512_000_110_000 h_S_) slices_S32x258x512_S32x256x512_0_0_0) (broadcastInDim S32x256x512 ![0, 1, 2] bcast_S1x1x512_S32x256x512_0_1_2 (broadcastInDim S1x1x512 ![2] bcast_S512_S1x1x512_2 (shapeCast _ (extractStridedSlice S512x1 ![0, 0] w slices_S512x3_S512x1_0_0) shapeCasts_S512x1_S512)))) (mulf (extractStridedSlice S32x256x512 ![0, 1, 0] (pad S32x258x512 ![0, 1, 0] ![0, 1, 0] ![0, 0, 0] z (sitofp .f32 (constantI S_ 32 0#32)) pads_S32x256x512_S32x258x512_000_110_000 h_S_) slices_S32x258x512_S32x256x512_0_1_0) (broadcastInDim S32x256x512 ![0, 1, 2] bcast_S1x1x512_S32x256x512_0_1_2 (broadcastInDim S1x1x512 ![2] bcast_S512_S1x1x512_2 (shapeCast _ (extractStridedSlice S512x1 ![0, 1] w slices_S512x3_S512x1_0_1) shapeCasts_S512x1_S512))))) (mulf (extractStridedSlice S32x256x512 ![0, 2, 0] (pad S32x258x512 ![0, 1, 0] ![0, 1, 0] ![0, 0, 0] z (sitofp .f32 (constantI S_ 32 0#32)) pads_S32x256x512_S32x258x512_000_110_000 h_S_) slices_S32x258x512_S32x256x512_0_2_0) (broadcastInDim S32x256x512 ![0, 1, 2] bcast_S1x1x512_S32x256x512_0_1_2 (broadcastInDim S1x1x512 ![2] bcast_S512_S1x1x512_2 (shapeCast _ (extractStridedSlice S512x1 ![0, 2] w slices_S512x3_S512x1_0_2) shapeCasts_S512x1_S512))))

/-- They are the taps of each line, entry by entry. -/
theorem promptTaps_apply (z : FVec Ideal S32x256x512 .f32) (w : FVec Ideal S512x3 .f32) (s : Fin 32) (r : Fin 256) (d : Fin 512) :
    promptTaps z w (ix3 s r d) = taps 256 r.val (z (ix3 s ⟨r.val - 1, by omega⟩ d)) (z (ix3 s r d)) (z (ix3 s ⟨(r.val + 1) % 256, by omega⟩ d)) (fun k => w (ix2 d k)) := by
  have hr := r.isLt
  unfold taps
  pointwise [promptTaps]
  rw [zero_eq]
  refine congrArg₂ _ (congrArg₂ _ (congrArg₂ _ ?_ rfl) rfl) (congrArg₂ _ ?_ rfl)
  · split <;> split <;> first | rfl | (exfalso; omega)
  · split <;> split <;> first | rfl | (exfalso; omega) | exact congrArg (fun q => z (ix3 s q d)) (Fin.ext (by show 2 + r.val - 1 = (r.val + 1) % 256; omega))

/-- The prompt's part of the tokens, as lines. -/
abbrev promptLines (y : FVec Ideal S24576x512 .f32) : FVec Ideal S32x256x512 .f32 :=
  shapeCast _ (extractStridedSlice S8192x512 ![0, 0] y slices_S24576x512_S8192x512_0_0) shapeCasts_S8192x512_S32x256x512

/-- The place `r` of line `s` is a token of the prompt's part. -/
theorem promptLines_apply (y : FVec Ideal S24576x512 .f32) (s : Fin 32) (r : Fin 256) (d : Fin 512) :
    promptLines y (ix3 s r d) = y (ix2 ⟨0 + (s.val * 256 + r.val), by omega⟩ d) := by
  pointwise [promptLines]

/-- The prompt's part of the convolution. -/
abbrev promptPart (y : FVec Ideal S24576x512 .f32) (w : FVec Ideal S512x3 .f32) : FVec Ideal S8192x512 .f32 :=
  shapeCast _ (promptTaps (promptLines y) w) shapeCasts_S32x256x512_S8192x512

/-- Laying the lines out again as tokens. -/
theorem promptPart_parts (z : FVec Ideal S32x256x512 .f32) (b : Fin 8192) (d : Fin 512) :
    (shapeCast S8192x512 z shapeCasts_S32x256x512_S8192x512) (ix2 b d) = z (ix3 ⟨b.val / 256, by omega⟩ ⟨b.val % 256, by omega⟩ d) := by
  pointwise

/-- It is the taps around the token `a`. -/
theorem promptPart_apply (y : FVec Ideal S24576x512 .f32) (w : FVec Ideal S512x3 .f32) (a : Fin 24576) (b : Fin 8192) (h : a.val = 0 + b.val) (d : Fin 512) :
    promptPart y w (ix2 b d) = taps 256 (a.val % 256) (y (ix2 (prevTok a) d)) (y (ix2 a d)) (y (ix2 (nextTok a) d)) (fun k => w (ix2 d k)) := by
  have hb := b.isLt
  have hm : b.val % 256 = a.val % 256 := by omega
  rw [promptPart, promptPart_parts, promptTaps_apply, promptLines_apply, promptLines_apply, promptLines_apply]
  simp only [hm]
  refine taps_congr _ _ _ (fun h0 => ?_) ?_ (fun h1 => ?_)
  · exact congrArg (fun q => y (ix2 q d)) (Fin.ext (by show 0 + (b.val / 256 * 256 + (a.val % 256 - 1)) = a.val - 1; omega))
  · exact congrArg (fun q => y (ix2 q d)) (Fin.ext (by show 0 + (b.val / 256 * 256 + a.val % 256) = a.val; omega))
  · exact congrArg (fun q => y (ix2 q d)) (Fin.ext (by show 0 + (b.val / 256 * 256 + (a.val % 256 + 1) % 256) = (a.val + 1) % 24576; omega))

/-- The taps of the samples' lines. -/
abbrev sampleTaps (z : FVec Ideal S256x64x512 .f32) (w : FVec Ideal S512x3 .f32) : FVec Ideal S256x64x512 .f32 :=
  addf (addf (mulf (extractStridedSlice S256x64x512 ![0, 0, 0] (pad S256x66x512 ![0, 1, 0] ![0, 1, 0] ![0, 0, 0] z (sitofp .f32 (constantI S_ 32 0#32)) pads_S256x64x512_S256x66x512_000_110_000 h_S_) slices_S256x66x512_S256x64x512_0_0_0) (broadcastInDim S256x64x512 ![0, 1, 2] bcast_S1x1x512_S256x64x512_0_1_2 (broadcastInDim S1x1x512 ![2] bcast_S512_S1x1x512_2 (shapeCast _ (extractStridedSlice S512x1 ![0, 0] w slices_S512x3_S512x1_0_0) shapeCasts_S512x1_S512)))) (mulf (extractStridedSlice S256x64x512 ![0, 1, 0] (pad S256x66x512 ![0, 1, 0] ![0, 1, 0] ![0, 0, 0] z (sitofp .f32 (constantI S_ 32 0#32)) pads_S256x64x512_S256x66x512_000_110_000 h_S_) slices_S256x66x512_S256x64x512_0_1_0) (broadcastInDim S256x64x512 ![0, 1, 2] bcast_S1x1x512_S256x64x512_0_1_2 (broadcastInDim S1x1x512 ![2] bcast_S512_S1x1x512_2 (shapeCast _ (extractStridedSlice S512x1 ![0, 1] w slices_S512x3_S512x1_0_1) shapeCasts_S512x1_S512))))) (mulf (extractStridedSlice S256x64x512 ![0, 2, 0] (pad S256x66x512 ![0, 1, 0] ![0, 1, 0] ![0, 0, 0] z (sitofp .f32 (constantI S_ 32 0#32)) pads_S256x64x512_S256x66x512_000_110_000 h_S_) slices_S256x66x512_S256x64x512_0_2_0) (broadcastInDim S256x64x512 ![0, 1, 2] bcast_S1x1x512_S256x64x512_0_1_2 (broadcastInDim S1x1x512 ![2] bcast_S512_S1x1x512_2 (shapeCast _ (extractStridedSlice S512x1 ![0, 2] w slices_S512x3_S512x1_0_2) shapeCasts_S512x1_S512))))

/-- They are the taps of each line, entry by entry. -/
theorem sampleTaps_apply (z : FVec Ideal S256x64x512 .f32) (w : FVec Ideal S512x3 .f32) (s : Fin 256) (r : Fin 64) (d : Fin 512) :
    sampleTaps z w (ix3 s r d) = taps 64 r.val (z (ix3 s ⟨r.val - 1, by omega⟩ d)) (z (ix3 s r d)) (z (ix3 s ⟨(r.val + 1) % 64, by omega⟩ d)) (fun k => w (ix2 d k)) := by
  have hr := r.isLt
  unfold taps
  pointwise [sampleTaps]
  rw [zero_eq]
  refine congrArg₂ _ (congrArg₂ _ (congrArg₂ _ ?_ rfl) rfl) (congrArg₂ _ ?_ rfl)
  · split <;> split <;> first | rfl | (exfalso; omega)
  · split <;> split <;> first | rfl | (exfalso; omega) | exact congrArg (fun q => z (ix3 s q d)) (Fin.ext (by show 2 + r.val - 1 = (r.val + 1) % 64; omega))

/-- The samples' part of the tokens, as lines. -/
abbrev sampleLines (y : FVec Ideal S24576x512 .f32) : FVec Ideal S256x64x512 .f32 :=
  shapeCast _ (extractStridedSlice S16384x512 ![8192, 0] y slices_S24576x512_S16384x512_8192_0) shapeCasts_S16384x512_S256x64x512

/-- The place `r` of line `s` is a token of the samples' part. -/
theorem sampleLines_apply (y : FVec Ideal S24576x512 .f32) (s : Fin 256) (r : Fin 64) (d : Fin 512) :
    sampleLines y (ix3 s r d) = y (ix2 ⟨8192 + (s.val * 64 + r.val), by omega⟩ d) := by
  pointwise [sampleLines]

/-- The samples' part of the convolution. -/
abbrev samplePart (y : FVec Ideal S24576x512 .f32) (w : FVec Ideal S512x3 .f32) : FVec Ideal S16384x512 .f32 :=
  shapeCast _ (sampleTaps (sampleLines y) w) shapeCasts_S256x64x512_S16384x512

/-- Laying the lines out again as tokens. -/
theorem samplePart_parts (z : FVec Ideal S256x64x512 .f32) (b : Fin 16384) (d : Fin 512) :
    (shapeCast S16384x512 z shapeCasts_S256x64x512_S16384x512) (ix2 b d) = z (ix3 ⟨b.val / 64, by omega⟩ ⟨b.val % 64, by omega⟩ d) := by
  pointwise

/-- It is the taps around the token `a`. -/
theorem samplePart_apply (y : FVec Ideal S24576x512 .f32) (w : FVec Ideal S512x3 .f32) (a : Fin 24576) (b : Fin 16384) (h : a.val = 8192 + b.val) (d : Fin 512) :
    samplePart y w (ix2 b d) = taps 64 (a.val % 64) (y (ix2 (prevTok a) d)) (y (ix2 a d)) (y (ix2 (nextTok a) d)) (fun k => w (ix2 d k)) := by
  have hb := b.isLt
  have hm : b.val % 64 = a.val % 64 := by omega
  rw [samplePart, samplePart_parts, sampleTaps_apply, sampleLines_apply, sampleLines_apply, sampleLines_apply]
  simp only [hm]
  refine taps_congr _ _ _ (fun h0 => ?_) ?_ (fun h1 => ?_)
  · exact congrArg (fun q => y (ix2 q d)) (Fin.ext (by show 8192 + (b.val / 64 * 64 + (a.val % 64 - 1)) = a.val - 1; omega))
  · exact congrArg (fun q => y (ix2 q d)) (Fin.ext (by show 8192 + (b.val / 64 * 64 + a.val % 64) = a.val; omega))
  · exact congrArg (fun q => y (ix2 q d)) (Fin.ext (by show 8192 + (b.val / 64 * 64 + (a.val % 64 + 1) % 64) = (a.val + 1) % 24576; omega))

/-- The reference's result from the projected tokens and the two parts of the taps. -/
abbrev join (z : FVec Ideal S24576x3584 .f32) (A : FVec Ideal S8192x512 .f32) (B : FVec Ideal S16384x512 .f32) : FVec Ideal S24576x512 .bf16 :=
  truncf .bf16 (mulf (extractStridedSlice S24576x512 ![0, 2560] z slices_S24576x3584_S24576x512_0_2560) (concatenate S24576x512 0 [⟨S8192x512, A⟩, ⟨S16384x512, B⟩] concatenates_S8192x512_S16384x512_S24576x512_d0)) bitsLt_bf16_f32

/-- Entry by entry: a token of the prompt reads the first part, one of the samples the second. -/
theorem join_apply (z : FVec Ideal S24576x3584 .f32) (A : FVec Ideal S8192x512 .f32) (B : FVec Ideal S16384x512 .f32) (a : Fin 24576) (d : Fin 512) :
    join z A B (ix2 a d) = z (ix2 a ⟨2560 + d.val, by omega⟩) * if h : a.val < 8192 then A (ix2 ⟨a.val, h⟩ d) else B (ix2 ⟨a.val - 8192, by omega⟩ d) := by
  pointwise [join]

/-- The reference's result, from its arguments. -/
abbrev refTerm (z : FVec Ideal S24576x3584 .f32) (w : FVec Ideal S512x3 .f32) : FVec Ideal S24576x512 .bf16 :=
  join z (promptPart (prods z) w) (samplePart (prods z) w)

/-- The reference's result, entry by entry. -/
theorem refTerm_apply (z : FVec Ideal S24576x3584 .f32) (w : FVec Ideal S512x3 .f32) (a : Fin 24576) (d : Fin 512) :
    refTerm z w (ix2 a d) = entry (fun a k => z (ix2 a k)) (fun d k => w (ix2 d k)) a d := by
  rw [refTerm, join_apply, entry]
  refine congrArg₂ _ rfl ?_
  unfold period
  by_cases h : a.val < 8192
  · rw [dif_pos h, promptPart_apply _ _ a ⟨a.val, h⟩ (by show a.val = 0 + a.val; omega)]
    simp only [h, if_true, prods_apply]
  · rw [dif_neg h, samplePart_apply _ _ a ⟨a.val - 8192, by omega⟩ (by show a.val = 8192 + (a.val - 8192); omega)]
    simp only [h, if_false, prods_apply]

end Reference

/-- From equal arguments both programs run and leave the same result. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => (fun j => result m c (j 0) (j 1)), ?_, ?_⟩
  · refine (θ_run (Cert.Kernel10Ideal.defs (F := Ideal)) _ _).mono (fun r h c => ?_) (Cert.Kernel10Ideal.Value.run_blocks (F := Ideal) m g)
    exact ⟨(h c).1.trans (final m c), (h c).2⟩
  · refine (θ_run (Cert.Reference10Ideal.defs (F := Ideal)) _ _).mono (fun r h c => ?_) (Cert.Reference10Ideal.Value.run (F := Ideal) m' g')
    obtain ⟨hv, hrest⟩ := h c
    refine ⟨hv.trans ?_, hrest⟩
    obtain ⟨a0, a1⟩ := hargs c
    unfold Cert.Reference10Ideal.Value.res_main_v54
    rw [a0, a1]
    funext j
    obtain ⟨a, d, rfl⟩ : ∃ (a : Fin 24576) (d : Fin 512), j = ix2 a d := ⟨j 0, j 1, by funext b; fin_cases b <;> rfl⟩
    exact refTerm_apply _ _ a d

end Cert.Conv

end
-- ==== Proof.Sgu.lean ====
/- The mixer's spatial gating unit: what its result array holds after the run over the extended reals, and that its reference computes the
   same. -/
module

public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.Pipeline.ReadBack
public import Idealize.ShloMosaic.Lib.Pipeline.ValueKit.Tiles
public import Idealize.ShloMosaic.Lib.Claim
public import Idealize.ShloMosaic.Lib.Quiescent
public import Idealize.ShloMosaic.Lib.Tactic.CleanTypes

@[expose] public section

set_option maxRecDepth 16384

noncomputable section

namespace Cert.Sgu

open Idealize.ShloMosaic Idealize.ShloMosaic.TcCoe Idealize.SL.Sem

/-- The gelu of a number, in its form with the hyperbolic tangent. -/
def gelu (y : EReal) : EReal :=
  y * (Ideal.ofBits FTy.f32 1056964608#32 * (1 + Ideal.tanh (Ideal.ofBits FTy.f32 1061962282#32 * (y + Ideal.ofBits FTy.f32 1027024659#32 * (y * (y * y))))))

/-- One normalised feature: the row's feature `x d`, times the reciprocal root of the mean of the row's squares plus `10⁻⁶`, times
    the weight `g`. -/
def norm (x : Fin 512 → EReal) (g : EReal) (d : Fin 512) : EReal :=
  x d * Ideal.rsqrt (Ideal.div (∑ q, x q * x q) (Ideal.ofBits FTy.f32 1140850688#32) + Ideal.ofBits FTy.f32 897988541#32) * g

/-- The unit at a place `r` of a chunk of 128 tokens and a feature `d`: the token's gelu `u`, times the sum over the chunk of the head's
    row of weights times the normalised values `v` of the feature, plus the head's bias at the place; 128 features are a head. -/
def unit (u : EReal) (v : Fin 128 → EReal) (w : Fin 4 → Fin 128 → Fin 128 → EReal) (b : EReal) (r : Fin 128) (d : Fin 512) : EReal :=
  u * (∑ x : Fin 128, w ⟨d.val / 128, by omega⟩ r x * v x + b)

/-- The normalised value of token `a` at feature `d`, from the projected array `z`. -/
def vals (z : Fin 24576 → Fin 3584 → EReal) (g : Fin 512 → EReal) (a : Fin 24576) (d : Fin 512) : EReal :=
  norm (fun q => gelu (z a ⟨1024 + (512 + q.val), by omega⟩)) (g d) d

/-- A feature of a token of the unit. -/
def entry (z : Fin 24576 → Fin 3584 → EReal) (g : Fin 512 → EReal) (w : Fin 4 → Fin 128 → Fin 128 → EReal) (b : Fin 4 → Fin 128 → EReal)
    (a : Fin 24576) (d : Fin 512) : EReal :=
  unit (gelu (z a ⟨1024 + d.val, by omega⟩)) (fun x => vals z g ⟨a.val / 128 * 128 + x.val, by omega⟩ d) w
    (b ⟨d.val / 128, by omega⟩ ⟨a.val % 128, by omega⟩) ⟨a.val % 128, by omega⟩ d

section Kernel
open Cert.Kernel11Ideal Cert.Kernel11Ideal.Gen

/-- A tile's gelus. -/
theorem pay2_apply (Z : Vec Ideal S256x1024 .f32) (r : Fin 256) (q : Fin 1024) : k0_pay2 Z (ix2 r q) = gelu (Z (ix2 r q)) := by
  unfold gelu
  pointwise [k0_pay2]

/-- The first half of them. -/
theorem pay3_apply (Z : Vec Ideal S256x1024 .f32) (r : Fin 256) (d : Fin 512) : k0_pay3 Z (ix2 r d) = gelu (Z (ix2 r ⟨d.val, by omega⟩)) := by
  rw [← pay2_apply]
  unfold k0_pay3
  generalize k0_pay2 Z = V
  pointwise

/-- A tile's normalised values, from the second half. -/
theorem pay4_apply (Z : Vec Ideal S256x1024 .f32) (g : Vec Ideal S1x512 .f32) (r : Fin 256) (d : Fin 512) :
    k0_pay4 Z g (ix2 r d) = norm (fun q => gelu (Z (ix2 r ⟨512 + q.val, by omega⟩))) (g (ix2 0 d)) d := by
  unfold norm
  simp only [← pay2_apply]
  unfold k0_pay4
  generalize k0_pay2 Z = V
  pointwise

/-- The first chunk's sums for the first head. -/
theorem pay5_apply (Z : Vec Ideal S256x1024 .f32) (g : Vec Ideal S1x512 .f32) (w : Vec Ideal S1x128x128 .bf16) (r k : Fin 128) :
    k0_pay5 Z g w (ix2 r k) = ∑ x : Fin 128, w (ix3 0 r x) * k0_pay4 Z g (ix2 ⟨x.val, by omega⟩ ⟨0 + k.val, by omega⟩) := by
  unfold k0_pay5
  generalize k0_pay4 Z g = V
  pointwise

/-- The first chunk's sums for the second head. -/
theorem pay6_apply (Z : Vec Ideal S256x1024 .f32) (g : Vec Ideal S1x512 .f32) (w : Vec Ideal S1x128x128 .bf16) (r k : Fin 128) :
    k0_pay6 Z g w (ix2 r k) = ∑ x : Fin 128, w (ix3 0 r x) * k0_pay4 Z g (ix2 ⟨x.val, by omega⟩ ⟨128 + k.val, by omega⟩) := by
  unfold k0_pay6
  generalize k0_pay4 Z g = V
  pointwise

/-- The second chunk's sums for the first head. -/
theorem pay8_apply (V : FVec Ideal S256x512 .bf16) (w : Vec Ideal S1x128x128 .bf16) (r k : Fin 128) :
    k0_pay8 V w (ix2 r k) = ∑ x : Fin 128, w (ix3 0 r x) * V (ix2 ⟨128 + x.val, by omega⟩ ⟨0 + k.val, by omega⟩) := by
  pointwise [k0_pay8]

/-- The second chunk's sums for the second head. -/
theorem pay9_apply (V : FVec Ideal S256x512 .bf16) (w : Vec Ideal S1x128x128 .bf16) (r k : Fin 128) :
    k0_pay9 V w (ix2 r k) = ∑ x : Fin 128, w (ix3 0 r x) * V (ix2 ⟨128 + x.val, by omega⟩ ⟨128 + k.val, by omega⟩) := by
  pointwise [k0_pay9]

/-- The second chunk's sums for the third head. -/
theorem pay10_apply (V : FVec Ideal S256x512 .bf16) (w : Vec Ideal S1x128x128 .bf16) (r k : Fin 128) :
    k0_pay10 V w (ix2 r k) = ∑ x : Fin 128, w (ix3 0 r x) * V (ix2 ⟨128 + x.val, by omega⟩ ⟨256 + k.val, by omega⟩) := by
  pointwise [k0_pay10]

/-- The second chunk's sums for the fourth head. -/
theorem pay11_apply (V : FVec Ideal S256x512 .bf16) (w : Vec Ideal S1x128x128 .bf16) (r k : Fin 128) :
    k0_pay11 V w (ix2 r k) = ∑ x : Fin 128, w (ix3 0 r x) * V (ix2 ⟨128 + x.val, by omega⟩ ⟨384 + k.val, by omega⟩) := by
  pointwise [k0_pay11]

/-- A sum over a chunk with the weights of the head that a feature lies in: `W` gives the four heads' weights, `w` those of head `h`. -/
theorem head_sum (W : Fin 4 → Fin 128 → Fin 128 → EReal) (w : Fin 128 → Fin 128 → EReal) (v : Fin 128 → Fin 512 → EReal) (h : Fin 4)
    (hw : ∀ r x, w r x = W h r x) (r : Fin 128) (d d' : Fin 512) (hd : d'.val = d.val) (hh : d.val / 128 = h.val) :
    ∑ x : Fin 128, w r x * v x d' = ∑ x : Fin 128, W ⟨d.val / 128, by omega⟩ r x * v x d := by
  have e : (⟨d.val / 128, by omega⟩ : Fin 4) = h := Fin.ext hh
  have e' : d' = d := Fin.ext hd
  rw [e, e']
  simp only [hw]

/-- The first chunk of a tile. -/
theorem pay7_apply (Z : Vec Ideal S256x1024 .f32) (g : Vec Ideal S1x512 .f32) (w0 w1 w2 w3 : Vec Ideal S1x128x128 .bf16) (b : Vec Ideal S128x512 .f32)
    (W : Fin 4 → Fin 128 → Fin 128 → EReal) (h0 : ∀ r x, w0 (ix3 0 r x) = W 0 r x) (h1 : ∀ r x, w1 (ix3 0 r x) = W 1 r x)
    (h2 : ∀ r x, w2 (ix3 0 r x) = W 2 r x) (h3 : ∀ r x, w3 (ix3 0 r x) = W 3 r x) (r : Fin 128) (d : Fin 512) :
    k0_pay7 (k0_pay3 Z) (k0_pay4 Z g) (k0_pay5 Z g w0) (k0_pay6 Z g w1) w2 w3 b (ix2 r d)
      = unit (k0_pay3 Z (ix2 ⟨r.val, by omega⟩ d)) (fun x => k0_pay4 Z g (ix2 ⟨x.val, by omega⟩ d)) W (b (ix2 r d)) r d := by
  have e5 := pay5_apply Z g w0
  have e6 := pay6_apply Z g w1
  unfold unit
  revert e5 e6
  generalize k0_pay5 Z g w0 = s0
  generalize k0_pay6 Z g w1 = s1
  generalize k0_pay3 Z = U
  generalize k0_pay4 Z g = V
  intro e5 e6
  pointwise [k0_pay7]
  simp only [e5, e6]
  refine congrArg₂ _ rfl (congrArg₂ _ ?_ rfl)
  split
  · exact head_sum W (fun r x => w0 (ix3 0 r x)) (fun x d => V (ix2 ⟨x.val, by omega⟩ d)) 0 h0 r d _ (by simp) (by show d.val / 128 = 0; omega)
  split
  · exact head_sum W (fun r x => w1 (ix3 0 r x)) (fun x d => V (ix2 ⟨x.val, by omega⟩ d)) 1 h1 r d _ (by show 128 + (d.val - 128) = d.val; omega) (by show d.val / 128 = 1; omega)
  split
  · exact head_sum W (fun r x => w2 (ix3 0 r x)) (fun x d => V (ix2 ⟨x.val, by omega⟩ d)) 2 h2 r d _ (by show 256 + (d.val - 128 - 128) = d.val; omega) (by show d.val / 128 = 2; omega)
  · exact head_sum W (fun r x => w3 (ix3 0 r x)) (fun x d => V (ix2 ⟨x.val, by omega⟩ d)) 3 h3 r d _ (by show 384 + (d.val - 128 - 128 - 128) = d.val; omega) (by show d.val / 128 = 3; omega)

/-- The second chunk of a tile. -/
theorem pay1_apply (U : FVec Ideal S256x512 .f32) (V : FVec Ideal S256x512 .bf16) (w0 w1 w2 w3 : Vec Ideal S1x128x128 .bf16) (b : Vec Ideal S128x512 .f32)
    (W : Fin 4 → Fin 128 → Fin 128 → EReal) (h0 : ∀ r x, w0 (ix3 0 r x) = W 0 r x) (h1 : ∀ r x, w1 (ix3 0 r x) = W 1 r x)
    (h2 : ∀ r x, w2 (ix3 0 r x) = W 2 r x) (h3 : ∀ r x, w3 (ix3 0 r x) = W 3 r x) (r : Fin 128) (d : Fin 512) :
    k0_pay1 U (k0_pay8 V w0) (k0_pay9 V w1) (k0_pay10 V w2) (k0_pay11 V w3) b (ix2 r d)
      = unit (U (ix2 ⟨128 + r.val, by omega⟩ d)) (fun x => V (ix2 ⟨128 + x.val, by omega⟩ d)) W (b (ix2 r d)) r d := by
  have e8 := pay8_apply V w0
  have e9 := pay9_apply V w1
  have e10 := pay10_apply V w2
  have e11 := pay11_apply V w3
  unfold unit
  revert e8 e9 e10 e11
  generalize k0_pay8 V w0 = s0
  generalize k0_pay9 V w1 = s1
  generalize k0_pay10 V w2 = s2
  generalize k0_pay11 V w3 = s3
  intro e8 e9 e10 e11
  pointwise [k0_pay1]
  simp only [e8, e9, e10, e11]
  refine congrArg₂ _ rfl (congrArg₂ _ ?_ rfl)
  split
  · exact head_sum W (fun r x => w0 (ix3 0 r x)) (fun x d => V (ix2 ⟨128 + x.val, by omega⟩ d)) 0 h0 r d _ (by simp) (by show d.val / 128 = 0; omega)
  split
  · exact head_sum W (fun r x => w1 (ix3 0 r x)) (fun x d => V (ix2 ⟨128 + x.val, by omega⟩ d)) 1 h1 r d _ (by show 128 + (d.val - 128) = d.val; omega) (by show d.val / 128 = 1; omega)
  split
  · exact head_sum W (fun r x => w2 (ix3 0 r x)) (fun x d => V (ix2 ⟨128 + x.val, by omega⟩ d)) 2 h2 r d _ (by show 256 + (d.val - 128 - 128) = d.val; omega) (by show d.val / 128 = 2; omega)
  · exact head_sum W (fun r x => w3 (ix3 0 r x)) (fun x d => V (ix2 ⟨128 + x.val, by omega⟩ d)) 3 h3 r d _ (by show 384 + (d.val - 128 - 128 - 128) = d.val; omega) (by show d.val / 128 = 3; omega)

/-- Which block each window holds at the point `t`, which works on the tile of tokens `t`. -/
theorem index_eq : ∀ t : Fin grid0.N,
    win0_0.index t = ![t.val, 1] ∧ win0_1.index t = ![0, 0] ∧ win0_2.index t = ![0, 0, 0] ∧ win0_3.index t = ![0, 0]
    ∧ win0_4.index t = ![t.val, 0] := by
  decide +kernel

variable (m : (ℓ : Loc nD τ sig) → Buf (Elt Ideal) ℓ) (c : Dev nD)

/-- The projected tokens, as an array of numbers. -/
abbrev zA : S24576x3584.Idx → EReal := m ((c.tc : Thread nD τ).loc main_arg0)
/-- The norm's weight. -/
abbrev gA : S512.Idx → EReal := m ((c.tc : Thread nD τ).loc main_arg1)
/-- The heads' weights. -/
abbrev wA : S4x128x128.Idx → EReal := m ((c.tc : Thread nD τ).loc main_arg2)
/-- The heads' biases. -/
abbrev bA : S4x128.Idx → EReal := m ((c.tc : Thread nD τ).loc main_arg3)

/-- What the call computes at token `a` and feature `d`. -/
def result (a : Fin 24576) (d : Fin 512) : EReal :=
  entry (fun a k => zA m c (ix2 a k)) (fun d => gA m c (ix1 d)) (fun h r x => wA m c (ix3 h r x)) (fun h r => bA m c (ix2 h r)) a d

/-- The grid has 96 points, one for each tile of tokens. -/
theorem point_lt (t : Fin cfg0.N) : t.val < 96 := lt_of_lt_of_eq t.isLt N_0

/-- The token at row `r` of the tile that point `t` works on. -/
def tok (t : Fin cfg0.N) (r : Fin 256) : Fin 24576 := ⟨t.val * 256 + r.val, by have := point_lt t; have := r.isLt; omega⟩

/-- The projected tokens reach the tiles as launched. -/
theorem z_eq : V m c (Pipeline.arrRef spec0 0) = zA m c := V_main_arg0 m c

/-- The norm's weight as the host lays it out, one row. -/
theorem g_eq (d : Fin 512) : (V m c (Pipeline.arrRef spec0 1) : S1x512.Idx → EReal) (ix2 0 d) = gA m c (ix1 d) := by
  simp only [V, hostOps0]
  entry_read
  pointwise

/-- The heads' weights as the host lays them out, in the shorter format. -/
theorem w_eq (h : Fin 4) (r x : Fin 128) : (V m c (Pipeline.arrRef spec0 2) : S4x128x128.Idx → EReal) (ix3 h r x) = wA m c (ix3 h r x) := by
  simp only [V, hostOps0]
  entry_read
  pointwise

/-- The biases as the host lays them out: a head's bias at a place of the chunk, for each of the head's features. -/
theorem b_eq (r : Fin 128) (d : Fin 512) : (V m c (Pipeline.arrRef spec0 3) : S128x512.Idx → EReal) (ix2 r d) = bA m c (ix2 ⟨d.val / 128, by omega⟩ r) := by
  simp only [V, hostOps0]
  entry_read
  pointwise

/-- A tile's block of the projected tokens. -/
def zB (t : Fin cfg0.N) : Vec Ideal S256x1024 .f32 := X0_0 m c t
/-- A tile's copy of the norm's weight. -/
def gB (t : Fin cfg0.N) : Vec Ideal S1x512 .f32 := iblk m c 1 t
/-- A tile's copy of the heads' weights. -/
def wB (t : Fin cfg0.N) : Vec Ideal S4x128x128 .bf16 := iblk m c 2 t
/-- A tile's copy of the biases. -/
def bB (t : Fin cfg0.N) : Vec Ideal S128x512 .f32 := iblk m c 3 t

/-- A tile's block of the projected tokens, entry by entry: the features from 1024 on. -/
theorem z_apply (t : Fin cfg0.N) (r : Fin 256) (q : Fin 1024) : zB m c t (ix2 r q) = zA m c (ix2 (tok t r) ⟨1024 + q.val, by omega⟩) := by
  obtain ⟨e0, -⟩ := index_eq t
  rw [← z_eq]
  unfold zB X0_0 Pipeline.Window.fill
  rw [dif_pos (moved0_0 t _)]
  blk_ext [iblk, e0, tok]

/-- The norm's weight, entry by entry. -/
theorem gB_apply (t : Fin cfg0.N) (d : Fin 512) : gB m c t (ix2 0 d) = gA m c (ix1 d) := by
  obtain ⟨-, e1, -⟩ := index_eq t
  rw [← g_eq]
  blk_ext [gB, iblk, e1]

/-- The heads' weights, entry by entry. -/
theorem wB_apply (t : Fin cfg0.N) (h : Fin 4) (r x : Fin 128) : wB m c t (ix3 h r x) = wA m c (ix3 h r x) := by
  obtain ⟨-, -, e2, -⟩ := index_eq t
  rw [← w_eq]
  blk_ext [wB, iblk, e2]

/-- The biases, entry by entry. -/
theorem bB_apply (t : Fin cfg0.N) (r : Fin 128) (d : Fin 512) : bB m c t (ix2 r d) = bA m c (ix2 ⟨d.val / 128, by omega⟩ r) := by
  obtain ⟨-, -, -, e3, -⟩ := index_eq t
  rw [← b_eq]
  blk_ext [bB, iblk, e3]

/-- The unit of the token at place `s` of the tile, in the chunk that begins at place `o`. -/
theorem unit_apply (t : Fin cfg0.N) (o : ℕ) (ho : o % 128 = 0) (r : Fin 128) (h : o + r.val < 256) (hc : o ≤ 128) (d : Fin 512) :
    unit (k0_pay3 (zB m c t) (ix2 ⟨o + r.val, h⟩ d)) (fun x => k0_pay4 (zB m c t) (gB m c t) (ix2 ⟨o + x.val, by omega⟩ d))
      (fun h r x => wA m c (ix3 h r x)) (bB m c t (ix2 r d)) r d = result m c (tok t ⟨o + r.val, h⟩) d := by
  have hr := r.isLt
  have er : (⟨(tok t ⟨o + r.val, h⟩).val % 128, by omega⟩ : Fin 128) = r :=
    Fin.ext (by show (t.val * 256 + (o + r.val)) % 128 = r.val; omega)
  have ex : ∀ x : Fin 128, (⟨(tok t ⟨o + r.val, h⟩).val / 128 * 128 + x.val, by omega⟩ : Fin 24576) = tok t ⟨o + x.val, by omega⟩ := fun x =>
    Fin.ext (by show (t.val * 256 + (o + r.val)) / 128 * 128 + x.val = t.val * 256 + (o + x.val); omega)
  unfold result entry vals
  rw [er]
  simp only [ex, pay3_apply, pay4_apply, z_apply, gB_apply, bB_apply]

/-- What a point stores for its tile. -/
theorem out_apply (t : Fin cfg0.N) (r : Fin 256) (d : Fin 512) : outsAt0 (F := Ideal) m c t (ix2 r d) = result m c (tok t r) d := by
  have hw : ∀ (k : Fin 4) (inb) (r x : Fin 128), View.ld (wB m c t) (Rect.unit ![k.val, 0, 0] ![1, 128, 128] inb) (ix3 0 r x) = wA m c (ix3 k r x) := fun k inb r x => by
    rw [← wB_apply m c t k r x]
    exact congrArg (wB m c t) (by funext b; fin_cases b <;> (apply Fin.ext; show _ + _ * _ = _; simp [ix3]))
  unfold outsAt0
  frame_out
  canon_tiles x h
  · obtain ⟨x0, x1, rfl⟩ : ∃ (x0 : Fin 128) (x1 : Fin 512), x = ix2 x0 x1 := ⟨x 0, x 1, by funext b; fin_cases b <;> rfl⟩
    have hr : r.val = 128 + x0.val := h0
    have hd : d = x1 := Fin.ext h1
    refine (pay1_apply (k0_pay3 (zB m c t)) (k0_pay4 (zB m c t) (gB m c t)) _ _ _ _ (bB m c t) (fun h r x => wA m c (ix3 h r x)) (hw 0 _) (hw 1 _) (hw 2 _) (hw 3 _) x0 x1).trans ?_
    refine (unit_apply m c t 128 rfl x0 (by omega) le_rfl x1).trans ?_
    rw [hd]
    exact congrArg (fun s => result m c (tok t s) x1) (Fin.ext hr.symm)
  · obtain ⟨x0, x1, rfl⟩ : ∃ (x0 : Fin 128) (x1 : Fin 512), x = ix2 x0 x1 := ⟨x 0, x 1, by funext b; fin_cases b <;> rfl⟩
    have hr : r.val = x0.val := h0
    have hd : d = x1 := Fin.ext h1
    refine (pay7_apply (zB m c t) (gB m c t) _ _ _ _ (bB m c t) (fun h r x => wA m c (ix3 h r x)) (hw 0 _) (hw 1 _) (hw 2 _) (hw 3 _) x0 x1).trans ?_
    have e := unit_apply m c t 0 rfl x0 (by omega) (by omega) x1
    simp only [Nat.zero_add] at e
    refine e.trans ?_
    rw [hd]
    exact congrArg (fun s => result m c (tok t s) x1) (Fin.ext hr.symm)

/-- Where the place `(r, d)` of the block that point `t` writes back lies in the result array. -/
theorem place (t : Fin cfg0.N) (r : Fin 256) (d : Fin 512) :
    (((cfg0.win 4).blk t).view.emb (ix2 r d) 0 : Fin 24576) = tok t r ∧ (((cfg0.win 4).blk t).view.emb (ix2 r d) 1 : Fin 512) = d := by
  obtain ⟨-, -, -, -, e4⟩ := index_eq t
  constructor
  · apply Fin.ext; blk_simp [e4, tok]
  · apply Fin.ext; blk_simp [e4]

/-- The result array after the run. -/
theorem final : (dats m 0 c).arrAt 4 cfg0.N = fun j => result m c (j 0) (j 1) := by
  refine (dats m 0 c).arrAt_eq_of_covers 4 _ (by decide +kernel) fun t hf y => ?_
  idx_vars y
  obtain ⟨p0, p1⟩ := place t y0 y1
  show (dats m 0 c).after 4 t (ix2 y0 y1) = result m c (((cfg0.win 4).blk t).view.emb (ix2 y0 y1) 0) (((cfg0.win 4).blk t).view.emb (ix2 y0 y1) 1)
  rw [after0_4, p0, p1]
  exact out_apply m c t y0 y1

end Kernel

section Reference
open Cert.Reference11Ideal Cert.Reference11Ideal.Gen

/-- The part of the projected tokens that the reference reads: the features from 1024 on. -/
abbrev part (z : FVec Ideal S24576x3584 .f32) : FVec Ideal S24576x1024 .f32 :=
  extractStridedSlice S24576x1024 ![0, 1024] z slices_S24576x3584_S24576x1024_0_1024

/-- It is the array's entry, 1024 features on. -/
theorem part_apply (z : FVec Ideal S24576x3584 .f32) (a : Fin 24576) (q : Fin 1024) : part z (ix2 a q) = z (ix2 a ⟨1024 + q.val, by omega⟩) := by
  pointwise [part]

/-- The gelus of the reference. -/
abbrev gelus (y : FVec Ideal S24576x1024 .f32) : FVec Ideal S24576x1024 .f32 :=
  mulf y (mulf (broadcastInDim S24576x1024 ![] bcast_S_S24576x1024 (constant S_ .f32 0x3F000000#32)) (addf (broadcastInDim S24576x1024 ![] bcast_S_S24576x1024 (constant S_ .f32 0x3F800000#32)) (Host.tanh (mulf (broadcastInDim S24576x1024 ![] bcast_S_S24576x1024 (constant S_ .f32 0x3F4C422A#32)) (addf y (mulf (broadcastInDim S24576x1024 ![] bcast_S_S24576x1024 (constant S_ .f32 0x3D372713#32)) (mulf (mulf y y) y)))))))

/-- They are the gelu of each number: the cube's two groupings agree. -/
theorem gelus_apply (y : FVec Ideal S24576x1024 .f32) (a : Fin 24576) (q : Fin 1024) : gelus y (ix2 a q) = gelu (y (ix2 a q)) := by
  unfold gelu
  rw [← mul_assoc (y (ix2 a q)) (y (ix2 a q)) (y (ix2 a q))]
  pointwise [gelus]

/-- The first half of the gelus. -/
abbrev us (y : FVec Ideal S24576x1024 .f32) : FVec Ideal S24576x512 .f32 := extractStridedSlice S24576x512 ![0, 0] y slices_S24576x1024_S24576x512_0_0
/-- The second half of the gelus. -/
abbrev vs (y : FVec Ideal S24576x1024 .f32) : FVec Ideal S24576x512 .f32 := extractStridedSlice S24576x512 ![0, 512] y slices_S24576x1024_S24576x512_0_512

/-- The first half, entry by entry. -/
theorem us_apply (y : FVec Ideal S24576x1024 .f32) (a : Fin 24576) (d : Fin 512) : us y (ix2 a d) = y (ix2 a ⟨d.val, by omega⟩) := by
  pointwise [us]
/-- The second half, entry by entry. -/
theorem vs_apply (y : FVec Ideal S24576x1024 .f32) (a : Fin 24576) (d : Fin 512) : vs y (ix2 a d) = y (ix2 a ⟨512 + d.val, by omega⟩) := by
  pointwise [vs]

/-- The normalised values of the reference. -/
abbrev norms (y : FVec Ideal S24576x512 .f32) (g : FVec Ideal S512 .f32) : FVec Ideal S24576x512 .f32 :=
  mulf (mulf y (broadcastInDim S24576x512 ![0, 1] bcast_S24576x1_S24576x512_0_1 (Host.rsqrt (addf (Host.divf (broadcastInDim S24576x1 ![0] bcast_S24576_S24576x1_0 (Host.reduceAdd (mulf y y) (constant S_ .f32 0x00000000#32) reducesTo_S24576x512_S24576_d1 h_S_)) (broadcastInDim S24576x1 ![] bcast_S_S24576x1 (constant S_ .f32 0x44000000#32))) (broadcastInDim S24576x1 ![] bcast_S_S24576x1 (constant S_ .f32 0x358637BD#32)))))) (broadcastInDim S24576x512 ![0, 1] bcast_S1x512_S24576x512_0_1 (broadcastInDim S1x512 ![1] bcast_S512_S1x512_1 g))

/-- They are the normalised features, entry by entry. -/
theorem norms_apply (y : FVec Ideal S24576x512 .f32) (g : FVec Ideal S512 .f32) (a : Fin 24576) (d : Fin 512) :
    norms y g (ix2 a d) = norm (fun q => y (ix2 a q)) (g (ix1 d)) d := by
  unfold norm
  pointwise [norms]

/-- The mix of every chunk in the reference, with the biases. -/
abbrev mix (v : FVec Ideal S24576x512 .f32) (w : FVec Ideal S4x128x128 .f32) (b : FVec Ideal S4x128 .f32) : FVec Ideal S24576x512 .f32 :=
  shapeCast _ (addf (transpose S192x128x4x128 [1, 3, 0, 2] (Host.dotGeneral dot_S192x128x4x128_S4x128x128_S4x192x128x128_1_2_03_1_2_0 none (shapeCast _ v shapeCasts_S24576x512_S192x128x4x128) w) transposes_S4x192x128x128_S192x128x4x128_1_3_0_2) (broadcastInDim S192x128x4x128 ![0, 1, 2, 3] bcast_S1x128x4x1_S192x128x4x128_0_1_2_3 (broadcastInDim S1x128x4x1 ![1, 2] bcast_S128x4_S1x128x4x1_1_2 (transpose S128x4 [1, 0] b transposes_S4x128_S128x4_1_0)))) shapeCasts_S192x128x4x128_S24576x512

/-- Entry by entry: the sum over the token's chunk, plus the bias. -/
theorem mix_apply (v : FVec Ideal S24576x512 .f32) (w : FVec Ideal S4x128x128 .f32) (b : FVec Ideal S4x128 .f32) (a : Fin 24576) (d : Fin 512) :
    mix v w b (ix2 a d) = ∑ x : Fin 128, v (ix2 ⟨a.val / 128 * 128 + x.val, by omega⟩ d) * w (ix3 ⟨d.val / 128, by omega⟩ ⟨a.val % 128, by omega⟩ x)
      + b (ix2 ⟨d.val / 128, by omega⟩ ⟨a.val % 128, by omega⟩) := by
  pointwise [mix]

/-- The reference's result, from its arguments. -/
abbrev refTerm (z : FVec Ideal S24576x3584 .f32) (g : FVec Ideal S512 .f32) (w : FVec Ideal S4x128x128 .f32) (b : FVec Ideal S4x128 .f32) :
    FVec Ideal S24576x512 .bf16 :=
  truncf .bf16 (mulf (us (gelus (part z))) (mix (norms (vs (gelus (part z))) g) w b)) bitsLt_bf16_f32

/-- The reference's result, entry by entry. -/
theorem refTerm_apply (z : FVec Ideal S24576x3584 .f32) (g : FVec Ideal S512 .f32) (w : FVec Ideal S4x128x128 .f32) (b : FVec Ideal S4x128 .f32)
    (a : Fin 24576) (d : Fin 512) :
    refTerm z g w b (ix2 a d) = entry (fun a k => z (ix2 a k)) (fun d => g (ix1 d)) (fun h r x => w (ix3 h r x)) (fun h r => b (ix2 h r)) a d := by
  show us (gelus (part z)) (ix2 a d) * mix (norms (vs (gelus (part z))) g) w b (ix2 a d) = _
  rw [mix_apply, us_apply, entry, unit, gelus_apply, part_apply]
  refine congrArg₂ _ rfl (congrArg₂ _ (Finset.sum_congr rfl fun x _ => ?_) rfl)
  rw [norms_apply, mul_comm, vals]
  simp only [vs_apply, gelus_apply, part_apply]

end Reference

/-- From equal arguments both programs run and leave the same result. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => (fun j => result m c (j 0) (j 1)), ?_, ?_⟩
  · refine (θ_run (Cert.Kernel11Ideal.defs (F := Ideal)) _ _).mono (fun r h c => ?_) (Cert.Kernel11Ideal.Value.run_blocks (F := Ideal) m g)
    exact ⟨(h c).1.trans (final m c), (h c).2⟩
  · refine (θ_run (Cert.Reference11Ideal.defs (F := Ideal)) _ _).mono (fun r h c => ?_) (Cert.Reference11Ideal.Value.run (F := Ideal) m' g')
    obtain ⟨hv, hrest⟩ := h c
    refine ⟨hv.trans ?_, hrest⟩
    obtain ⟨a0, a1, a2, a3⟩ := hargs c
    unfold Cert.Reference11Ideal.Value.res_main_v38
    rw [a0, a1, a2, a3]
    funext j
    obtain ⟨a, d, rfl⟩ : ∃ (a : Fin 24576) (d : Fin 512), j = ix2 a d := ⟨j 0, j 1, by funext b; fin_cases b <;> rfl⟩
    exact refTerm_apply _ _ _ _ a d

end Cert.Sgu

end
-- ==== Proof.Fourier.lean ====
/- The mixer's Fourier branch over the samples: what its result array holds after the run over the extended reals, and that its
   reference computes the same. -/
module

public import proofs.«01_k».proof.Defs
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Pipeline.ValueKit.Tiles
public import Idealize.ShloMosaic.Lib.Claim
public import Idealize.ShloMosaic.Lib.Quiescent
public import Idealize.ShloMosaic.Lib.Tactic.CleanTypes

@[expose] public section

set_option maxRecDepth 16384

noncomputable section

namespace Cert.Fourier

open Idealize.ShloMosaic Idealize.ShloMosaic.TcCoe Idealize.SL.Sem

/-- A channel transform at feature `d` of a token with features `x`: the 128 channels of the feature's group, each times the table's
    entry. -/
def chan (t : Fin 128 → Fin 128 → EReal) (x : Fin 512 → EReal) (d : Fin 512) : EReal :=
  ∑ k : Fin 128, x ⟨d.val / 128 * 128 + k.val, by omega⟩ * t k ⟨d.val % 128, by omega⟩

/-- The features of the branch, of sample token `a`: token `8192 + a`, features from 512 on. -/
def feats (z : Fin 24576 → Fin 3584 → EReal) (a : Fin 16384) (q : Fin 512) : EReal := z ⟨8192 + a.val, by omega⟩ ⟨512 + q.val, by omega⟩

/-- The sample token at position `x` of the sequence of token `a`. -/
def seqTok (a : Fin 16384) (x : Fin 2048) : Fin 16384 := ⟨a.val / 2048 * 2048 + x.val, by omega⟩

/-- The real part of the two transforms at token `a` and feature `d`: the position's cosines times the channel cosines, and its negated
    sines times the channel sines, summed over the sequence. -/
def entry (tc ts : Fin 128 → Fin 128 → EReal) (lc ls : Fin 2048 → Fin 2048 → EReal) (z : Fin 24576 → Fin 3584 → EReal)
    (a : Fin 16384) (d : Fin 512) : EReal :=
  ∑ x : Fin 2048, lc ⟨a.val % 2048, by omega⟩ x * chan tc (feats z (seqTok a x)) d
    + ∑ x : Fin 2048, -ls ⟨a.val % 2048, by omega⟩ x * chan ts (feats z (seqTok a x)) d

/-- A sum over all 512 features with a table that is zero between groups is the sum over the feature's group. -/
theorem group_sum (x : Fin 512 → EReal) (t : Fin 128 → Fin 128 → EReal) (d : Fin 512) :
    ∑ q : Fin 512, x q * ((if q.val / 128 = d.val / 128 then 1 else 0) * t ⟨q.val % 128, by omega⟩ ⟨d.val % 128, by omega⟩) = chan t x d := by
  rw [← (finProdFinEquiv : Fin 4 × Fin 128 ≃ Fin (4 * 128)).sum_comp (fun q : Fin 512 => x q * ((if q.val / 128 = d.val / 128 then 1 else 0) * t ⟨q.val % 128, by omega⟩ ⟨d.val % 128, by omega⟩)),
    Fintype.sum_prod_type, Finset.sum_eq_single (⟨d.val / 128, by omega⟩ : Fin 4)]
  · refine Finset.sum_congr rfl fun k _ => ?_
    have hk := k.isLt
    have e : ((finProdFinEquiv ((⟨d.val / 128, by omega⟩ : Fin 4), k) : Fin 512)) = ⟨d.val / 128 * 128 + k.val, by omega⟩ :=
      Fin.ext (by show k.val + 128 * (d.val / 128) = d.val / 128 * 128 + k.val; omega)
    have e' : (⟨(d.val / 128 * 128 + k.val) % 128, by omega⟩ : Fin 128) = k := Fin.ext (by show (d.val / 128 * 128 + k.val) % 128 = k.val; omega)
    simp only [e, e']
    rw [if_pos (by show (d.val / 128 * 128 + k.val) / 128 = d.val / 128; omega), one_mul]
  · intro h _ hne
    refine Finset.sum_eq_zero fun k _ => ?_
    have hk := k.isLt
    have e : (finProdFinEquiv (h, k) : Fin 512).val / 128 = h.val := by show (k.val + 128 * h.val) / 128 = h.val; omega
    rw [if_neg (fun h' => hne (Fin.ext (e.symm.trans h'))), zero_mul, mul_zero]
  · exact fun h => absurd (Finset.mem_univ _) h

/-- A sum over 4096 places is the sum over the first 2048 plus the sum over the others. -/
theorem halves_sum (g : Fin 4096 → EReal) : ∑ x, g x = ∑ x : Fin 2048, g ⟨x.val, by omega⟩ + ∑ x : Fin 2048, g ⟨2048 + x.val, by omega⟩ :=
  Fin.sum_univ_add (a := 2048) (b := 2048) g

section Kernel
open Cert.Kernel13Ideal Cert.Kernel13Ideal.Gen

/-- The angles of the transform of length 128 in the kernel: the product of the two positions modulo 128, times `2π/128`. -/
def angCK : FVec Ideal S128x128 .f32 :=
  mulf (sitofp .f32 (select (andi (cmpi .ne (cmpi .slt (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (constantI S_ 32 0#32))) (broadcastInDim S128x128 ![] bcast_S_S128x128 (cmpi .slt (select (cmpi .eq (id (constantI S_ 32 128#32)) (constantI S_ 32 0#32)) (constantI S_ 32 1#32) (id (constantI S_ 32 128#32))) (constantI S_ 32 0#32)))) (cmpi .ne (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (constantI S_ 32 0#32)))) (addi (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (select (cmpi .eq (id (constantI S_ 32 128#32)) (constantI S_ 32 0#32)) (constantI S_ 32 1#32) (id (constantI S_ 32 128#32))))) (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))))) (broadcastInDim S128x128 ![] bcast_S_S128x128 (constant S_ .f32 0x3D490FDB#32))

/-- The cosines of these angles, over the square root of 128. -/
def cosCK : FVec Ideal S128x128 .f32 :=
  Host.divf (Host.cos angCK) (broadcastInDim S128x128 ![] bcast_S_S128x128 (constant S_ .f32 0x413504F3#32))

/-- The sines of these angles, over the square root of 128. -/
def sinCK : FVec Ideal S128x128 .f32 :=
  Host.divf (Host.sin angCK) (broadcastInDim S128x128 ![] bcast_S_S128x128 (constant S_ .f32 0x413504F3#32))

/-- The angles of the transform of length 2048 in the kernel: the product of the two positions modulo 2048, times `2π/2048`. -/
def angLK : FVec Ideal S2048x2048 .f32 :=
  mulf (sitofp .f32 (select (andi (cmpi .ne (cmpi .slt (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (constantI S_ 32 0#32))) (broadcastInDim S2048x2048 ![] bcast_S_S2048x2048 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (constantI S_ 32 0#32)))) (addi (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (select (cmpi .eq (id (constantI S_ 32 2048#32)) (constantI S_ 32 0#32)) (constantI S_ 32 1#32) (id (constantI S_ 32 2048#32))))) (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))))) (broadcastInDim S2048x2048 ![] bcast_S_S2048x2048 (constant S_ .f32 0x3B490FDB#32))

/-- The cosines of these angles, over the square root of 2048. -/
def cosLK : FVec Ideal S2048x2048 .f32 :=
  Host.divf (Host.cos angLK) (broadcastInDim S2048x2048 ![] bcast_S_S2048x2048 (constant S_ .f32 0x423504F3#32))

/-- The sines of these angles, over the square root of 2048. -/
def sinLK : FVec Ideal S2048x2048 .f32 :=
  Host.divf (Host.sin angLK) (broadcastInDim S2048x2048 ![] bcast_S_S2048x2048 (constant S_ .f32 0x423504F3#32))

/-- The table that is one where group equals group and zero elsewhere. -/
abbrev eye : FVec Ideal S4x4 .f32 :=
  uitofp .f32 (cmpi .eq (addi (iotaInDim S4x4 32 0) (broadcastInDim S4x4 ![] bcast_S_S4x4 (constantI S_ 32 0#32))) (iotaInDim S4x4 32 1))

/-- Where it is one. -/
theorem eye_bit : ∀ i j : Fin 4, IntOp.cmpi .eq (addi (iotaInDim S4x4 32 0) (broadcastInDim S4x4 ![] bcast_S_S4x4 (constantI S_ 32 0#32)) (ix2 i j))
    (iotaInDim S4x4 32 1 (ix2 i j)) = if i.val = j.val then 1#1 else 0#1 := by
  decide

/-- Its entries. -/
theorem eye_apply (i j : Fin 4) : eye (ix2 i j) = if i.val = j.val then (1 : EReal) else 0 := by
  show FloatOps.uitofp (F := Ideal) FTy.f32 (IntOp.cmpi .eq (addi (iotaInDim S4x4 32 0) (broadcastInDim S4x4 ![] bcast_S_S4x4 (constantI S_ 32 0#32)) (ix2 i j))
    (iotaInDim S4x4 32 1 (ix2 i j))) = _
  rw [eye_bit]
  split
  · show (((1#1 : BitVec 1).toNat : ℝ) : EReal) = 1
    simp
  · show (((0#1 : BitVec 1).toNat : ℝ) : EReal) = 0
    simp

/-- A channel table laid out for all four groups at once: the table within a group, zero between groups. -/
abbrev wide (t : FVec Ideal S128x128 .f32) : FVec Ideal S512x512 .f32 :=
  shapeCast _ (mulf (broadcastInDim S4x128x4x128 ![0, 1, 2, 3] bcast_S4x1x4x1_S4x128x4x128_0_1_2_3 (broadcastInDim S4x1x4x1 ![0, 2] bcast_S4x4_S4x1x4x1_0_2 eye)) (broadcastInDim S4x128x4x128 ![0, 1, 2, 3] bcast_S1x128x1x128_S4x128x4x128_0_1_2_3 (broadcastInDim S1x128x1x128 ![1, 3] bcast_S128x128_S1x128x1x128_1_3 t))) shapeCasts_S4x128x4x128_S512x512

/-- Its entries. -/
theorem wide_apply (t : FVec Ideal S128x128 .f32) (q d : Fin 512) :
    wide t (ix2 q d) = (if q.val / 128 = d.val / 128 then 1 else 0) * t (ix2 ⟨q.val % 128, by omega⟩ ⟨d.val % 128, by omega⟩) := by
  have e := eye_apply ⟨q.val / 128, by omega⟩ ⟨d.val / 128, by omega⟩
  rw [← e]
  unfold wide
  generalize eye = E
  pointwise

/-- The two channel tables side by side. -/
abbrev chanTab : FVec Ideal S512x1024 .f32 :=
  concatenate S512x1024 1 [⟨S512x512, wide cosCK⟩, ⟨S512x512, wide sinCK⟩] concatenates_S512x512_S512x512_S512x1024_d1

/-- The first of them. -/
theorem chanTab_cos (q d : Fin 512) : chanTab (ix2 q ⟨d.val, by omega⟩) = wide cosCK (ix2 q d) := by
  unfold chanTab
  generalize wide cosCK = A
  generalize wide sinCK = B
  pointwise

/-- The second of them. -/
theorem chanTab_sin (q d : Fin 512) : chanTab (ix2 q ⟨512 + d.val, by omega⟩) = wide sinCK (ix2 q d) := by
  unfold chanTab
  generalize wide cosCK = A
  generalize wide sinCK = B
  pointwise

/-- The cosines and the negated sines of the positions side by side. -/
abbrev seqTab : FVec Ideal S2048x4096 .f32 :=
  concatenate S2048x4096 1 [⟨S2048x2048, cosLK⟩, ⟨S2048x2048, Host.negf sinLK⟩] concatenates_S2048x2048_S2048x2048_S2048x4096_d1

/-- The cosines. -/
theorem seqTab_cos (l x : Fin 2048) : seqTab (ix2 l ⟨x.val, by omega⟩) = cosLK (ix2 l x) := by
  unfold seqTab
  generalize cosLK = A
  generalize sinLK = B
  pointwise

/-- The negated sines. -/
theorem seqTab_sin (l x : Fin 2048) : seqTab (ix2 l ⟨2048 + x.val, by omega⟩) = -sinLK (ix2 l x) := by
  unfold seqTab
  generalize cosLK = A
  generalize sinLK = B
  pointwise

/-- A tile of the result: its rows of the table of positions times the kept channel transforms. -/
theorem pay4_apply (v : Vec Ideal S512x4096 .bf16) (s : Vec Ideal S4096x512 .bf16) (r d : Fin 512) :
    k0_pay4 v s (ix2 r d) = ∑ x : Fin 4096, v (ix2 r x) * s (ix2 x d) := by
  pointwise [k0_pay4]

/-- The first half kept: the features times the first channel table. -/
theorem pay2_apply (x : Vec Ideal S2048x512 .f32) (w : Vec Ideal S512x1024 .bf16) (r : Fin 2048) (d : Fin 512) :
    k0_pay2 x w (ix2 r d) = ∑ q : Fin 512, x (ix2 r q) * w (ix2 q ⟨d.val, by omega⟩) := by
  pointwise [k0_pay2, k0_pay1]

/-- The second half kept: the features times the second channel table. -/
theorem pay3_apply (x : Vec Ideal S2048x512 .f32) (w : Vec Ideal S512x1024 .bf16) (r : Fin 2048) (d : Fin 512) :
    k0_pay3 x w (ix2 r d) = ∑ q : Fin 512, x (ix2 r q) * w (ix2 q ⟨512 + d.val, by omega⟩) := by
  pointwise [k0_pay3, k0_pay1]

/-- Which block each window holds at the point `t`, that is at sequence `t / 4` and tile `t % 4` of it. -/
theorem index_eq : ∀ t : Fin grid0.N,
    win0_0.index t = ![4 + t.val / 4, 1] ∧ win0_1.index t = ![0, 0] ∧ win0_2.index t = ![t.val % 4, 0] ∧ win0_3.index t = ![t.val, 0] := by
  decide +kernel

variable (m : (ℓ : Loc nD τ sig) → Buf (Elt Ideal) ℓ) (c : Dev nD)

/-- The projected tokens, as an array of numbers. -/
abbrev zA : S24576x3584.Idx → EReal := m ((c.tc : Thread nD τ).loc main_arg0)

/-- What the call computes at sample token `a` and feature `d`. -/
def result (a : Fin 16384) (d : Fin 512) : EReal :=
  entry (fun i j => cosCK (ix2 i j)) (fun i j => sinCK (ix2 i j)) (fun i j => cosLK (ix2 i j)) (fun i j => sinLK (ix2 i j))
    (fun a k => zA m c (ix2 a k)) a d

/-- The grid has 32 points, one for each tile of sample tokens. -/
theorem point_lt (t : Fin cfg0.N) : t.val < 32 := lt_of_lt_of_eq t.isLt N_0

/-- The sample token at row `r` of the tile that point `t` works on. -/
def tok (t : Fin cfg0.N) (r : Fin 512) : Fin 16384 := ⟨t.val * 512 + r.val, by have := point_lt t; have := r.isLt; omega⟩

/-- The sample token at position `x` of the sequence that point `t` works on. -/
def pos (t : Fin cfg0.N) (x : Fin 2048) : Fin 16384 := ⟨t.val / 4 * 2048 + x.val, by have := point_lt t; have := x.isLt; omega⟩

/-- The projected tokens reach the tiles as launched. -/
theorem z_eq : V m c (Pipeline.arrRef spec0 0) = zA m c := V_main_arg0 m c

/-- The channel tables as the host lays them out. -/
theorem w_eq : (V m c (Pipeline.arrRef spec0 1) : S512x1024.Idx → EReal) = truncf (F := Ideal) .bf16 chanTab bitsLt_bf16_f32 := by
  simp only [V, hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.nullary, StableHlo.TRef.ternary, StableHlo.TRef.reshape, StableHlo.TRef.toBuf, StableHlo.TRef.ofBuf, cast_eq]
  entry_read
  rfl

/-- The tables of positions as the host lays them out. -/
theorem l_eq : (V m c (Pipeline.arrRef spec0 2) : S2048x4096.Idx → EReal) = truncf (F := Ideal) .bf16 seqTab bitsLt_bf16_f32 := by
  simp only [V, hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.nullary, StableHlo.TRef.ternary, StableHlo.TRef.reshape, StableHlo.TRef.toBuf, StableHlo.TRef.ofBuf, cast_eq]
  entry_read
  rfl

/-- A point's block of the projected tokens: one sequence, the features from 512 on. -/
def zB (t : Fin cfg0.N) : Vec Ideal S2048x512 .f32 := iblk m c 0 t
/-- A point's copy of the channel tables. -/
def wB (t : Fin cfg0.N) : Vec Ideal S512x1024 .bf16 := iblk m c 1 t
/-- A point's rows of the tables of positions. -/
def lB (t : Fin cfg0.N) : Vec Ideal S512x4096 .bf16 := iblk m c 2 t

/-- The block of the projected tokens, entry by entry. -/
theorem zB_apply (t : Fin cfg0.N) (x : Fin 2048) (q : Fin 512) : zB m c t (ix2 x q) = feats (fun a k => zA m c (ix2 a k)) (pos t x) q := by
  obtain ⟨e0, -⟩ := index_eq t
  have ht := point_lt t
  unfold feats
  rw [← z_eq]
  blk_ext [zB, iblk, e0, pos]

/-- The channel tables, entry by entry. -/
theorem wB_apply (t : Fin cfg0.N) (q : Fin 512) (d : Fin 1024) : wB m c t (ix2 q d) = chanTab (ix2 q d) := by
  obtain ⟨-, e1, -⟩ := index_eq t
  have e : chanTab (ix2 q d) = (V m c (Pipeline.arrRef spec0 1) : S512x1024.Idx → EReal) (ix2 q d) := by rw [w_eq]; rfl
  rw [e]
  blk_ext [wB, iblk, e1]

/-- The rows of the tables of positions, entry by entry. -/
theorem lB_apply (t : Fin cfg0.N) (r : Fin 512) (x : Fin 4096) :
    lB m c t (ix2 r x) = seqTab (ix2 ⟨t.val % 4 * 512 + r.val, by omega⟩ x) := by
  obtain ⟨-, -, e2, -⟩ := index_eq t
  have e : seqTab (ix2 ⟨t.val % 4 * 512 + r.val, by omega⟩ x) = (V m c (Pipeline.arrRef spec0 2) : S2048x4096.Idx → EReal) (ix2 ⟨t.val % 4 * 512 + r.val, by omega⟩ x) := by rw [l_eq]; rfl
  rw [e]
  blk_ext [lB, iblk, e2]

/-- The channel transforms of the sequence of point `t`: the cosines' in the first 2048 rows, the sines' in the others. -/
def kept (t : Fin cfg0.N) (x : Fin 4096) (d : Fin 512) : EReal :=
  if h : x.val < 2048 then chan (fun i j => cosCK (ix2 i j)) (feats (fun a k => zA m c (ix2 a k)) (pos t ⟨x.val, h⟩)) d
  else chan (fun i j => sinCK (ix2 i j)) (feats (fun a k => zA m c (ix2 a k)) (pos t ⟨x.val - 2048, by omega⟩)) d

/-- The first half that a sequence's first point keeps. -/
theorem pay2_blk (t : Fin cfg0.N) (x : Fin 2048) (d : Fin 512) : k0_pay2 (zB m c t) (wB m c t) (ix2 x d) = kept m c t ⟨x.val, by omega⟩ d := by
  rw [pay2_apply, kept, dif_pos x.isLt, ← group_sum]
  refine Finset.sum_congr rfl fun q _ => ?_
  rw [zB_apply, wB_apply, chanTab_cos, wide_apply]

/-- The second half that a sequence's first point keeps. -/
theorem pay3_blk (t : Fin cfg0.N) (x : Fin 2048) (d : Fin 512) : k0_pay3 (zB m c t) (wB m c t) (ix2 x d) = kept m c t ⟨2048 + x.val, by omega⟩ d := by
  have ex : (⟨2048 + x.val - 2048, by omega⟩ : Fin 2048) = x := Fin.ext (by show 2048 + x.val - 2048 = x.val; omega)
  rw [pay3_apply, kept, dif_neg (by show ¬2048 + x.val < 2048; omega)]
  simp only [ex]
  rw [← group_sum]
  refine Finset.sum_congr rfl fun q _ => ?_
  rw [zB_apply, wB_apply, chanTab_sin, wide_apply]

/-- The two halves stored, from the block of tokens and the tables. -/
abbrev halves (x : Vec Ideal S2048x512 .f32) (w : Vec Ideal S512x1024 .bf16) : List (View.Piece (Elt Ideal) S4096x512 .bf16) :=
  [⟨Rect.unit (s := S4096x512) ![2048, 0] S2048x512.size inb_S4096x512_S2048x512_2048_0, k0_pay3 x w⟩,
    ⟨Rect.unit (s := S4096x512) ![0, 0] S2048x512.size inb_S4096x512_S2048x512_0_0, k0_pay2 x w⟩]

/-- Every place of the kept array lies in one of the two halves stored. -/
theorem halves_cover (x : Vec Ideal S2048x512 .f32) (w : Vec Ideal S512x1024 .bf16) (y : S4096x512.Idx) : ∃ p ∈ halves x w, y ∈ p.1.set :=
  View.cover_of_tiled (s := S4096x512) _ S2048x512.size (by rfl) y

/-- The whole kept array, loaded after its two halves are stored, reads the two halves. -/
theorem load_halves (v : View sig .tc .vmem S4096x512 .bf16) (x : Vec Ideal S2048x512 .f32) (w : Vec Ideal S512x1024 .bf16) :
    v.readCov [⟨Rect.unit (s := S4096x512) ![2048, 0] S2048x512.size inb_S4096x512_S2048x512_2048_0, k0_pay3 x w⟩,
        ⟨Rect.unit (s := S4096x512) ![0, 0] S2048x512.size inb_S4096x512_S2048x512_0_0, k0_pay2 x w⟩]
      (Rect.unit (s := S4096x512) ![0, 0] S4096x512.size inb_S4096x512_S4096x512_0_0).toLoadRect = View.canon (halves x w) := by
  rw [View.readCov_eq_canon_ld _ _ _ (halves_cover x w)]
  exact funext fun j => congrArg (View.canon (halves x w)) (Rect.emb_unit_full (s := S4096x512) _ j)

/-- The two halves together are the sequence's channel transforms. -/
theorem canon_halves (t : Fin cfg0.N) (x : Fin 4096) (d : Fin 512) : View.canon (halves (zB m c t) (wB m c t)) (ix2 x d) = kept m c t x d := by
  canon_tiles y h
  · obtain ⟨y0, y1, rfl⟩ : ∃ (y0 : Fin 2048) (y1 : Fin 512), y = ix2 y0 y1 := ⟨y 0, y 1, by funext b; fin_cases b <;> rfl⟩
    have hx : x = ⟨2048 + y0.val, by omega⟩ := Fin.ext h0
    have hd : d = y1 := Fin.ext h1
    rw [hx, hd]
    exact pay3_blk m c t y0 y1
  · obtain ⟨y0, y1, rfl⟩ : ∃ (y0 : Fin 2048) (y1 : Fin 512), y = ix2 y0 y1 := ⟨y 0, y 1, by funext b; fin_cases b <;> rfl⟩
    have hx : x = ⟨y0.val, by omega⟩ := Fin.ext h0
    have hd : d = y1 := Fin.ext h1
    rw [hx, hd]
    exact pay2_blk m c t y0 y1

/-- A sequence's first point keeps its channel transforms. -/
theorem scratch_first (t : Fin cfg0.N) (h0 : t.val % 4 = 0) (x : Fin 4096) (d : Fin 512) :
    (outsAt0 m c t.val t.isLt).2 (ix2 x d) = kept m c t x d := by
  rw [← canon_halves, outsAt0_A m c t h0]
  frame_out
  rfl

/-- A later point of the sequence leaves what is kept as it was. -/
theorem scratch_next (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- After every point the kept array is the channel transforms of its sequence. -/
theorem running (n : ℕ) (h : n < cfg0.N) (x : Fin 4096) (d : Fin 512) : (outsAt0 m c n h).2 (ix2 x d) = kept m c ⟨n, h⟩ x d := by
  induction n with
  | zero => exact scratch_first m c ⟨0, h⟩ rfl x d
  | succ n ih =>
    by_cases h0 : (n + 1) % 4 = 0
    · exact scratch_first m c ⟨n + 1, h⟩ h0 x d
    · have s := scratch_next m c ⟨n + 1, h⟩ h0
      simp only [Nat.add_sub_cancel] at s
      rw [s, ih (Nat.lt_of_succ_lt h)]
      have hp : ∀ x, pos ⟨n, Nat.lt_of_succ_lt h⟩ x = pos ⟨n + 1, h⟩ x := fun x => Fin.ext (by simp only [pos]; omega)
      unfold kept
      simp only [hp]

/-- What a tile's rows of the tables of positions make of the kept array. -/
theorem tile_apply (t : Fin cfg0.N) (s : Vec Ideal S4096x512 .bf16) (hs : ∀ x d, s (ix2 x d) = kept m c t x d) (r d : Fin 512) :
    k0_pay4 (lB m c t) s (ix2 r d) = result m c (tok t r) d := by
  have hr := r.isLt
  have hpos : ∀ x, seqTok (tok t r) x = pos t x := fun x =>
    Fin.ext (by show (t.val * 512 + r.val) / 2048 * 2048 + x.val = t.val / 4 * 2048 + x.val; omega)
  have hrow : (⟨(tok t r).val % 2048, by omega⟩ : Fin 2048) = ⟨t.val % 4 * 512 + r.val, by omega⟩ :=
    Fin.ext (by show (t.val * 512 + r.val) % 2048 = t.val % 4 * 512 + r.val; omega)
  rw [pay4_apply, halves_sum, result, entry, hrow]
  refine congrArg₂ _ (Finset.sum_congr rfl fun x _ => ?_) (Finset.sum_congr rfl fun x _ => ?_)
  · rw [lB_apply, seqTab_cos, hs, kept, dif_pos x.isLt, hpos]
  · have ex : (⟨2048 + x.val - 2048, by omega⟩ : Fin 2048) = x := Fin.ext (by show 2048 + x.val - 2048 = x.val; omega)
    rw [lB_apply, seqTab_sin, hs, kept, dif_neg (by show ¬2048 + x.val < 2048; omega), hpos]
    simp only [ex]

/-- What a point stores for its tile. -/
theorem out_apply (t : Fin cfg0.N) (r d : Fin 512) : (outsAt0 m c t.val t.isLt).1 (ix2 r d) = result m c (tok t r) d := by
  by_cases h0 : t.val % 4 = 0
  · rw [outsAt0_A m c t h0]
    frame_out
    rw [load_halves]
    exact tile_apply m c t _ (canon_halves m c t) r d
  · rw [outsAt0_B m c t h0]
    frame_out
    simp only [read_unread_whole]
    refine tile_apply m c t _ (fun x d => ?_) r d
    rw [← scratch_next m c t h0]
    exact running m c t.val t.isLt x d

/-- Where the place `(r, d)` of the block that point `t` writes back lies in the result array. -/
theorem place (t : Fin cfg0.N) (r : Fin 512) (d : Fin 512) :
    (((cfg0.win 3).blk t).view.emb (ix2 r d) 0 : Fin 16384) = tok t r ∧ (((cfg0.win 3).blk t).view.emb (ix2 r d) 1 : Fin 512) = d := by
  obtain ⟨-, -, -, e3⟩ := index_eq t
  constructor
  · apply Fin.ext; blk_simp [e3, tok]
  · apply Fin.ext; blk_simp [e3]

/-- The result array after the run. -/
theorem final : (dats m 0 c).arrAt 3 cfg0.N = fun j => result m c (j 0) (j 1) := by
  refine (dats m 0 c).arrAt_eq_of_covers 3 _ (by decide +kernel) fun t hf y => ?_
  idx_vars y
  obtain ⟨p0, p1⟩ := place t y0 y1
  show (dats m 0 c).after 3 t (ix2 y0 y1) = result m c (((cfg0.win 3).blk t).view.emb (ix2 y0 y1) 0) (((cfg0.win 3).blk t).view.emb (ix2 y0 y1) 1)
  rw [after0_3, p0, p1]
  exact out_apply m c t y0 y1

end Kernel

section Reference
open Cert.Reference13Ideal Cert.Reference13Ideal.Gen

/-- The angles of the transform of length 128 in the reference: the product of the two positions modulo 128, times `2π/128`. -/
def angCR : FVec Ideal S128x128 .f32 :=
  mulf (sitofp .f32 (select (andi (cmpi .ne (cmpi .slt (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (constantI S_ 32 0#32))) (broadcastInDim S128x128 ![] bcast_S_S128x128 (cmpi .slt (select (cmpi .eq (id (constantI S_ 32 128#32)) (constantI S_ 32 0#32)) (constantI S_ 32 1#32) (id (constantI S_ 32 128#32))) (constantI S_ 32 0#32)))) (cmpi .ne (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (constantI S_ 32 0#32)))) (addi (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (select (cmpi .eq (id (constantI S_ 32 128#32)) (constantI S_ 32 0#32)) (constantI S_ 32 1#32) (id (constantI S_ 32 128#32))))) (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))))) (broadcastInDim S128x128 ![] bcast_S_S128x128 (constant S_ .f32 0x3D490FDB#32))

/-- The cosines of these angles, over the square root of 128. -/
def cosCR : FVec Ideal S128x128 .f32 :=
  Host.divf (Host.cos angCR) (broadcastInDim S128x128 ![] bcast_S_S128x128 (constant S_ .f32 0x413504F3#32))

/-- The sines of these angles, over the square root of 128. -/
def sinCR : FVec Ideal S128x128 .f32 :=
  Host.divf (Host.sin angCR) (broadcastInDim S128x128 ![] bcast_S_S128x128 (constant S_ .f32 0x413504F3#32))

/-- The angles of the transform of length 2048 in the reference: the product of the two positions modulo 2048, times `2π/2048`. -/
def angLR : FVec Ideal S2048x2048 .f32 :=
  mulf (sitofp .f32 (select (andi (cmpi .ne (cmpi .slt (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (constantI S_ 32 0#32))) (broadcastInDim S2048x2048 ![] bcast_S_S2048x2048 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (constantI S_ 32 0#32)))) (addi (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))) (broadcastInDim S2048x2048 ![] bcast_S_S2048x2048 (select (cmpi .eq (id (constantI S_ 32 2048#32)) (constantI S_ 32 0#32)) (constantI S_ 32 1#32) (id (constantI S_ 32 2048#32))))) (Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (select (cmpi .eq (id (constantI S_ 32 2048#32)) (constantI S_ 32 0#32)) (constantI S_ 32 1#32) (id (constantI S_ 32 2048#32))))))) (broadcastInDim S2048x2048 ![] bcast_S_S2048x2048 (constant S_ .f32 0x3B490FDB#32))

/-- The cosines of these angles, over the square root of 2048. -/
def cosLR : FVec Ideal S2048x2048 .f32 :=
  Host.divf (Host.cos angLR) (broadcastInDim S2048x2048 ![] bcast_S_S2048x2048 (constant S_ .f32 0x423504F3#32))

/-- The sines of these angles, over the square root of 2048. -/
def sinLR : FVec Ideal S2048x2048 .f32 :=
  Host.divf (Host.sin angLR) (broadcastInDim S2048x2048 ![] bcast_S_S2048x2048 (constant S_ .f32 0x423504F3#32))

/-- The samples' features of the branch, by sequence, position, group and channel. -/
abbrev part (z : FVec Ideal S24576x3584 .f32) : FVec Ideal S8x2048x4x128 .f32 :=
  shapeCast _ (extractStridedSlice S16384x512 ![8192, 512] z slices_S24576x3584_S16384x512_8192_512) shapeCasts_S16384x512_S8x2048x4x128

/-- One of the reference's two products of transforms: over the channels with `t`, then over the positions with `l`. -/
abbrev prod (x : FVec Ideal S8x2048x4x128 .f32) (t : FVec Ideal S128x128 .f32) (l : FVec Ideal S2048x2048 .f32) : FVec Ideal S8x2048x4x128 .f32 :=
  transpose S8x2048x4x128 [0, 3, 1, 2] (Host.dotGeneral dot_S8x2048x4x128_S2048x2048_S8x4x128x2048_1_1_023_0_n_n none (Host.dotGeneral dot_S8x2048x4x128_S128x128_S8x2048x4x128_3_0_012_1_n_n none x t) l) transposes_S8x4x128x2048_S8x2048x4x128_0_3_1_2

/-- Its entries. -/
theorem prod_apply (z : FVec Ideal S24576x3584 .f32) (t : FVec Ideal S128x128 .f32) (l : FVec Ideal S2048x2048 .f32) (b : Fin 8) (p : Fin 2048) (h : Fin 4) (k : Fin 128) :
    prod (part z) t l (ix4 b p h k) = ∑ x : Fin 2048, (∑ q : Fin 128, z (ix2 ⟨8192 + (b.val * 2048 + x.val), by omega⟩ ⟨512 + (h.val * 128 + q.val), by omega⟩) * t (ix2 q k)) * l (ix2 p x) := by
  pointwise [prod, part]

/-- The reference's result, from its argument. -/
abbrev refTerm (z : FVec Ideal S24576x3584 .f32) : FVec Ideal S16384x512 .bf16 :=
  truncf .bf16 (shapeCast _ (addf (prod (part z) cosCR cosLR) (prod (part z) sinCR (Host.negf sinLR))) shapeCasts_S8x2048x4x128_S16384x512) bitsLt_bf16_f32

/-- The result is the two products' sum at the token's sequence and position and the feature's group and channel. -/
theorem refTerm_split (u v : FVec Ideal S8x2048x4x128 .f32) (a : Fin 16384) (d : Fin 512) :
    (truncf .bf16 (shapeCast _ (addf u v) shapeCasts_S8x2048x4x128_S16384x512) bitsLt_bf16_f32 : FVec Ideal S16384x512 .bf16) (ix2 a d)
      = u (ix4 ⟨a.val / 2048, by omega⟩ ⟨a.val % 2048, by omega⟩ ⟨d.val / 128, by omega⟩ ⟨d.val % 128, by omega⟩)
        + v (ix4 ⟨a.val / 2048, by omega⟩ ⟨a.val % 2048, by omega⟩ ⟨d.val / 128, by omega⟩ ⟨d.val % 128, by omega⟩) := by
  pointwise

/-- The reference's result, entry by entry. -/
theorem refTerm_apply (z : FVec Ideal S24576x3584 .f32) (a : Fin 16384) (d : Fin 512) :
    refTerm z (ix2 a d) = entry (fun i j => cosCR (ix2 i j)) (fun i j => sinCR (ix2 i j)) (fun i j => cosLR (ix2 i j)) (fun i j => sinLR (ix2 i j))
      (fun a k => z (ix2 a k)) a d := by
  unfold refTerm
  rw [refTerm_split, prod_apply, prod_apply, entry]
  exact congrArg₂ _ (Finset.sum_congr rfl fun x _ => mul_comm _ _) (Finset.sum_congr rfl fun x _ => mul_comm _ _)

end Reference

/-- From equal arguments both programs run and leave the same result. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => (fun j => result m c (j 0) (j 1)), ?_, ?_⟩
  · refine (θ_run (Cert.Kernel13Ideal.defs (F := Ideal)) _ _).mono (fun r h c => ?_) (Cert.Kernel13Ideal.Value.run_blocks (F := Ideal) m g)
    exact ⟨(h c).1.trans (final m c), (h c).2⟩
  · refine (θ_run (Cert.Reference13Ideal.defs (F := Ideal)) _ _).mono (fun r h c => ?_) (Cert.Reference13Ideal.Value.run (F := Ideal) m' g')
    obtain ⟨hv, hrest⟩ := h c
    refine ⟨hv.trans ?_, hrest⟩
    have a0 := hargs c
    unfold Cert.Reference13Ideal.Value.res_main_v43
    rw [a0]
    funext j
    obtain ⟨a, d, rfl⟩ : ∃ (a : Fin 16384) (d : Fin 512), j = ix2 a d := ⟨j 0, j 1, by funext b; fin_cases b <;> rfl⟩
    exact refTerm_apply _ a d

end Cert.Fourier

end
-- ==== Proof.Gather.lean ====
/- The gather of the routed token rows: the body of the call, run once at any operands. The body reads 256 row numbers, starts for each
   of them a copy of that row of the table into the matching row of the block it fills, and then waits for the 256 copies. -/
module

public import proofs.«01_k».proof.Proof.Gen.Kernel14.Frame
public import Idealize.ShloMosaic.Lib.Pipeline.Routed
public import Idealize.ShloMosaic.Lib.Pipeline.FrameBody
public import Idealize.ShloMosaic.Lib.Batch
public import Idealize.ShloMosaic.Lib.Ring
public import Idealize.ShloMosaic.Lib.Tactic

@[expose] public section

set_option maxRecDepth 16384

noncomputable section

namespace Cert.Kernel14.Gather

open Cert.Kernel14 Cert.Kernel14.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole with contents `f`. -/
abbrev pt (c : Dev nD) {sp : Space} {S : Shape} {e : EltTy} (M : Memref sig .tc sp S e) (f : Bf (F := F) c M) : sProp 𝕄 :=
  M.view.loc (c : Thread nD τ) ↦{fullShare} f

/-! ## The row numbers -/

/-- Each loop makes 256 trips. -/
theorem trips_eq : k0_t1_loop.trips = 256 := by decide
theorem trips2_eq : k0_t2_loop.trips = 256 := by decide

/-- The one index of a single word. -/
abbrev i0 : S1.Idx := Shape.Idx.first (s := S1) (numel1_S1.symm ▸ Nat.one_pos)
/-- Row number `t`, as trip `t` reads it from the block of row numbers. -/
abbrev wd (M0 : Memref sig .tc .smem S256 .i32) {c : Dev nD} (f0 : Bf (F := F) c M0) (t : Fin k0_t1_loop.trips) : BitVec 32 :=
  M0.view.readAt (Elt F) (Rect.unit (s := S256) (k0_off1 t) S1.size (k0_off1_inb t)).toLoadRect f0 i0

/-- A row number below 24576 names a row of the table. -/
theorem row_inb (w : BitVec 32) (hw : w.toNat < 24576) : ∀ a, k0_off3 w a + S1x1024.size a ≤ S24576x1024.size a := by
  intro a; fin_cases a
  · show w.toNat + 1 ≤ 24576; omega
  · show 0 + 1024 ≤ 1024; omega

/-- Row `w` of the table, -/
def srcM (w : BitVec 32) (h : ∀ a, k0_off3 w a + S1x1024.size a ≤ S24576x1024.size a) : Memref sig .tc .hbm S1x1024 .i32 :=
  (Memref.whole main_arg0).slice (Rect.unit (s := S24576x1024) (k0_off3 w) S1x1024.size h) (fun _ => rfl)
/-- and row `t` of the block the body fills. -/
def dstM (M1 : Memref sig .tc .vmem S256x1024 .i32) (t : Fin k0_t1_loop.trips) : Memref sig .tc .vmem S1x1024 .i32 :=
  M1.slice (Rect.unit (s := S256x1024) (k0_off2 t) S1x1024.size (k0_off2_inb t)) (fun _ => rfl)
/-- What one copy adds to the counter: a row in units of 32 bytes. -/
abbrev NN : ℕ := 128

/-! ## The 256 copies -/

section Deliveries

variable (c : Dev nD) (M1 : Memref sig .tc .vmem S256x1024 .i32) {w : Fin k0_t1_loop.trips → BitVec 32} (hok : ∀ t, (w t).toNat < 24576)
  (f1 : Bf (F := F) c M1) (fs : Bf (F := F) c (Memref.whole main_arg0))

/-- The contents of the block and of the table, as contents of the buffer of one of their rows. -/
abbrev f1At (t : Fin k0_t1_loop.trips) : Buf (Elt F) ((dstM M1 t).view.loc (c : Thread nD τ)) := f1
abbrev fsAt (t : Fin k0_t1_loop.trips) : Buf (Elt F) ((srcM (w t) (row_inb _ (hok t))).view.loc (c : Thread nD τ)) := fs

/-- The block after row `t` has landed. -/
abbrev landed (t : Fin k0_t1_loop.trips) : Buf (Elt F) ((dstM M1 t).view.loc (c : Thread nD τ)) :=
  (dstM M1 t).view.writes (Elt F) (f1At c M1 f1 t) [⟨Rect.whole S1x1024, ReadAs.same.apply ((srcM (w t) (row_inb _ (hok t))).view.read (Elt F) (fsAt c hok fs t))⟩]

/-- Row `t` of the block, before its copy, -/
abbrev dstAt (t : Fin k0_t1_loop.trips) : sProp 𝕄 :=
  (dstM M1 t).view.loc (c : Thread nD τ) ↦[(dstM M1 t).view.set]{fullShare} f1At c M1 f1 t
/-- and the table's row that copy `t` reads, under a share of its own, since two copies may read the same row. -/
abbrev srcAt (t : Fin k0_t1_loop.trips) : sProp 𝕄 :=
  (srcM (w t) (row_inb _ (hok t))).view.loc (c : Thread nD τ) ↦[(srcM (w t) (row_inb _ (hok t))).view.set]{Transfers.shareTokN fullShare t.val} fsAt c hok fs t
/-- Row `t` of the block, after its copy. -/
abbrev landAt (t : Fin k0_t1_loop.trips) : sProp 𝕄 :=
  (dstM M1 t).view.loc (c : Thread nD τ) ↦[(dstM M1 t).view.set]{fullShare} landed c M1 hok f1 fs t

/-- What copy `t` gives back: its row of the block, landed, and the row of the table. -/
abbrev D (t : Fin k0_t1_loop.trips) : sProp 𝕄 :=
  iprop(((dstM M1 t).view.loc (c : Thread nD τ) ↦[(dstM M1 t).view.set]{fullShare} landed c M1 hok f1 fs t)
    ∗ ((srcM (w t) (row_inb _ (hok t))).view.loc (c : Thread nD τ) ↦[(srcM (w t) (row_inb _ (hok t))).view.set]{Transfers.shareTokN fullShare t.val} fsAt c hok fs t))

instance D_storable (t : Fin k0_t1_loop.trips) : BI.Storable (upEmb : UEmb _ 𝕄) (D c M1 hok f1 fs t) := by
  unfold D; infer_instance

/-- The 256 copies on the one counter, `j` started and `u` units of them waited for. -/
abbrev batch (j u : ℕ) : sProp 𝕄 :=
  Transfers.Batch countersEmb (c : Thread nD τ) (.dma cc0_scratch0.sem) () NN (D c M1 hok f1 fs) j u

end Deliveries

/-! ## The two loops -/

section Loops

variable (c : Dev nD) (M0 : Memref sig .tc .smem S256 .i32) (M1 : Memref sig .tc .vmem S256x1024 .i32)
  (f0 : Bf (F := F) c M0) (hok : ∀ t, (wd M0 f0 t).toNat < 24576) (f1 : Bf (F := F) c M1) (fs : Bf (F := F) c (Memref.whole main_arg0))

/-- Before trip `k` of the first loop: the first `k` copies started, the rows of the others still in hand. -/
def issueAt (k : ℕ) (_ : PUnit.{1}) : sProp 𝕄 :=
  iprop(batch c M1 hok f1 fs k 0
    ∗ bigSep (Ring.rangeSet k0_t1_loop.trips k k0_t1_loop.trips) (dstAt c M1 f1)
    ∗ bigSep (Ring.rangeSet k0_t1_loop.trips k k0_t1_loop.trips) (srcAt c hok fs)
    ∗ pt c M0 f0)

/-- Before trip `k` of the second loop: `k` copies waited for, or, after the last, the counter back at zero and all copies done. -/
def drainAt (k : ℕ) (_ : PUnit.{1}) : sProp 𝕄 :=
  iprop((∃ W, owes (c : Thread nD τ) 0 W)
    ∗ (if k < 256 then batch c M1 hok f1 fs k0_t1_loop.trips (k * NN)
       else iprop(semVal ((c : Thread nD τ), SemLoc.dma cc0_scratch0.sem) 0 ∗ bigSep Finset.univ (D c M1 hok f1 fs))))

set_option maxHeartbeats 8000000 in
/-- The body run: from the row numbers, the table and the block, it hands back the row numbers, the counter at zero and every copy
    done. -/
theorem kernelRun [∀ e, Nonempty (Elt F e)] (i : grid0.Coords) (h0 : M0.IsWhole) (h1 : M1.IsWhole) (ht : (Memref.whole main_arg0).IsWhole) (W : Waits sig Unit) (Q : PUnit → sProp 𝕄) :
    iprop(pt c M0 f0 ∗ bigSep Finset.univ (dstAt c M1 f1) ∗ bigSep Finset.univ (srcAt c hok fs)
      ∗ semVal ((c : Thread nD τ), SemLoc.dma cc0_scratch0.sem) 0 ∗ owes (c : Thread nD τ) 0 W
      ∗ (iprop(pt c M0 f0 ∗ semVal ((c : Thread nD τ), SemLoc.dma cc0_scratch0.sem) 0 ∗ (∃ W, owes (c : Thread nD τ) 0 W)
            ∗ bigSep Finset.univ (D c M1 hok f1 fs)) -∗ Q ⟨⟩))
      ⊢ wp frame (wpE (defs₀ (F := F)) Variants.none c none) Set.univ
        (cc0_moe_gather i M0 h0 (Memref.whole main_arg0) ht M1 h1 cc0_scratch0) Q := by
  have hT := trips_eq
  have hT2 := trips2_eq
  iintro ⟨H0, HvP, HsP, Hc, HO, Hk⟩
  imod (Transfers.batch_alloc' (Lvl := ℕ) countersEmb (c : Thread nD τ) () NN (D c M1 hok f1 fs) (sm := .dma cc0_scratch0.sem) (E := Set.univ)) $$ Hc with HB
  sl_unfold [cc0_moe_gather]
  sl_exec
  sl_for (issueAt c M0 M1 f0 hok f1 fs) $$ [HB HvP HsP H0]
  · intro k acc
    have hkT : k.val < 256 := trips_eq ▸ k.isLt
    have hchk : k0_chk1 (wd M0 f0 k) := row_inb _ (hok k)
    unfold issueAt
    rw [Ring.bigSep_rangeSet_head (Φ := dstAt c M1 f1) k.isLt k.isLt, Ring.bigSep_rangeSet_head (Φ := srcAt c hok fs) k.isLt k.isLt]
    unfold dstAt srcAt
    iintro ⟨HB, ⟨HP, HPs⟩, ⟨HS, HSs⟩, H0⟩
    sl_exec (disch := first | exact hchk)
    sl_step
    isplitl [HB]; · iexact HB
    isplitl [HPs]; · iexact HPs
    isplitl [HSs]; · iexact HSs
    iexact H0
  · unfold issueAt
    rw [Ring.rangeSet_univ]
    isplitl [HB]; · iexact HB
    isplitl [HvP]; · iexact HvP
    isplitl [HsP]; · iexact HsP
    iexact H0
  iintro %acc HL
  ihave HL' := (show issueAt c M0 M1 f0 hok f1 fs k0_t1_loop.trips acc ⊢ iprop(batch c M1 hok f1 fs k0_t1_loop.trips 0 ∗ pt c M0 f0) from by
    unfold issueAt; simp only [Ring.bigSep_rangeSet_empty le_rfl]
    iintro ⟨A, -, -, B⟩; isplitl [A] <;> iassumption) $$ HL
  icases HL' with ⟨HB, H0⟩
  sl_exec
  sl_for (drainAt c M0 M1 f0 hok f1 fs) $$ [HB HO]
  · intro k acc
    have hkT : k.val < 256 := trips2_eq ▸ k.isLt
    unfold drainAt
    simp only [if_pos hkT]
    rcases Nat.lt_or_ge (k.val + 1) 256 with hk1 | hk1
    · simp only [if_pos hk1]
      iintro ⟨⟨%W, HO⟩, HB⟩
      sl_exec
      sl_step
      isplitl [HO]; · iexists _; iexact HO
      rw [show (k.val + 1) * NN = k.val * NN + NN from Nat.succ_mul _ _]
      iexact HB
    · simp only [if_neg (Nat.not_lt.mpr hk1)]
      iintro ⟨⟨%W, HO⟩, HB⟩
      sl_exec
      sl_step
      isplitl [HO]; · iexists _; iexact HO
      isplitl [HB]; · iexact HB
      iexact HB_all
  · unfold drainAt
    rw [if_pos (by omega), Nat.zero_mul]
    isplitl [HO]; · iexists _; iexact HO
    iexact HB
  iintro %acc2 HL2
  ihave HL2' := (show drainAt c M0 M1 f0 hok f1 fs k0_t2_loop.trips acc2
      ⊢ iprop((∃ W, owes (c : Thread nD τ) 0 W) ∗ semVal ((c : Thread nD τ), SemLoc.dma cc0_scratch0.sem) 0
        ∗ bigSep Finset.univ (D c M1 hok f1 fs)) from by
    unfold drainAt; rw [if_neg (by rw [trips2_eq]; omega)]) $$ HL2
  icases HL2' with ⟨HO, Hc, HD⟩
  sl_exec
  sl_step
  iapply Hk
  isplitl [H0]; · iexact H0
  isplitl [Hc]; · iexact Hc
  isplitl [HO]; · iexact HO
  iexact HD

end Loops

end Cert.Kernel14.Gather

end
-- ==== Proof.GatherRun.lean ====
/- The gather of the routed token rows: the table and the block taken apart into rows for the 256 copies and put together again, the
   body's obligation at every point, the run, what the result array holds, and that the reference computes the same. -/
module

public import proofs.«01_k».proof.Defs
public import proofs.«01_k».proof.Proof.Gather
public import proofs.«01_k».proof.Proof.Gen.Reference14.Run
public import proofs.«01_k».proof.Proof.Gen.Pre_rows_exist
public import Idealize.ShloMosaic.Lib.Pipeline.ReadBack
public import Idealize.ShloMosaic.Lib.Pipeline.ValueKit
public import Idealize.ShloMosaic.Lib.VecWindow
public import Idealize.ShloMosaic.Lib.Routing.Ops
public import Idealize.ShloMosaic.Lib.Claim
public import Idealize.ShloMosaic.Lib.Quiescent

@[expose] public section

set_option maxRecDepth 16384

noncomputable section

namespace Cert.Kernel14.Gather

open Cert.Kernel14 Cert.Kernel14.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

/-! ## What the copies leave in the block -/

/-- A block gathered by the row numbers `X` from the table `fs`: row `x` is the table's row `X x`. -/
def gath (X : S256.Idx → BitVec 32) (hX : ∀ y, (X y).toNat < 24576) (fs : S24576x1024.Idx → BitVec 32) : S256x1024.Idx → BitVec 32 :=
  fun x => fs (ix2 ⟨(X (ix1 (x 0))).toNat, hX _⟩ (x 1))

/-- The number of a trip, as a row of the block. -/
abbrev rowOf (t : Fin k0_t1_loop.trips) : Fin 256 := ⟨t.val, trips_eq ▸ t.isLt⟩

/-- The row number that trip `t` reads is the block's at `t`. -/
theorem wd_eq (M0 : Memref sig .tc .smem S256 .i32) {c : Dev nD} (f0 : Bf (F := F) c M0) (t : Fin k0_t1_loop.trips) :
    wd M0 f0 t = M0.view.read (Elt F) f0 (ix1 (rowOf t)) := by
  refine congrArg (M0.view.read (Elt F) f0) (funext fun a => Fin.ext ?_)
  fin_cases a
  show k0_off1 t 0 + 1 * 0 = t.val
  rw [k0_off1_eq]; rfl

section Rows

variable (c : Dev nD) (M1 : Memref sig .tc .vmem S256x1024 .i32)

/-- Row `t` of the block, as a set of the block's indices. -/
abbrev rowRect (t : Fin k0_t1_loop.trips) : Rect S256x1024 := Rect.unit (s := S256x1024) (k0_off2 t) S1x1024.size (k0_off2_inb t)

/-- An index is in row `t` when its first coordinate is `t`. -/
theorem mem_row (t : Fin k0_t1_loop.trips) (y : S256x1024.Idx) : y ∈ (rowRect t).set ↔ (y 0).val = t.val := by
  unfold rowRect
  rw [Rect.mem_set_unit]
  have e : k0_off2 t = ![t.val, 0] := k0_off2_eq t
  have hy1 : (y 1).val < 1024 := (y 1).isLt
  rw [e]
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 1024; omega

/-- The elements of the block's buffer in row `t`. -/
abbrev K (t : Fin k0_t1_loop.trips) : Finset (Idx (M1.view.loc (c : Thread nD τ))) := (dstM M1 t).view.set

theorem K_eq (t : Fin k0_t1_loop.trips) : K c M1 t = (rowRect t).set.map M1.view.emb := by
  unfold K dstM; exact View.set_slice M1.view _

/-- Different rows are disjoint, -/
theorem K_disjoint : ∀ t t', t ≠ t' → Disjoint (K c M1 t) (K c M1 t') := by
  intro t t' hne
  rw [K_eq, K_eq, Finset.disjoint_map, Finset.disjoint_left]
  intro y hy hy'
  rw [mem_row] at hy hy'
  exact hne (Fin.ext (hy.symm.trans hy'))

/-- and the rows make up the block. -/
theorem K_cover (h1 : M1.IsWhole) : Finset.univ.biUnion (K c M1) = Finset.univ := by
  refine Finset.eq_univ_of_forall fun i => ?_
  have hi : i ∈ M1.view.set := by rw [h1.set_eq_univ]; exact Finset.mem_univ _
  obtain ⟨y, -, rfl⟩ := Finset.mem_map.mp hi
  have hy0 : (y 0).val < 256 := (y 0).isLt
  refine Finset.mem_biUnion.mpr ⟨⟨(y 0).val, trips_eq.symm ▸ hy0⟩, Finset.mem_univ _, ?_⟩
  rw [K_eq]
  exact Finset.mem_map_of_mem _ ((mem_row _ _).mpr rfl)

/-- The block held whole is its rows held one by one. -/
theorem rows_eq (h1 : M1.IsWhole) (f1 : Bf (F := F) c M1) : (pt c M1 f1 : sProp 𝕄) = bigSep Finset.univ (dstAt c M1 f1) :=
  Ring.pointsTo_blocks (ℓ := M1.view.loc (c : Thread nD τ)) (K c M1) (K_disjoint c M1) (K_cover c M1 h1) f1

variable {w : Fin k0_t1_loop.trips → BitVec 32} (hok : ∀ t, (w t).toNat < 24576)
  (f1 : Bf (F := F) c M1) (fs : Bf (F := F) c (Memref.whole main_arg0))

/-- Elements `I` of the table, under share `q`. -/
abbrev tableAt (I : Finset S24576x1024.Idx) (q : PosShare TreeShare) : sProp 𝕄 :=
  (Memref.whole main_arg0 : Memref sig .tc .hbm S24576x1024 .i32).view.loc (c : Thread nD τ) ↦[I]{q} fs

/-- What copy `t` does not read of the table, under the copy's share. -/
abbrev othersAt (t : Fin k0_t1_loop.trips) : sProp 𝕄 :=
  tableAt c fs (Finset.univ \ (srcM (w t) (row_inb _ (hok t))).view.set) (Transfers.shareTokN fullShare t.val)

/-- The table held whole is a share left over and, for each copy, the row that it reads and the other rows. -/
theorem table_eq : (pt c (Memref.whole main_arg0) fs : sProp 𝕄)
    = iprop(tableAt c fs Finset.univ (Transfers.shareDrop fullShare k0_t1_loop.trips)
        ∗ bigSep Finset.univ (srcAt c hok fs) ∗ bigSep Finset.univ (othersAt c hok fs)) := by
  have h : (tableAt c fs Finset.univ fullShare : sProp 𝕄) ⊣⊢ iprop(tableAt c fs Finset.univ (Transfers.shareDrop fullShare k0_t1_loop.trips)
      ∗ bigSep (Finset.range k0_t1_loop.trips) (fun i => tableAt c fs Finset.univ (Transfers.shareTokN fullShare i))) :=
    Transfers.pointsTo_toks_range fullShare k0_t1_loop.trips
  refine (BI.equiv_iff.mp ⟨h.1, h.2⟩).trans ?_
  rw [← BI.bigSep_sep', ← Ring.bigSep_fin_eq_range k0_t1_loop.trips
    (fun t => (tableAt c fs Finset.univ (Transfers.shareTokN fullShare t.val) : sProp 𝕄)) _ (fun t _ => rfl)]
  refine congrArg (fun P : sProp 𝕄 => iprop(tableAt c fs Finset.univ (Transfers.shareDrop fullShare k0_t1_loop.trips) ∗ P)) (BI.bigSep_congr fun t _ => ?_)
  have hs : (tableAt c fs Finset.univ (Transfers.shareTokN fullShare t.val) : sProp 𝕄)
      ⊣⊢ iprop(tableAt c fs (srcM (w t) (row_inb _ (hok t))).view.set (Transfers.shareTokN fullShare t.val) ∗ othersAt c hok fs t) :=
    pointsTo_split_subset (Finset.subset_univ (srcM (w t) (row_inb _ (hok t))).view.set)
  exact BI.equiv_iff.mp ⟨hs.1, hs.2⟩

/-- Row `t` of the block, landed, is row `t` of the gathered block. -/
theorem landed_eq (h1 : M1.IsWhole) (X : S256.Idx → BitVec 32) (hX : ∀ y, (X y).toNat < 24576) (hw : ∀ t, w t = X (ix1 (rowOf t)))
    (t : Fin k0_t1_loop.trips) :
    (landAt c M1 hok f1 fs t : sProp 𝕄) = dstAt c M1 (h1.unread (Val := Elt F) (gath X hX fs)) t := by
  refine pointsTo_congr fun i hi => ?_
  obtain ⟨y, -, rfl⟩ := Finset.mem_map.mp hi
  have e : (dstM M1 t).view.read (Elt F) (landed c M1 hok f1 fs t) = (dstM M1 t).view.read (Elt F) (f1At c M1 (h1.unread (Val := Elt F) (gath X hX fs)) t) := by
    refine (View.read_writes_whole _ _ _).trans ?_
    funext z
    have ez : (dstM M1 t).view.read (Elt F) (f1At c M1 (h1.unread (Val := Elt F) (gath X hX fs)) t) z = gath X hX fs ((rowRect t).emb z) :=
      congrFun (h1.read_unread (Val := Elt F) (gath X hX fs)) ((rowRect t).emb z)
    rw [ez]
    show fs ((Rect.unit (s := S24576x1024) (k0_off3 (w t)) S1x1024.size (row_inb _ (hok t))).emb z) = _
    unfold gath
    have hz : (z 0).val < 1 := (z 0).isLt
    have e2 : k0_off2 t = ![t.val, 0] := k0_off2_eq t
    have er : (rowRect t).emb z 0 = rowOf t := Fin.ext (by
      show k0_off2 t 0 + 1 * (z 0).val = t.val
      rw [e2]; show t.val + 1 * (z 0).val = t.val; omega)
    refine congrArg fs (funext fun a => Fin.ext ?_)
    fin_cases a
    · show (w t).toNat + 1 * (z 0).val = (X (ix1 ((rowRect t).emb z 0))).toNat
      rw [er, ← hw]; omega
    · show 0 + 1 * (z 1).val = k0_off2 t 1 + 1 * (z 1).val
      rw [e2]; rfl
  have ey := congrFun e y
  rw [View.read_apply, View.read_apply] at ey
  exact (cast_inj _).mp ey

/-- The copies done: the gathered block, and the rows of the table they read. -/
theorem done_eq (h1 : M1.IsWhole) (X : S256.Idx → BitVec 32) (hX : ∀ y, (X y).toNat < 24576) (hw : ∀ t, w t = X (ix1 (rowOf t))) :
    (bigSep Finset.univ (D c M1 hok f1 fs) : sProp 𝕄)
      = iprop(pt c M1 (h1.unread (Val := Elt F) (gath X hX fs)) ∗ bigSep Finset.univ (srcAt c hok fs)) := by
  rw [rows_eq c M1 h1, ← BI.bigSep_congr fun t _ => landed_eq c M1 hok f1 fs h1 X hX hw t, ← BI.bigSep_sep']

end Rows

/-! ## The call, point by point -/

variable (m : (ℓ : Loc nD τ sig) → Buf (Elt F) ℓ) (ρ : Dev nD → PrngReg)

/-- The table and the row numbers, as arrays of words. -/
abbrev tblA (c : Dev nD) : S24576x1024.Idx → BitVec 32 := m ((c : Thread nD τ).loc main_arg0)
abbrev numA (c : Dev nD) : S53248.Idx → BitVec 32 := m ((c : Thread nD τ).loc main_arg1)

/-- Every row number names a row of the table. -/
def Ok : Prop := ∀ c y, (numA m c y).toNat < 24576

/-- The row numbers of point `t`. -/
abbrev numB (c : Dev nD) (t : Fin cfg0.N) : S256.Idx → BitVec 32 := iblk m c 0 t

theorem numB_lt (hO : Ok m) (c : Dev nD) (t : Fin cfg0.N) (y : S256.Idx) : (numB m c t y).toNat < 24576 :=
  hO c (((cfg0.win 0).blk t).view.emb y)

/-- The one counter of the call. -/
abbrev osem : Unit → SemLoc sig := fun _ => .dma cc0_scratch0.sem
/-- The table is read by the copies, and passed from point to point. -/
abbrev R2 : Finset (Ref sig .tc) := {main_arg0}

/-- What the call keeps: the row numbers of each point in their buffer, the gathered block in the other, and between two points the
    table and the counter at zero. -/
def dats (hO : Ok m) (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => gath (numB m c t) (numB_lt m hO c t) (tblA m c)
  Φ _ := Ends spec0 osem R2 c (V m c)
  q _ := fullShare
  owed _ := 0

theorem after0_0 (hO : Ok m) (c : Dev nD) (t : Fin cfg0.N) : (dats m hO 0 c).after 0 t = iblk m c 0 t := by dsimp only [dats]
theorem after0_1 (hO : Ok m) (c : Dev nD) (t : Fin cfg0.N) : (dats m hO 0 c).after 1 t = gath (numB m c t) (numB_lt m hO c t) (tblA m c) := by
  dsimp only [dats]

theorem ownSems_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

/-- What is passed from point to point, written out. -/
theorem ends_eq (c : Dev nD) (W : (b : Ref sig .tc) → Buf (Elt F) ((c : Thread nD τ).loc b)) :
    (Ends spec0 osem R2 c W : sProp 𝕄)
      = iprop(pt c (Memref.whole main_arg0) (W main_arg0) ∗ semVal ((c : Thread nD τ), osem ()) 0 ∗ emp ∗ ∃ r, prngReg c r) := by
  unfold Ends; rw [Pipeline.routed_singleton, ownSems_eq, scopedRest0_eq]; rfl

/-- The buffer of row numbers holds the point's row numbers before the body runs. -/
theorem before0_0 (hO : Ok m) (c : Dev nD) (t : Fin cfg0.N) (d) : (dats m hO 0 c).before 0 t d = iblk m c 0 t := by
  rw [(dats m hO 0 c).before_fetched 0 t (fetch0_0 t)]; unfold Dat.fetched Dat.blockOf; dsimp only [dats]; rfl

/-- The body on any two whole buffers: from the row numbers `X` in the first, it leaves the gathered block in the second. -/
theorem sound_body [∀ e, Nonempty (Elt F e)] (c : Dev nD) (i : grid0.Coords) (M0 : Memref sig .tc .smem S256 .i32) (h0 : M0.IsWhole)
    (M1 : Memref sig .tc .vmem S256x1024 .i32) (h1 : M1.IsWhole) (ht : (Memref.whole main_arg0).IsWhole)
    (X : S256.Idx → BitVec 32) (hX : ∀ y, (X y).toNat < 24576) (fs : Bf (F := F) c (Memref.whole main_arg0)) (W : Waits sig Unit) (Q : PUnit → sProp 𝕄) :
    iprop(owns (c : Thread nD τ) M0 fullShare (X : S256.Idx → Elt F .i32) ∗ (∃ d, owns (c : Thread nD τ) M1 fullShare d) ∗ pt c (Memref.whole main_arg0) fs
      ∗ semVal ((c : Thread nD τ), SemLoc.dma cc0_scratch0.sem) 0 ∗ owes (c : Thread nD τ) 0 W
      ∗ (iprop(owns (c : Thread nD τ) M0 fullShare (X : S256.Idx → Elt F .i32) ∗ owns (c : Thread nD τ) M1 fullShare (gath X hX fs : S256x1024.Idx → Elt F .i32)
            ∗ pt c (Memref.whole main_arg0) fs ∗ semVal ((c : Thread nD τ), SemLoc.dma cc0_scratch0.sem) 0 ∗ (∃ W, owes (c : Thread nD τ) 0 W)) -∗ Q ⟨⟩))
      ⊢ wp frame (wpE (defs₀ (F := F)) Variants.none c none) Set.univ
        (cc0_moe_gather i M0 h0 (Memref.whole main_arg0) ht M1 h1 cc0_scratch0) Q := by
  unfold owns
  rw [h0.set_eq_univ, h1.set_eq_univ]
  iintro ⟨⟨%f0, %hf0, H0⟩, ⟨%d1, %f1, -, H1⟩, Ha, Hs, HO, Hk⟩
  have hw : ∀ t, wd M0 f0 t = X (ix1 (rowOf t)) := fun t => (wd_eq M0 f0 t).trans (congrFun hf0 _)
  have hok : ∀ t, (wd M0 f0 t).toNat < 24576 := fun t => by rw [hw]; exact hX _
  ihave Ha' := (Entails.of_eq (table_eq c hok fs)) $$ Ha
  icases Ha' with ⟨Hrest, Hsrc, Hoth⟩
  ihave H1' := (Entails.of_eq (rows_eq c M1 h1 f1)) $$ H1
  iapply (kernelRun c M0 M1 f0 hok f1 fs i h0 h1 ht W Q)
  isplitl [H0]; · iexact H0
  isplitl [H1']; · iexact H1'
  isplitl [Hsrc]; · iexact Hsrc
  isplitl [Hs]; · iexact Hs
  isplitl [HO]; · iexact HO
  iintro ⟨H0, Hs, HO, HD⟩
  ihave HD' := (Entails.of_eq (done_eq c M1 hok f1 fs h1 X hX hw)) $$ HD
  icases HD' with ⟨H1, Hsrc⟩
  iapply Hk
  isplitl [H0]
  · iexists f0; isplitr; · ipureintro; exact hf0
    iexact H0
  isplitl [H1]
  · iexists _; isplitr; swap; · iexact H1
    ipureintro; exact h1.read_unread _
  isplitl [Hrest Hsrc Hoth]
  · iapply (Entails.of_eq (table_eq c hok fs).symm)
    isplitl [Hrest]; · iexact Hrest
    isplitl [Hsrc]; · iexact Hsrc
    iexact Hoth
  isplitl [Hs]; · iexact Hs
  iexact HO

/-- The body's row of the table of bodies, at point `t`. -/
theorem defs₀_row (t : Fin cfg0.N) : defs₀ (F := F) .tc cfg0.body (cfg0.bodyArgs t (cfg0.slots t)) = bodyAt0 t := by
  unfold defs₀; rw [Defs.onTc_tc]

/-- The body does at every point what the call keeps asks of it. -/
theorem body_obligation [∀ e, Nonempty (Elt F e)] (hO : Ok m) (c : Dev nD) :
    BodyObligation (dats m hO 0 c) (defs₀ (F := F)) Variants.none () Set.univ := fun t => by
  rw [bigSep_W0, bigSep_W0, defs₀_row]
  rw [show (dats m hO 0 c).Φ t.castSucc = Ends spec0 osem R2 c (V m c) from rfl,
    show (dats m hO 0 c).Φ t.succ = Ends spec0 osem R2 c (V m c) from rfl, ends_eq]
  unfold Dat.owesAt Pipeline.owesWithin
  rw [show (dats m hO 0 c).owed t.castSucc = 0 from rfl, show (dats m hO 0 c).owed t.succ = 0 from rfl]
  simp only [before0_0]
  rw [after0_0, after0_1]
  iintro ⟨⟨Ha, Hs, -, Hp⟩, ⟨%W, %hW, HO⟩, ⟨%d0, H0⟩, ⟨%d1, H1⟩⟩
  unfold bodyAt0
  iapply (sound_body c (grid0.coords t) _ _ _ _ _ (numB m c t) (numB_lt m hO c t) (V m c main_arg0) W _)
  isplitl [H0]; · iexact H0
  isplitl [H1]; · iexists _; iexact H1
  isplitl [Ha]; · iexact Ha
  isplitl [Hs]; · iexact Hs
  isplitl [HO]; · iexact HO
  iintro ⟨H0, H1, Ha, Hs, ⟨%W', HO⟩⟩
  isplitl [Ha Hs Hp]
  · isplitl [Ha]; · iexact Ha
    isplitl [Hs]; · iexact Hs
    isplitr; · iempintro
    iexact Hp
  isplitl [HO]
  · iexists W'; isplitr; · ipureintro; exact fun _ _ => Or.inl trivial
    iexact HO
  isplitl [H0]; · iexact H0
  iexact H1

/-! ## The run -/

theorem ownSemFacts : Pipeline.OwnSemFacts spec0 osem := by decide

/-- Whenever every row number names a row of the table, the call terminates, with every counter back at zero, the staged arrays at what
    the call keeps and the table as it was. -/
theorem run_main_quiescent [∀ e, Nonempty (Elt F e)] (hO : Ok m) :
    θ_run defs (onTc (τ := τ) (main (F := F))) (s₀ m ρ) (fun r => RoutedPost cfgs (dats m hO) 0 R2 (V m) (V m) r ∧ r.2.sem = fun _ => 0) :=
  Pipeline.θ_run_frame_routed cfgs (dats m hO) 0 launch0 ownSemFacts defs₀ Variants.none m ρ main
    (hbody := fun c => (body_obligation m hO c).loose) (hshare := fun c => (dats m hO 0 c).share_full fun _ => rfl)
    (howed := fun _ _ => rfl) (V := V m)
    (hmain := Pipeline.hmain_region cfgs 0 defs₀ Variants.none m main fun c => (main_chain c).trans rfl)
    (hA := fun _ _ => rfl) (R := R2) (hR := by decide) (Y := V m) (hin := fun _ => .rfl) (hout := fun _ => .rfl) (Q' := _)

/-- The array the call leaves: row `i` is the table's row that row number `i` names. -/
def result (hO : Ok m) (c : Dev nD) : S53248x1024.Idx → BitVec 32 :=
  fun j => tblA m c (ix2 ⟨(numA m c (ix1 (j 0))).toNat, hO c _⟩ (j 1))

theorem index_eq : ∀ t : Fin grid0.N, win0_0.index t = ![t.val] ∧ win0_1.index t = ![t.val, 0] := by decide +kernel

/-- What point `t` writes back is its block of the result. -/
theorem block_eq (hO : Ok m) (c : Dev nD) (t : Fin cfg0.N) (y : S256x1024.Idx) :
    gath (numB m c t) (numB_lt m hO c t) (tblA m c) y = result m hO c (((cfg0.win 1).blk t).view.emb y) := by
  obtain ⟨e0, e1⟩ := index_eq t
  unfold gath result
  have hn : numB m c t (ix1 (y 0)) = numA m c (ix1 (((cfg0.win 1).blk t).view.emb y 0)) := by
    refine congrArg (numA m c) (funext fun a => Fin.ext ?_)
    fin_cases a
    show win0_0.index t 0 * 256 + 1 * (y 0).val = win0_1.index t 0 * 256 + 1 * (y 0).val
    rw [e0, e1]; rfl
  refine congrArg (tblA m c) (funext fun a => Fin.ext ?_)
  fin_cases a
  · show (numB m c t (ix1 (y 0))).toNat = (numA m c (ix1 (((cfg0.win 1).blk t).view.emb y 0))).toNat
    rw [hn]
  · show (y 1).val = win0_1.index t 1 * 1024 + 1 * (y 1).val
    rw [e1]; show (y 1).val = 0 * 1024 + 1 * (y 1).val; omega

/-- The result array after the run. -/
theorem final (hO : Ok m) (c : Dev nD) : (dats m hO 0 c).arrAt 1 cfg0.N = result m hO c := by
  refine (dats m hO 0 c).arrAt_eq_of_covers 1 _ (by decide +kernel) fun t hf y => ?_
  rw [after0_1]
  exact block_eq m hO c t y

/-- The run: the result array, the arguments as they were, and every counter at zero. -/
theorem run [∀ e, Nonempty (Elt F e)] (hO : Ok m) :
    θ_run defs (onTc (τ := τ) (main (F := F))) ⟨m, fun _ => 0, ρ⟩ (fun r => (∀ c : Dev nD,
      r.2.mem ((c.tc : Thread nD τ).loc main_v0) = result m hO c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (run_main_quiescent m ρ hO).mono fun r ⟨h, hz⟩ => ⟨fun c =>
    ⟨((h c).1 1).trans (final m hO c), (h c).2.1 main_arg0 (by decide), ((h c).1 0).trans ((dats m hO 0 c).arrAt_in 0 rfl _)⟩, hz⟩

/-- The arguments end as they were. -/
theorem frame [∀ e, Nonempty (Elt F e)] (hO : Ok m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (run m ρ hO).mono fun r ⟨h, hz⟩ => ⟨fun c => (h c).2, hz⟩

/-! ## The precondition and the reference -/

/-- A word that is nonnegative and below 24576 as a signed number is below 24576 as an unsigned one. -/
theorem word_lt (v : BitVec 32) (h0 : (0#32).sle v = true) (h1 : v.slt 24576#32 = true) : v.toNat < 24576 := by
  have a : (0 : Int) ≤ v.toInt := by simpa [BitVec.sle] using h0
  have b : v.toInt < 24576 := by simpa [BitVec.slt] using h1
  rw [BitVec.toInt_eq_toNat_cond] at a b
  split at a <;> omega

/-- What the precondition says of the row numbers: each names a row of the table. -/
theorem row_lt {a0} (te : IVec S53248 32) (h : Cert.Pre_rows_exist.fn (F := F) a0 te = fun _ => 1#1) (x : S53248.Idx) : (te x).toNat < 24576 := by
  have hx := congrFun h x
  have key : ∀ p q : Bool, IntOp.andi (BitVec.ofBool p) (BitVec.ofBool q) = 1#1 → p = true ∧ q = true := by decide
  obtain ⟨h0, h1⟩ := key _ _ hx
  exact word_lt (te x) h0 h1

end Cert.Kernel14.Gather

namespace Cert.Kernel14.Gather

open Idealize.ShloMosaic Idealize.ShloMosaic.TcCoe Idealize.SL.Sem Idealize.ShloMosaic.Host

section Reference
open Cert.Reference14 Cert.Reference14.Gen

/-- A row number that names a row of the table is not negative. -/
theorem not_neg (v : BitVec 32) (h : v.toNat < 24576) : v.slt 0#32 = false := by
  have e : v.toInt = v.toNat := by rw [BitVec.toInt_eq_toNat_cond]; split <;> omega
  simp [BitVec.slt, e]

/-- A list of row numbers made into a column: its entry `a`. -/
theorem col_apply (f : IVec S53248 32) (a : Fin 53248) : broadcastInDim S53248x1 ![0] bcast_S53248_S53248x1_0 f (ix2 a (0 : Fin 1)) = f (ix1 a) := by
  refine congrArg f (funext fun d => Fin.ext ?_)
  fin_cases d
  rfl

/-- The reference's array: row `i` is the table's row that row number `i` names. -/
theorem ref_apply (x : S24576x1024.Idx → BitVec 32) (v : IVec S53248 32) (h : ∀ y, (v y).toNat < 24576) (a : Fin 53248) (b : Fin 1024) :
    Host.gather gather_S24576x1024_S53248x1_S53248x1024_1_0_n_n_0_1_11024 x
      (broadcastInDim S53248x1 ![0] bcast_S53248_S53248x1_0
        (select (cmpi .slt v (broadcastInDim S53248 ![] bcast_S_S53248 (constantI S_ 32 0#32)))
          (addi v (broadcastInDim S53248 ![] bcast_S_S53248 (constantI S_ 32 24576#32))) v)) (ix2 a b)
      = x (ix2 ⟨(v (ix1 a)).toNat, h _⟩ b) := by
  refine Idealize.ShloMosaic.Routing.gather_row _ rfl rfl rfl rfl rfl x _ a b ⟨(v (ix1 a)).toNat, h _⟩ ?_ (by decide)
  refine (col_apply _ a).trans ?_
  show (if BitVec.ofBool ((v (ix1 a)).slt 0#32) = 1#1 then v (ix1 a) + 24576#32 else v (ix1 a)) = BitVec.ofNat 32 (v (ix1 a)).toNat
  rw [not_neg _ (h _)]
  simp

end Reference

/-- The kernel's gather and the reference's end with the same array, word for word. -/
theorem bitexact : Cert.bitexact_Kernel14_Reference14 (hKernel14 := Cert.Kernel14.Gen.facts) (hReference14 := Cert.Reference14.Gen.facts)
    (hPre_rows_exist := Cert.Pre_rows_exist.Gen.facts) := by
  intro m g m' g' hpre hargs
  have hO : Ok m := fun c => row_lt _ (hpre c)
  refine ⟨fun c => result m hO c, ?_, ?_⟩
  · exact (θ_run (Cert.Kernel14.defs (F := Bits)) _ _).mono (fun r h => h.1) (run m g hO)
  · refine (θ_run (Cert.Reference14.defs (F := Bits)) _ _).mono (fun r h c => ?_) (Cert.Reference14.Value.run (F := Bits) m' g')
    obtain ⟨hv, hrest⟩ := h c
    refine ⟨hv.trans ?_, hrest⟩
    obtain ⟨a0, a1⟩ := hargs c
    rw [a0, a1]
    funext j
    obtain ⟨a, b, rfl⟩ : ∃ (a : Fin 53248) (b : Fin 1024), j = ix2 a b := ⟨j 0, j 1, by funext d; fin_cases d <;> rfl⟩
    exact ref_apply _ _ (hO c) a b

end Cert.Kernel14.Gather

end
-- ==== Proof.Combine.lean ====
/- The combination of the experts' rows: the body of the call, run once at any operands. For each of the 256 tokens of its tile the body
   reads two row numbers and starts two copies, of those two rows of the table into the token's row of the first and of the second plane
   of a scratch array; it waits for the 512 copies, adds the two planes, scales by the gate and adds the residual. -/
module

public import proofs.«01_k».proof.Proof.Gen.Kernel15.Frame
public import Idealize.ShloMosaic.Lib.Pipeline.Routed
public import Idealize.ShloMosaic.Lib.Pipeline.FrameBody
public import Idealize.ShloMosaic.Lib.Pipeline.ValueKit
public import Idealize.ShloMosaic.Lib.VecWindow
public import Idealize.ShloMosaic.Lib.ValueLayout
public import Idealize.ShloMosaic.Lib.Batch
public import Idealize.ShloMosaic.Lib.Ring
public import Idealize.ShloMosaic.Lib.Tactic

@[expose] public section

set_option maxRecDepth 16384

noncomputable section

namespace Cert.Kernel15.Combine

open Cert.Kernel15 Cert.Kernel15.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole with contents `f`. -/
abbrev pt (c : Dev nD) {sp : Space} {S : Shape} {e : EltTy} (M : Memref sig .tc sp S e) (f : Bf (F := F) c M) : sProp 𝕄 :=
  M.view.loc (c : Thread nD τ) ↦{fullShare} f

/-- The number of trips of a loop. -/
abbrev T : ℕ := k0_t1_loop.trips

/-- Each loop makes 256 trips. -/
theorem trips_eq : k0_t1_loop.trips = 256 := by decide
theorem trips2_eq : k0_t2_loop.trips = 256 := by decide

/-- The table, and the scratch array that the copies fill. -/
abbrev tab : Memref sig .tc .hbm S53248x2048 .f32 := Memref.whole main_arg0
abbrev scr : Memref sig .tc .vmem S2x256x2048 .f32 := Memref.whole cc0_scratch0

/-- The one index of a single word. -/
abbrev i0 : S1x1.Idx := Shape.Idx.first (s := S1x1) (numel1_S1x1.symm ▸ Nat.one_pos)
/-- The two row numbers of trip `t`, as it reads them from the block of row numbers. -/
abbrev wd0 (M0 : Memref sig .tc .smem S2x256 .i32) {c : Dev nD} (f0 : Bf (F := F) c M0) (t : Fin T) : BitVec 32 :=
  M0.view.readAt (Elt F) (Rect.unit (s := S2x256) (k0_off1 t) S1x1.size (k0_off1_inb t)).toLoadRect f0 i0
abbrev wd1 (M0 : Memref sig .tc .smem S2x256 .i32) {c : Dev nD} (f0 : Bf (F := F) c M0) (t : Fin T) : BitVec 32 :=
  M0.view.readAt (Elt F) (Rect.unit (s := S2x256) (k0_off4 t) S1x1.size (k0_off4_inb t)).toLoadRect f0 i0

/-- A row number below 53248 names a row of the table. -/
theorem row_inb0 (w : BitVec 32) (hw : w.toNat < 53248) : ∀ a, k0_off3 w a + S1x2048.size a ≤ S53248x2048.size a := by
  intro a; fin_cases a
  · show w.toNat + 1 ≤ 53248; omega
  · show 0 + 2048 ≤ 2048; omega
theorem row_inb1 (w : BitVec 32) (hw : w.toNat < 53248) : ∀ a, k0_off6 w a + S1x2048.size a ≤ S53248x2048.size a := by
  intro a; fin_cases a
  · show w.toNat + 1 ≤ 53248; omega
  · show 0 + 2048 ≤ 2048; omega

/-- The table's row at offset `p`, -/
def srcM (p : Fin 2 → ℕ) (hp : ∀ a, p a + S1x2048.size a ≤ S53248x2048.size a) : Memref sig .tc .hbm S1x2048 .f32 :=
  tab.slice (Rect.unit (s := S53248x2048) p S1x2048.size hp) (fun _ => rfl)
/-- and the scratch array's row at offset `o`. -/
def dstM (o : Fin 3 → ℕ) (ho : ∀ a, o a + S1x1x2048.size a ≤ S2x256x2048.size a) : Memref sig .tc .vmem S1x2048 .f32 :=
  (scr.slice (Rect.unit (s := S2x256x2048) o S1x1x2048.size ho) (fun _ => rfl)).squeeze S1x2048 squeezes_S1x1x2048_S1x2048
/-- What one copy adds to the counter: a row in units of 32 bytes. -/
abbrev NN : ℕ := 256

/-! ## The 512 copies -/

section Copy

variable (c : Dev nD) (o : Fin 3 → ℕ) (ho : ∀ a, o a + S1x1x2048.size a ≤ S2x256x2048.size a)
  (p : Fin 2 → ℕ) (hp : ∀ a, p a + S1x2048.size a ≤ S53248x2048.size a)
  (f6 : Bf (F := F) c scr) (fs : Bf (F := F) c tab) (q : PosShare TreeShare)

/-- The contents of the scratch array and of the table, as contents of the buffer of one of their rows. -/
abbrev f6At : Buf (Elt F) ((dstM o ho).view.loc (c : Thread nD τ)) := f6
abbrev fsAt : Buf (Elt F) ((srcM p hp).view.loc (c : Thread nD τ)) := fs
/-- The scratch array after the row has landed. -/
abbrev landed : Buf (Elt F) ((dstM o ho).view.loc (c : Thread nD τ)) :=
  (dstM o ho).view.writes (Elt F) (f6At c o ho f6) [⟨Rect.whole S1x2048, ReadAs.same.apply ((srcM p hp).view.read (Elt F) (fsAt c p hp fs))⟩]
/-- The scratch array's row, before its copy, -/
abbrev dstAt : sProp 𝕄 := (dstM o ho).view.loc (c : Thread nD τ) ↦[(dstM o ho).view.set]{fullShare} f6At c o ho f6
/-- the table's row that the copy reads, under a share of its own, since two copies may read the same row, -/
abbrev srcAt : sProp 𝕄 := (srcM p hp).view.loc (c : Thread nD τ) ↦[(srcM p hp).view.set]{q} fsAt c p hp fs
/-- and the scratch array's row after the copy. -/
abbrev landAt : sProp 𝕄 := (dstM o ho).view.loc (c : Thread nD τ) ↦[(dstM o ho).view.set]{fullShare} landed c o ho p hp f6 fs
/-- What a copy gives back. -/
abbrev Dl : sProp 𝕄 :=
  iprop(((dstM o ho).view.loc (c : Thread nD τ) ↦[(dstM o ho).view.set]{fullShare} landed c o ho p hp f6 fs)
    ∗ ((srcM p hp).view.loc (c : Thread nD τ) ↦[(srcM p hp).view.set]{q} fsAt c p hp fs))

end Copy

section Deliveries

variable (c : Dev nD) {w0 w1 : Fin T → BitVec 32} (hok0 : ∀ t, (w0 t).toNat < 53248) (hok1 : ∀ t, (w1 t).toNat < 53248)
  (f6 : Bf (F := F) c scr) (fs : Bf (F := F) c tab)

/-- The rows that trip `t` fills, one in each plane, -/
abbrev dst0 (t : Fin T) : sProp 𝕄 := dstAt c (k0_off2 t) (k0_off2_inb t) f6
abbrev dst1 (t : Fin T) : sProp 𝕄 := dstAt c (k0_off5 t) (k0_off5_inb t) f6
/-- the rows of the table that it copies, -/
abbrev src0 (t : Fin T) : sProp 𝕄 := srcAt c (k0_off3 (w0 t)) (row_inb0 _ (hok0 t)) fs (Transfers.shareTokN fullShare (2 * t.val))
abbrev src1 (t : Fin T) : sProp 𝕄 := srcAt c (k0_off6 (w1 t)) (row_inb1 _ (hok1 t)) fs (Transfers.shareTokN fullShare (2 * t.val + 1))
/-- the rows filled, -/
abbrev land0 (t : Fin T) : sProp 𝕄 := landAt c (k0_off2 t) (k0_off2_inb t) (k0_off3 (w0 t)) (row_inb0 _ (hok0 t)) f6 fs
abbrev land1 (t : Fin T) : sProp 𝕄 := landAt c (k0_off5 t) (k0_off5_inb t) (k0_off6 (w1 t)) (row_inb1 _ (hok1 t)) f6 fs
/-- and what its two copies give back. -/
abbrev D0 (t : Fin T) : sProp 𝕄 :=
  Dl c (k0_off2 t) (k0_off2_inb t) (k0_off3 (w0 t)) (row_inb0 _ (hok0 t)) f6 fs (Transfers.shareTokN fullShare (2 * t.val))
abbrev D1 (t : Fin T) : sProp 𝕄 :=
  Dl c (k0_off5 t) (k0_off5_inb t) (k0_off6 (w1 t)) (row_inb1 _ (hok1 t)) f6 fs (Transfers.shareTokN fullShare (2 * t.val + 1))

/-- The same, by the number of the trip. -/
abbrev A0 : ℕ → sProp 𝕄 := fun k => if h : k < T then D0 c hok0 f6 fs ⟨k, h⟩ else (iprop(emp) : sProp 𝕄)
abbrev A1 : ℕ → sProp 𝕄 := fun k => if h : k < T then D1 c hok1 f6 fs ⟨k, h⟩ else (iprop(emp) : sProp 𝕄)

instance A0_storable (k : ℕ) : BI.Storable (upEmb : UEmb _ 𝕄) (A0 c hok0 f6 fs k) := by
  unfold A0; split <;> infer_instance
instance A1_storable (k : ℕ) : BI.Storable (upEmb : UEmb _ 𝕄) (A1 c hok1 f6 fs k) := by
  unfold A1; split <;> infer_instance

/-- The 512 copies in the order they are started. -/
abbrev D : Fin (2 * T) → sProp 𝕄 := Ring.interleaved T (A0 c hok0 f6 fs) (A1 c hok1 f6 fs)

/-- All of them done. -/
theorem D_all : (bigSep Finset.univ (D c hok0 hok1 f6 fs) : sProp 𝕄)
    = iprop(bigSep Finset.univ (D0 c hok0 f6 fs) ∗ bigSep Finset.univ (D1 c hok1 f6 fs)) := by
  unfold D
  rw [Ring.bigSep_interleaved, ← Ring.bigSep_fin_eq_range T (D0 c hok0 f6 fs) (A0 c hok0 f6 fs) (fun t h => dif_pos h),
    ← Ring.bigSep_fin_eq_range T (D1 c hok1 f6 fs) (A1 c hok1 f6 fs) (fun t h => dif_pos h)]

/-- The copies on the one counter, `j` started and `u` units of them waited for. -/
abbrev batch (j u : ℕ) : sProp 𝕄 :=
  Transfers.Batch countersEmb (c : Thread nD τ) (.dma cc0_scratch1.sem) () NN (D c hok0 hok1 f6 fs) j u

end Deliveries

/-! ## What the copies leave in the scratch array -/

/-- The number of a trip, as a row of a plane. -/
abbrev rowOf (t : Fin T) : Fin 256 := ⟨t.val, trips_eq ▸ t.isLt⟩

/-- The two planes gathered by the row numbers `X` from the table `fs`. -/
def gath (X : S2x256.Idx → BitVec 32) (hX : ∀ y, (X y).toNat < 53248) (fs : S53248x2048.Idx → Elt F .f32) : S2x256x2048.Idx → Elt F .f32 :=
  fun x => fs (ix2 ⟨(X (ix2 (x 0) (x 1))).toNat, hX _⟩ (x 2))

section Rows

variable (c : Dev nD)

theorem set_eq (o : Fin 3 → ℕ) (ho : ∀ a, o a + S1x1x2048.size a ≤ S2x256x2048.size a) :
    (dstM o ho).view.set = (Rect.unit (s := S2x256x2048) o S1x1x2048.size ho).set := by
  unfold dstM; exact (View.set_reshape _ _).trans (View.set_slice_whole _ _)

/-- An index is in a row when its first two coordinates are the row's. -/
theorem mem_row (o : Fin 3 → ℕ) (ho : ∀ a, o a + S1x1x2048.size a ≤ S2x256x2048.size a) (b r : ℕ) (e : o = ![b, r, 0]) (y : S2x256x2048.Idx) :
    y ∈ (dstM o ho).view.set ↔ (y 0).val = b ∧ (y 1).val = r := by
  subst e
  have hm : y ∈ (dstM ![b, r, 0] ho).view.set ↔ y ∈ (Rect.unit (s := S2x256x2048) ![b, r, 0] S1x1x2048.size ho).set :=
    Iff.of_eq (congrArg (fun s : Finset S2x256x2048.Idx => y ∈ s) (set_eq _ ho))
  refine hm.trans ?_
  rw [Rect.mem_set_unit]
  have hy2 : (y 2).val < 2048 := (y 2).isLt
  constructor
  · intro H
    have a0 : b ≤ (y 0).val ∧ (y 0).val < b + 1 := H 0
    have a1 : r ≤ (y 1).val ∧ (y 1).val < r + 1 := H 1
    omega
  · intro H a; fin_cases a
    · show b ≤ (y 0).val ∧ (y 0).val < b + 1; omega
    · show r ≤ (y 1).val ∧ (y 1).val < r + 1; omega
    · show 0 ≤ (y 2).val ∧ (y 2).val < 0 + 2048; omega

/-- The elements of the scratch array in row `t` of each plane. -/
abbrev K0 (t : Fin T) : Finset (Idx (scr.view.loc (c : Thread nD τ))) := (dstM (k0_off2 t) (k0_off2_inb t)).view.set
abbrev K1 (t : Fin T) : Finset (Idx (scr.view.loc (c : Thread nD τ))) := (dstM (k0_off5 t) (k0_off5_inb t)).view.set

theorem mem_K0 (t : Fin T) (y : S2x256x2048.Idx) : y ∈ K0 c t ↔ (y 0).val = 0 ∧ (y 1).val = t.val := mem_row _ _ 0 t.val (k0_off2_eq t) y
theorem mem_K1 (t : Fin T) (y : S2x256x2048.Idx) : y ∈ K1 c t ↔ (y 0).val = 1 ∧ (y 1).val = t.val := mem_row _ _ 1 t.val (k0_off5_eq t) y

theorem K0_disjoint : ∀ t ∈ (Finset.univ : Finset (Fin T)), ∀ t' ∈ (Finset.univ : Finset (Fin T)), t ≠ t' → Disjoint (K0 c t) (K0 c t') := by
  intro t _ t' _ hne
  rw [Finset.disjoint_left]
  intro y hy hy'
  exact hne (Fin.ext (((mem_K0 c t y).mp hy).2.symm.trans ((mem_K0 c t' y).mp hy').2))
theorem K1_disjoint : ∀ t ∈ (Finset.univ : Finset (Fin T)), ∀ t' ∈ (Finset.univ : Finset (Fin T)), t ≠ t' → Disjoint (K1 c t) (K1 c t') := by
  intro t _ t' _ hne
  rw [Finset.disjoint_left]
  intro y hy hy'
  exact hne (Fin.ext (((mem_K1 c t y).mp hy).2.symm.trans ((mem_K1 c t' y).mp hy').2))

/-- What is not in the first plane's rows is in the second's. -/
theorem K_rest : Finset.univ \ Finset.univ.biUnion (K0 c) = Finset.univ.biUnion (K1 c) := by
  refine Finset.ext fun (y : S2x256x2048.Idx) => ?_
  have hy0 : (y 0).val < 2 := (y 0).isLt
  have hy1 : (y 1).val < T := lt_of_lt_of_eq (y 1).isLt trips_eq.symm
  refine Finset.mem_sdiff.trans ?_
  refine Iff.trans (and_congr Iff.rfl (not_congr Finset.mem_biUnion)) (Iff.trans ?_ Finset.mem_biUnion.symm)
  constructor
  · rintro ⟨-, H⟩
    have : ¬ (y 0).val = 0 := fun h => H ⟨⟨(y 1).val, hy1⟩, Finset.mem_univ _, (mem_K0 c _ y).mpr ⟨h, rfl⟩⟩
    exact ⟨⟨(y 1).val, hy1⟩, Finset.mem_univ _, (mem_K1 c _ y).mpr ⟨by omega, rfl⟩⟩
  · rintro ⟨t, -, ht⟩
    refine ⟨Finset.mem_univ _, ?_⟩
    rintro ⟨t', -, ht'⟩
    have a := ((mem_K1 c t y).mp ht).1
    have b := ((mem_K0 c t' y).mp ht').1
    omega

/-- The scratch array held whole is its rows held one by one. -/
theorem rows_eq (f6 : Bf (F := F) c scr) : (pt c scr f6 : sProp 𝕄) = iprop(bigSep Finset.univ (dst0 c f6) ∗ bigSep Finset.univ (dst1 c f6)) := by
  have h : (pt c scr f6 : sProp 𝕄) ⊣⊢ iprop((scr.view.loc (c : Thread nD τ) ↦[Finset.univ.biUnion (K0 c)]{fullShare} f6)
      ∗ (scr.view.loc (c : Thread nD τ) ↦[Finset.univ \ Finset.univ.biUnion (K0 c)]{fullShare} f6)) :=
    pointsTo_split_subset (Finset.subset_univ _)
  refine (BI.equiv_iff.mp ⟨h.1, h.2⟩).trans ?_
  rw [K_rest, pointsTo_biUnion _ _ (K0_disjoint c), pointsTo_biUnion _ _ (K1_disjoint c)]
  rfl

/-- A row that has landed is the row of the gathered planes. -/
theorem landed_eq (X : S2x256.Idx → BitVec 32) (hX : ∀ y, (X y).toNat < 53248) (f6 : Bf (F := F) c scr) (fs : Bf (F := F) c tab)
    (o : Fin 3 → ℕ) (ho : ∀ a, o a + S1x1x2048.size a ≤ S2x256x2048.size a) (p : Fin 2 → ℕ) (hp : ∀ a, p a + S1x2048.size a ≤ S53248x2048.size a)
    (b : Fin 2) (r : Fin 256) (eo : o = ![b.val, r.val, 0]) (ep : p = ![(X (ix2 b r)).toNat, 0]) :
    (landAt c o ho p hp f6 fs : sProp 𝕄) = dstAt c o ho (gath X hX fs : Bf (F := F) c scr) := by
  refine pointsTo_congr fun i hi => ?_
  obtain ⟨y, -, rfl⟩ := Finset.mem_map.mp hi
  have e : (dstM o ho).view.read (Elt F) (landed c o ho p hp f6 fs) = (dstM o ho).view.read (Elt F) (f6At c o ho (gath X hX fs)) := by
    refine (View.read_writes_whole _ _ _).trans ?_
    funext z
    obtain ⟨z0, d, rfl⟩ : ∃ (z0 : Fin 1) (d : Fin 2048), z = ix2 z0 d := ⟨z 0, z 1, by funext a; fin_cases a <;> rfl⟩
    show fs ((Rect.unit (s := S53248x2048) p S1x2048.size hp).emb (ix2 z0 d))
      = gath X hX fs ((Rect.unit (s := S2x256x2048) o S1x1x2048.size ho).emb (Shape.reshapeEquiv squeezes_S1x1x2048_S1x2048.numel_eq (ix2 z0 d)))
    have er : Shape.reshapeEquiv squeezes_S1x1x2048_S1x2048.numel_eq (ix2 z0 d) = (ix3 (0 : Fin 1) z0 d : S1x1x2048.Idx) :=
      ValueIdx.reshapeEquiv_ix2_1ab _ z0 d
    rw [er]
    subst eo
    have hz : z0.val = 0 := by omega
    have g0 : (Rect.unit (s := S2x256x2048) ![b.val, r.val, 0] S1x1x2048.size ho).emb (ix3 (0 : Fin 1) z0 d) 0 = b := Fin.ext (by
      show b.val + 1 * 0 = b.val; omega)
    have g1 : (Rect.unit (s := S2x256x2048) ![b.val, r.val, 0] S1x1x2048.size ho).emb (ix3 (0 : Fin 1) z0 d) 1 = r := Fin.ext (by
      show r.val + 1 * z0.val = r.val; omega)
    unfold gath
    refine congrArg fs (funext fun a => Fin.ext ?_)
    subst ep
    fin_cases a
    · show (X (ix2 b r)).toNat + 1 * z0.val = (X (ix2 ((Rect.unit (s := S2x256x2048) ![b.val, r.val, 0] S1x1x2048.size ho).emb (ix3 (0 : Fin 1) z0 d) 0)
        ((Rect.unit (s := S2x256x2048) ![b.val, r.val, 0] S1x1x2048.size ho).emb (ix3 (0 : Fin 1) z0 d) 1))).toNat
      rw [g0, g1]; omega
    · rfl
  have ey := congrFun e y
  rw [View.read_apply, View.read_apply] at ey
  exact (cast_inj _).mp ey

variable {w0 w1 : Fin T → BitVec 32} (hok0 : ∀ t, (w0 t).toNat < 53248) (hok1 : ∀ t, (w1 t).toNat < 53248)
  (f6 : Bf (F := F) c scr) (fs : Bf (F := F) c tab)

/-- The copies done: the gathered planes, and the rows of the table they read. -/
theorem done_eq (X : S2x256.Idx → BitVec 32) (hX : ∀ y, (X y).toNat < 53248)
    (hw0 : ∀ t, w0 t = X (ix2 (0 : Fin 2) (rowOf t))) (hw1 : ∀ t, w1 t = X (ix2 (1 : Fin 2) (rowOf t))) :
    (bigSep Finset.univ (D c hok0 hok1 f6 fs) : sProp 𝕄)
      = iprop((bigSep Finset.univ (dst0 c (gath X hX fs : Bf (F := F) c scr)) ∗ bigSep Finset.univ (src0 c hok0 fs))
        ∗ (bigSep Finset.univ (dst1 c (gath X hX fs : Bf (F := F) c scr)) ∗ bigSep Finset.univ (src1 c hok1 fs))) := by
  rw [D_all]
  have l0 : ∀ t ∈ (Finset.univ : Finset (Fin T)), (land0 c hok0 f6 fs t : sProp 𝕄) = dst0 c (gath X hX fs : Bf (F := F) c scr) t := fun t _ =>
    landed_eq c X hX f6 fs _ _ _ _ 0 (rowOf t) (k0_off2_eq t) (by rw [← hw0]; rfl)
  have l1 : ∀ t ∈ (Finset.univ : Finset (Fin T)), (land1 c hok1 f6 fs t : sProp 𝕄) = dst1 c (gath X hX fs : Bf (F := F) c scr) t := fun t _ =>
    landed_eq c X hX f6 fs _ _ _ _ 1 (rowOf t) (k0_off5_eq t) (by rw [← hw1]; rfl)
  have e0 : (bigSep Finset.univ (D0 c hok0 f6 fs) : sProp 𝕄) = iprop(bigSep Finset.univ (land0 c hok0 f6 fs) ∗ bigSep Finset.univ (src0 c hok0 fs)) :=
    BI.bigSep_sep' _ _ _
  have e1 : (bigSep Finset.univ (D1 c hok1 f6 fs) : sProp 𝕄) = iprop(bigSep Finset.univ (land1 c hok1 f6 fs) ∗ bigSep Finset.univ (src1 c hok1 fs)) :=
    BI.bigSep_sep' _ _ _
  rw [e0, e1, BI.bigSep_congr l0, BI.bigSep_congr l1]

/-- Elements `I` of the table, under share `q`. -/
abbrev tableAt (I : Finset S53248x2048.Idx) (q : PosShare TreeShare) : sProp 𝕄 :=
  tab.view.loc (c : Thread nD τ) ↦[I]{q} fs

/-- What a copy does not read of the table, under the copy's share. -/
abbrev oth0 (t : Fin T) : sProp 𝕄 :=
  tableAt c fs (Finset.univ \ (srcM (k0_off3 (w0 t)) (row_inb0 _ (hok0 t))).view.set) (Transfers.shareTokN fullShare (2 * t.val))
abbrev oth1 (t : Fin T) : sProp 𝕄 :=
  tableAt c fs (Finset.univ \ (srcM (k0_off6 (w1 t)) (row_inb1 _ (hok1 t))).view.set) (Transfers.shareTokN fullShare (2 * t.val + 1))

/-- The table held whole is a share left over and, for each copy, the row that it reads and the other rows. -/
theorem table_eq : (pt c tab fs : sProp 𝕄)
    = iprop(tableAt c fs Finset.univ (Transfers.shareDrop fullShare (2 * T))
        ∗ ((bigSep Finset.univ (src0 c hok0 fs) ∗ bigSep Finset.univ (oth0 c hok0 fs))
          ∗ (bigSep Finset.univ (src1 c hok1 fs) ∗ bigSep Finset.univ (oth1 c hok1 fs)))) := by
  have h : (tableAt c fs Finset.univ fullShare : sProp 𝕄) ⊣⊢ iprop(tableAt c fs Finset.univ (Transfers.shareDrop fullShare (2 * T))
      ∗ bigSep (Finset.range (2 * T)) (fun i => tableAt c fs Finset.univ (Transfers.shareTokN fullShare i))) :=
    Transfers.pointsTo_toks_range fullShare (2 * T)
  refine (BI.equiv_iff.mp ⟨h.1, h.2⟩).trans ?_
  rw [Ring.bigSep_range_deinterleave,
    ← Ring.bigSep_fin_eq_range T (fun t => (tableAt c fs Finset.univ (Transfers.shareTokN fullShare (2 * t.val)) : sProp 𝕄))
      (fun k => tableAt c fs Finset.univ (Transfers.shareTokN fullShare (2 * k))) (fun t _ => rfl),
    ← Ring.bigSep_fin_eq_range T (fun t => (tableAt c fs Finset.univ (Transfers.shareTokN fullShare (2 * t.val + 1)) : sProp 𝕄))
      (fun k => tableAt c fs Finset.univ (Transfers.shareTokN fullShare (2 * k + 1))) (fun t _ => rfl)]
  have s0 : ∀ t ∈ (Finset.univ : Finset (Fin T)), (tableAt c fs Finset.univ (Transfers.shareTokN fullShare (2 * t.val)) : sProp 𝕄)
      = iprop(src0 c hok0 fs t ∗ oth0 c hok0 fs t) := fun t _ => by
    have hs : (tableAt c fs Finset.univ (Transfers.shareTokN fullShare (2 * t.val)) : sProp 𝕄)
        ⊣⊢ iprop(tableAt c fs (srcM (k0_off3 (w0 t)) (row_inb0 _ (hok0 t))).view.set (Transfers.shareTokN fullShare (2 * t.val)) ∗ oth0 c hok0 fs t) :=
      pointsTo_split_subset (Finset.subset_univ _)
    exact BI.equiv_iff.mp ⟨hs.1, hs.2⟩
  have s1 : ∀ t ∈ (Finset.univ : Finset (Fin T)), (tableAt c fs Finset.univ (Transfers.shareTokN fullShare (2 * t.val + 1)) : sProp 𝕄)
      = iprop(src1 c hok1 fs t ∗ oth1 c hok1 fs t) := fun t _ => by
    have hs : (tableAt c fs Finset.univ (Transfers.shareTokN fullShare (2 * t.val + 1)) : sProp 𝕄)
        ⊣⊢ iprop(tableAt c fs (srcM (k0_off6 (w1 t)) (row_inb1 _ (hok1 t))).view.set (Transfers.shareTokN fullShare (2 * t.val + 1)) ∗ oth1 c hok1 fs t) :=
      pointsTo_split_subset (Finset.subset_univ _)
    exact BI.equiv_iff.mp ⟨hs.1, hs.2⟩
  have e0 : (bigSep Finset.univ (fun t : Fin T => iprop(src0 c hok0 fs t ∗ oth0 c hok0 fs t)) : sProp 𝕄)
      = iprop(bigSep Finset.univ (src0 c hok0 fs) ∗ bigSep Finset.univ (oth0 c hok0 fs)) := BI.bigSep_sep' _ _ _
  have e1 : (bigSep Finset.univ (fun t : Fin T => iprop(src1 c hok1 fs t ∗ oth1 c hok1 fs t)) : sProp 𝕄)
      = iprop(bigSep Finset.univ (src1 c hok1 fs) ∗ bigSep Finset.univ (oth1 c hok1 fs)) := BI.bigSep_sep' _ _ _
  rw [BI.bigSep_congr s0, BI.bigSep_congr s1, e0, e1]

end Rows

/-! ## The two loops -/

section Loops

variable (c : Dev nD) (M0 : Memref sig .tc .smem S2x256 .i32)
  (f0 : Bf (F := F) c M0) (hok0 : ∀ t, (wd0 M0 f0 t).toNat < 53248) (hok1 : ∀ t, (wd1 M0 f0 t).toNat < 53248)
  (f6 : Bf (F := F) c scr) (fs : Bf (F := F) c tab)

/-- Before trip `k` of the first loop: the first `2 k` copies started, the rows of the others still in hand. -/
def issueAt (k : ℕ) (_ : PUnit.{1}) : sProp 𝕄 :=
  iprop(batch c hok0 hok1 f6 fs (2 * k) 0
    ∗ bigSep (Ring.rangeSet T k T) (dst0 c f6) ∗ bigSep (Ring.rangeSet T k T) (dst1 c f6)
    ∗ bigSep (Ring.rangeSet T k T) (src0 c hok0 fs) ∗ bigSep (Ring.rangeSet T k T) (src1 c hok1 fs)
    ∗ pt c M0 f0)

/-- Before trip `k` of the second loop: `2 k` copies waited for, or, after the last, the counter back at zero and all copies done. -/
def drainAt (k : ℕ) (_ : PUnit.{1}) : sProp 𝕄 :=
  iprop((∃ W, owes (c : Thread nD τ) 0 W)
    ∗ (if k < 256 then batch c hok0 hok1 f6 fs (2 * T) (2 * k * NN)
       else iprop(semVal ((c : Thread nD τ), SemLoc.dma cc0_scratch1.sem) 0 ∗ bigSep Finset.univ (D c hok0 hok1 f6 fs))))

/-- What the body stores for its tile: from the residual `x`, the gate `g` and the gathered planes `G`. -/
def stored (x : Vec F S256x2048 .f32) (g : Vec F S1x1x2048 .f32) (G : S2x256x2048.Idx → Elt F .f32) : Vec F S256x2048 .f32 :=
  addf x (mulf (broadcastTo S256x2048 (shapeCast S1x2048 g shapeCasts_S1x1x2048_S1x2048 : FVec F S1x2048 .f32) broadcasts_S1x2048_S256x2048)
    (addf (shapeCast S256x2048 (View.ld G (Rect.unit (s := S2x256x2048) ![0, 0, 0] S1x256x2048.size inb_S2x256x2048_S1x256x2048_0_0_0)) shapeCasts_S1x256x2048_S256x2048 : FVec F S256x2048 .f32)
      (shapeCast S256x2048 (View.ld G (Rect.unit (s := S2x256x2048) ![1, 0, 0] S1x256x2048.size inb_S2x256x2048_S1x256x2048_1_0_0)) shapeCasts_S1x256x2048_S256x2048 : FVec F S256x2048 .f32)))

include hok0 hok1 in
set_option maxHeartbeats 16000000 in
/-- The body run: from the row numbers, the table, the residual and the gate, it leaves the combination in the block it fills. -/
theorem kernelRun [∀ e, Nonempty (Elt F e)] (i : grid0.Coords) (h0 : M0.IsWhole) (ht : tab.IsWhole)
    (M3 : Memref sig .tc .vmem S256x2048 .f32) (h3 : M3.IsWhole) (M4 : Memref sig .tc .vmem S1x1x2048 .f32) (h4 : M4.IsWhole)
    (M5 : Memref sig .tc .vmem S256x2048 .f32) (h5 : M5.IsWhole) (h6 : scr.IsWhole)
    (X : S2x256.Idx → BitVec 32) (hX : ∀ y, (X y).toNat < 53248)
    (hw0 : ∀ t, wd0 M0 f0 t = X (ix2 (0 : Fin 2) (rowOf t))) (hw1 : ∀ t, wd1 M0 f0 t = X (ix2 (1 : Fin 2) (rowOf t)))
    (f3 : Bf (F := F) c M3) (f4 : Bf (F := F) c M4) (f5 : Bf (F := F) c M5) (W : Waits sig Unit) (Q : PUnit → sProp 𝕄) :
    iprop(pt c M0 f0 ∗ pt c tab fs ∗ pt c M3 f3 ∗ pt c M4 f4 ∗ pt c M5 f5 ∗ pt c scr f6
      ∗ semVal ((c : Thread nD τ), SemLoc.dma cc0_scratch1.sem) 0 ∗ owes (c : Thread nD τ) 0 W
      ∗ (iprop(pt c M0 f0 ∗ pt c tab fs ∗ pt c M3 f3 ∗ pt c M4 f4
            ∗ owns (c : Thread nD τ) M5 fullShare (stored (M3.view.read (Elt F) f3) (M4.view.read (Elt F) f4) (gath X hX fs))
            ∗ (∃ f, pt c scr f)
            ∗ semVal ((c : Thread nD τ), SemLoc.dma cc0_scratch1.sem) 0 ∗ (∃ W, owes (c : Thread nD τ) 0 W)) -∗ Q ⟨⟩))
      ⊢ wp frame (wpE (defs₀ (F := F)) Variants.none c none) Set.univ
        (cc0_moe_combine i M0 h0 tab ht M3 h3 M4 h4 M5 h5 scr h6 cc0_scratch1) Q := by
  have hT := trips_eq
  have hT2 := trips2_eq
  iintro ⟨H0, Ha, H3, H4, H5, H6, Hc, HO, Hk⟩
  ihave Ha' := (Entails.of_eq (table_eq c hok0 hok1 fs)) $$ Ha
  icases Ha' with ⟨Hrest, ⟨Hs0, Ho0⟩, Hs1, Ho1⟩
  ihave H6' := (Entails.of_eq (rows_eq c f6)) $$ H6
  icases H6' with ⟨Hd0, Hd1⟩
  imod (Transfers.batch_alloc' (Lvl := ℕ) countersEmb (c : Thread nD τ) () NN (D c hok0 hok1 f6 fs) (sm := .dma cc0_scratch1.sem) (E := Set.univ)) $$ Hc with HB
  sl_unfold [cc0_moe_combine]
  sl_exec
  sl_for (issueAt c M0 f0 hok0 hok1 f6 fs) $$ [HB Hd0 Hd1 Hs0 Hs1 H0]
  · intro k acc
    have hkT : k.val < T := k.isLt
    have hchk0 : k0_chk1 (wd0 M0 f0 k) := row_inb0 _ (hok0 k)
    have hchk1 : k0_chk2 (wd1 M0 f0 k) := row_inb1 _ (hok1 k)
    unfold issueAt
    rw [Ring.bigSep_rangeSet_head (Φ := dst0 c f6) k.isLt k.isLt, Ring.bigSep_rangeSet_head (Φ := dst1 c f6) k.isLt k.isLt,
      Ring.bigSep_rangeSet_head (Φ := src0 c hok0 fs) k.isLt k.isLt, Ring.bigSep_rangeSet_head (Φ := src1 c hok1 fs) k.isLt k.isLt,
      show 2 * (k.val + 1) = 2 * k.val + 1 + 1 by omega]
    unfold dst0 dst1 src0 src1 dstAt srcAt
    iintro ⟨HB, ⟨HP0, HPs0⟩, ⟨HP1, HPs1⟩, ⟨HS0, HSs0⟩, ⟨HS1, HSs1⟩, H0⟩
    sl_exec (disch := first | exact hchk0 | exact hchk1)
    sl_step
    isplitl [HB]; · iexact HB
    isplitl [HPs0]; · iexact HPs0
    isplitl [HPs1]; · iexact HPs1
    isplitl [HSs0]; · iexact HSs0
    isplitl [HSs1]; · iexact HSs1
    iexact H0
  · unfold issueAt
    rw [Ring.rangeSet_univ]
    isplitl [HB]; · iexact HB
    isplitl [Hd0]; · iexact Hd0
    isplitl [Hd1]; · iexact Hd1
    isplitl [Hs0]; · iexact Hs0
    isplitl [Hs1]; · iexact Hs1
    iexact H0
  iintro %acc HL
  ihave HL' := (show issueAt c M0 f0 hok0 hok1 f6 fs k0_t1_loop.trips acc ⊢ iprop(batch c hok0 hok1 f6 fs (2 * T) 0 ∗ pt c M0 f0) from by
    unfold issueAt; simp only [Ring.bigSep_rangeSet_empty le_rfl]
    iintro ⟨A, -, -, -, -, B⟩; isplitl [A] <;> iassumption) $$ HL
  icases HL' with ⟨HB, H0⟩
  sl_exec
  sl_for (drainAt c M0 f0 hok0 hok1 f6 fs) $$ [HB HO]
  · intro k acc
    have hkT : k.val < 256 := trips2_eq ▸ k.isLt
    unfold drainAt
    simp only [if_pos hkT]
    rcases Nat.lt_or_ge (k.val + 1) 256 with hk1 | hk1
    · simp only [if_pos hk1]
      iintro ⟨⟨%W, HO⟩, HB⟩
      sl_exec
      sl_step
      isplitl [HO]; · iexists _; iexact HO
      rw [show 2 * (k.val + 1) * NN = 2 * k.val * NN + NN + NN by simp only [NN]; omega]
      iexact HB
    · simp only [if_neg (Nat.not_lt.mpr hk1)]
      iintro ⟨⟨%W, HO⟩, HB⟩
      sl_exec
      sl_step
      isplitl [HO]; · iexists _; iexact HO
      isplitl [HB]; · iexact HB
      iexact HB_all
  · unfold drainAt
    rw [if_pos (by omega)]
    isplitl [HO]; · iexists _; iexact HO
    iexact HB
  iintro %acc2 HL2
  ihave HL2' := (show drainAt c M0 f0 hok0 hok1 f6 fs k0_t2_loop.trips acc2
      ⊢ iprop((∃ W, owes (c : Thread nD τ) 0 W) ∗ semVal ((c : Thread nD τ), SemLoc.dma cc0_scratch1.sem) 0
        ∗ bigSep Finset.univ (D c hok0 hok1 f6 fs)) from by
    unfold drainAt; rw [if_neg (by rw [trips2_eq]; omega)]) $$ HL2
  icases HL2' with ⟨HO, Hc, HD⟩
  ihave HD' := (Entails.of_eq (done_eq c hok0 hok1 f6 fs X hX hw0 hw1)) $$ HD
  icases HD' with ⟨⟨Hd0, Hs0⟩, Hd1, Hs1⟩
  ihave H6 := (Entails.of_eq (rows_eq c (gath X hX fs : Bf (F := F) c scr)).symm) $$ [Hd0 Hd1]
  · isplitl [Hd0] <;> iassumption
  ihave Ha := (Entails.of_eq (table_eq c hok0 hok1 fs).symm) $$ [Hrest Hs0 Ho0 Hs1 Ho1]
  · isplitl [Hrest]; · iexact Hrest
    isplitl [Hs0 Ho0]
    · isplitl [Hs0] <;> iassumption
    · isplitl [Hs1] <;> iassumption
  sl_exec
  sl_step
  iapply Hk
  isplitl [H0]; · iexact H0
  isplitl [Ha]; · iexact Ha
  isplitl [H3]; · iexact H3
  isplitl [H4]; · iexact H4
  isplitl [H5]
  · unfold owns
    rw [h5.set_eq_univ]
    iexists _; isplitr
    swap; · iexact H5
    ipureintro
    refine (View.read_writes_full _ _ _ _ _).trans ?_
    rw [← View.readAt_full M3.view f3 inb_S256x2048_S256x2048_0_0, ← View.readAt_full M4.view f4 inb_S1x1x2048_S1x1x2048_0_0_0]
    rfl
  isplitl [H6]; · iexists _; iexact H6
  isplitl [Hc]; · iexact Hc
  iexact HO

end Loops

end Cert.Kernel15.Combine

end
-- ==== Proof.CombineRun.lean ====
/- The combination of the experts' rows: the body's obligation at every point, the run, what the result array holds, and that the
   reference computes the same. -/
module

public import proofs.«01_k».proof.Defs
public import proofs.«01_k».proof.Proof.Combine
public import proofs.«01_k».proof.Proof.Gen.Reference15.Run
public import proofs.«01_k».proof.Proof.Gen.Pre_places_exist
public import Idealize.ShloMosaic.Lib.Pointwise
public import Idealize.ShloMosaic.Lib.Pipeline.ReadBack
public import Idealize.ShloMosaic.Lib.Pipeline.ValueKit
public import Idealize.ShloMosaic.Lib.VecWindow
public import Idealize.ShloMosaic.Lib.Routing.Ops
public import Idealize.ShloMosaic.Lib.Claim
public import Idealize.ShloMosaic.Lib.Quiescent
public import Idealize.ShloMosaic.Lib.Tactic.CleanTypes

@[expose] public section

set_option maxRecDepth 16384

noncomputable section

namespace Cert.Kernel15.Combine

open Cert.Kernel15 Cert.Kernel15.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

/-- One number of the result: from the residual, the gate and the two experts' numbers. -/
def entry (x g a b : F .f32) : F .f32 := FloatOps.addf x (FloatOps.mulf g (FloatOps.addf a b))

/-- What the body stores, number by number. -/
theorem stored_apply (x : Vec F S256x2048 .f32) (g : Vec F S1x1x2048 .f32) (G : S2x256x2048.Idx → Elt F .f32) (r : Fin 256) (d : Fin 2048) :
    stored x g G (ix2 r d) = entry (x (ix2 r d)) (g (ix3 0 0 d)) (G (ix3 (0 : Fin 2) r d)) (G (ix3 (1 : Fin 2) r d)) := by
  have e0 : (ix3 (0 : Fin 2) r d : S2x256x2048.Idx)
      = (Rect.unit (s := S2x256x2048) ![0, 0, 0] S1x256x2048.size inb_S2x256x2048_S1x256x2048_0_0_0).emb (ix3 (0 : Fin 1) r d) := by
    funext a; refine Fin.ext ?_; fin_cases a
    · rfl
    · show r.val = 0 + 1 * r.val; omega
    · show d.val = 0 + 1 * d.val; omega
  have e1 : (ix3 (1 : Fin 2) r d : S2x256x2048.Idx)
      = (Rect.unit (s := S2x256x2048) ![1, 0, 0] S1x256x2048.size inb_S2x256x2048_S1x256x2048_1_0_0).emb (ix3 (0 : Fin 1) r d) := by
    funext a; refine Fin.ext ?_; fin_cases a
    · rfl
    · show r.val = 0 + 1 * r.val; omega
    · show d.val = 0 + 1 * d.val; omega
  rw [e0, e1]
  unfold entry stored
  generalize hA : View.ld G (Rect.unit (s := S2x256x2048) ![0, 0, 0] S1x256x2048.size inb_S2x256x2048_S1x256x2048_0_0_0) = A
  generalize hB : View.ld G (Rect.unit (s := S2x256x2048) ![1, 0, 0] S1x256x2048.size inb_S2x256x2048_S1x256x2048_1_0_0) = B
  have hA' : G ((Rect.unit (s := S2x256x2048) ![0, 0, 0] S1x256x2048.size inb_S2x256x2048_S1x256x2048_0_0_0).emb (ix3 (0 : Fin 1) r d)) = A (ix3 (0 : Fin 1) r d) := by
    rw [← hA]; rfl
  have hB' : G ((Rect.unit (s := S2x256x2048) ![1, 0, 0] S1x256x2048.size inb_S2x256x2048_S1x256x2048_1_0_0).emb (ix3 (0 : Fin 1) r d)) = B (ix3 (0 : Fin 1) r d) := by
    rw [← hB]; rfl
  rw [hA', hB']
  pointwise []

/-! ## The call, point by point -/

variable (m : (ℓ : Loc nD τ sig) → Buf (Elt F) ℓ) (ρ : Dev nD → PrngReg)

/-- The table, the row numbers, the residual and the modulation, as arrays. -/
abbrev tblA (c : Dev nD) : S53248x2048.Idx → Elt F .f32 := m ((c : Thread nD τ).loc main_arg0)
abbrev numA (c : Dev nD) : S2x24576.Idx → BitVec 32 := m ((c : Thread nD τ).loc main_arg1)
abbrev resA (c : Dev nD) : S24576x2048.Idx → Elt F .f32 := m ((c : Thread nD τ).loc main_arg2)
abbrev modA (c : Dev nD) : S96x1x2048.Idx → Elt F .f32 := m ((c : Thread nD τ).loc main_arg3)

/-- Every row number names a row of the table. -/
def Ok : Prop := ∀ c y, (numA m c y).toNat < 53248

/-- The row numbers of point `t`. -/
abbrev numB (c : Dev nD) (t : Fin cfg0.N) : S2x256.Idx → BitVec 32 := iblk m c 0 t

theorem numB_lt (hO : Ok m) (c : Dev nD) (t : Fin cfg0.N) (y : S2x256.Idx) : (numB m c t y).toNat < 53248 :=
  hO c (((cfg0.win 0).blk t).view.emb y)

/-- The one counter of the call. -/
abbrev osem : Unit → SemLoc sig := fun _ => .dma cc0_scratch1.sem
/-- The table is read by the copies, and passed from point to point. -/
abbrev R2 : Finset (Ref sig .tc) := {main_arg0}

/-- What the call keeps: the blocks of its inputs in their buffers, the combination in the output's, and between two points the table,
    the scratch array and the counter at zero. -/
def dats (hO : Ok m) (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored (iblk m c 1 t) (iblk m c 2 t) (gath (numB m c t) (numB_lt m hO c t) (tblA m c))
  Φ _ := Ends spec0 osem R2 c (V m c)
  q _ := fullShare
  owed _ := 0

theorem after0_0 (hO : Ok m) (c : Dev nD) (t : Fin cfg0.N) : (dats m hO 0 c).after 0 t = iblk m c 0 t := by dsimp only [dats]
theorem after0_1 (hO : Ok m) (c : Dev nD) (t : Fin cfg0.N) : (dats m hO 0 c).after 1 t = iblk m c 1 t := by dsimp only [dats]
theorem after0_2 (hO : Ok m) (c : Dev nD) (t : Fin cfg0.N) : (dats m hO 0 c).after 2 t = iblk m c 2 t := by dsimp only [dats]
theorem after0_3 (hO : Ok m) (c : Dev nD) (t : Fin cfg0.N) :
    (dats m hO 0 c).after 3 t = stored (iblk m c 1 t) (iblk m c 2 t) (gath (numB m c t) (numB_lt m hO c t) (tblA m c)) := by
  dsimp only [dats]

theorem ownSems_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

/-- What is passed from point to point, written out. -/
theorem ends_eq (c : Dev nD) (W : (b : Ref sig .tc) → Buf (Elt F) ((c : Thread nD τ).loc b)) :
    (Ends spec0 osem R2 c W : sProp 𝕄)
      = iprop(pt c tab (W main_arg0) ∗ semVal ((c : Thread nD τ), osem ()) 0 ∗ (∃ f, pt c scr f) ∗ ∃ r, prngReg c r) := by
  unfold Ends; rw [Pipeline.routed_singleton, ownSems_eq, scopedRest0_eq]

/-- Each input's buffer holds the point's block before the body runs. -/
theorem before0_0 (hO : Ok m) (c : Dev nD) (t : Fin cfg0.N) (d) : (dats m hO 0 c).before 0 t d = iblk m c 0 t :=
  ((dats m hO 0 c).before_in_eq_fetched 0 rfl (fun _ => rfl) (fun _ _ _ => rfl)
    (fun t => by rw [after0_0]; unfold Dat.blockOf iblk; rfl) t d).trans (by unfold Dat.fetched Dat.blockOf iblk; rfl)
theorem before0_1 (hO : Ok m) (c : Dev nD) (t : Fin cfg0.N) (d) : (dats m hO 0 c).before 1 t d = iblk m c 1 t :=
  ((dats m hO 0 c).before_in_eq_fetched 1 rfl (fun _ => rfl) (fun _ _ _ => rfl)
    (fun t => by rw [after0_1]; unfold Dat.blockOf iblk; rfl) t d).trans (by unfold Dat.fetched Dat.blockOf iblk; rfl)
theorem before0_2 (hO : Ok m) (c : Dev nD) (t : Fin cfg0.N) (d) : (dats m hO 0 c).before 2 t d = iblk m c 2 t :=
  ((dats m hO 0 c).before_in_eq_fetched 2 rfl (fun _ => rfl) (fun _ _ _ => rfl)
    (fun t => by rw [after0_2]; unfold Dat.blockOf iblk; rfl) t d).trans (by unfold Dat.fetched Dat.blockOf iblk; rfl)

/-- The two row numbers that trip `t` reads are the block's at `t`. -/
theorem wd0_eq (M0 : Memref sig .tc .smem S2x256 .i32) {c : Dev nD} (f0 : Bf (F := F) c M0) (t : Fin T) :
    wd0 M0 f0 t = M0.view.read (Elt F) f0 (ix2 (0 : Fin 2) (rowOf t)) := by
  refine congrArg (M0.view.read (Elt F) f0) (funext fun a => Fin.ext ?_)
  fin_cases a
  · show k0_off1 t 0 + 1 * 0 = 0
    rw [k0_off1_eq]; rfl
  · show k0_off1 t 1 + 1 * 0 = t.val
    rw [k0_off1_eq]; rfl
theorem wd1_eq (M0 : Memref sig .tc .smem S2x256 .i32) {c : Dev nD} (f0 : Bf (F := F) c M0) (t : Fin T) :
    wd1 M0 f0 t = M0.view.read (Elt F) f0 (ix2 (1 : Fin 2) (rowOf t)) := by
  refine congrArg (M0.view.read (Elt F) f0) (funext fun a => Fin.ext ?_)
  fin_cases a
  · show k0_off4 t 0 + 1 * 0 = 1
    rw [k0_off4_eq]; rfl
  · show k0_off4 t 1 + 1 * 0 = t.val
    rw [k0_off4_eq]; rfl

/-- The body on any whole buffers: from row numbers `X`, the residual `x` and the gate `g`, it leaves the combination. -/
theorem sound_body [∀ e, Nonempty (Elt F e)] (c : Dev nD) (i : grid0.Coords) (M0 : Memref sig .tc .smem S2x256 .i32) (h0 : M0.IsWhole) (ht : tab.IsWhole)
    (M3 : Memref sig .tc .vmem S256x2048 .f32) (h3 : M3.IsWhole) (M4 : Memref sig .tc .vmem S1x1x2048 .f32) (h4 : M4.IsWhole)
    (M5 : Memref sig .tc .vmem S256x2048 .f32) (h5 : M5.IsWhole) (h6 : scr.IsWhole)
    (X : S2x256.Idx → BitVec 32) (hX : ∀ y, (X y).toNat < 53248) (x : Vec F S256x2048 .f32) (g : Vec F S1x1x2048 .f32)
    (fs : Bf (F := F) c tab) (W : Waits sig Unit) (Q : PUnit → sProp 𝕄) :
    iprop(owns (c : Thread nD τ) M0 fullShare (X : S2x256.Idx → Elt F .i32) ∗ owns (c : Thread nD τ) M3 fullShare x ∗ owns (c : Thread nD τ) M4 fullShare g
      ∗ (∃ d, owns (c : Thread nD τ) M5 fullShare d) ∗ pt c tab fs ∗ (∃ f, pt c scr f)
      ∗ semVal ((c : Thread nD τ), SemLoc.dma cc0_scratch1.sem) 0 ∗ owes (c : Thread nD τ) 0 W
      ∗ (iprop(owns (c : Thread nD τ) M0 fullShare (X : S2x256.Idx → Elt F .i32) ∗ owns (c : Thread nD τ) M3 fullShare x ∗ owns (c : Thread nD τ) M4 fullShare g
            ∗ owns (c : Thread nD τ) M5 fullShare (stored x g (gath X hX fs)) ∗ pt c tab fs ∗ (∃ f, pt c scr f)
            ∗ semVal ((c : Thread nD τ), SemLoc.dma cc0_scratch1.sem) 0 ∗ (∃ W, owes (c : Thread nD τ) 0 W)) -∗ Q ⟨⟩))
      ⊢ wp frame (wpE (defs₀ (F := F)) Variants.none c none) Set.univ
        (cc0_moe_combine i M0 h0 tab ht M3 h3 M4 h4 M5 h5 scr h6 cc0_scratch1) Q := by
  unfold owns
  rw [h0.set_eq_univ, h3.set_eq_univ, h4.set_eq_univ, h5.set_eq_univ]
  iintro ⟨⟨%f0, %hf0, H0⟩, ⟨%f3, %hf3, H3⟩, ⟨%f4, %hf4, H4⟩, ⟨%d5, %f5, -, H5⟩, Ha, ⟨%f6, H6⟩, Hs, HO, Hk⟩
  have hw0 : ∀ t, wd0 M0 f0 t = X (ix2 (0 : Fin 2) (rowOf t)) := fun t => (wd0_eq M0 f0 t).trans (congrFun hf0 _)
  have hw1 : ∀ t, wd1 M0 f0 t = X (ix2 (1 : Fin 2) (rowOf t)) := fun t => (wd1_eq M0 f0 t).trans (congrFun hf0 _)
  have hok0 : ∀ t, (wd0 M0 f0 t).toNat < 53248 := fun t => by rw [hw0]; exact hX _
  have hok1 : ∀ t, (wd1 M0 f0 t).toNat < 53248 := fun t => by rw [hw1]; exact hX _
  iapply (kernelRun c M0 f0 hok0 hok1 f6 fs i h0 ht M3 h3 M4 h4 M5 h5 h6 X hX hw0 hw1 f3 f4 f5 W Q)
  isplitl [H0]; · iexact H0
  isplitl [Ha]; · iexact Ha
  isplitl [H3]; · iexact H3
  isplitl [H4]; · iexact H4
  isplitl [H5]; · iexact H5
  isplitl [H6]; · iexact H6
  isplitl [Hs]; · iexact Hs
  isplitl [HO]; · iexact HO
  unfold owns
  rw [hf3, hf4, h5.set_eq_univ]
  iintro ⟨H0, Ha, H3, H4, H5, H6, Hs, HO⟩
  iapply Hk
  isplitl [H0]
  · iexists f0; isplitr; · ipureintro; exact hf0
    iexact H0
  isplitl [H3]
  · iexists f3; isplitr; · ipureintro; exact hf3
    iexact H3
  isplitl [H4]
  · iexists f4; isplitr; · ipureintro; exact hf4
    iexact H4
  isplitl [H5]; · iexact H5
  isplitl [Ha]; · iexact Ha
  isplitl [H6]; · iexact H6
  isplitl [Hs]; · iexact Hs
  iexact HO

/-- The body's row of the table of bodies, at point `t`. -/
theorem defs₀_row (t : Fin cfg0.N) : defs₀ (F := F) .tc cfg0.body (cfg0.bodyArgs t (cfg0.slots t)) = bodyAt0 t := by
  unfold defs₀; rw [Defs.onTc_tc]

/-- The body does at every point what the call keeps asks of it. -/
theorem body_obligation [∀ e, Nonempty (Elt F e)] (hO : Ok m) (c : Dev nD) :
    BodyObligation (dats m hO 0 c) (defs₀ (F := F)) Variants.none () Set.univ := fun t => by
  rw [bigSep_W0, bigSep_W0, defs₀_row]
  rw [show (dats m hO 0 c).Φ t.castSucc = Ends spec0 osem R2 c (V m c) from rfl,
    show (dats m hO 0 c).Φ t.succ = Ends spec0 osem R2 c (V m c) from rfl, ends_eq]
  unfold Dat.owesAt Pipeline.owesWithin
  rw [show (dats m hO 0 c).owed t.castSucc = 0 from rfl, show (dats m hO 0 c).owed t.succ = 0 from rfl]
  simp only [before0_0, before0_1, before0_2]
  rw [after0_0, after0_1, after0_2, after0_3]
  iintro ⟨⟨Ha, Hs, H6, Hp⟩, ⟨%W, %hW, HO⟩, ⟨%d0, H0⟩, ⟨%d1, H1⟩, ⟨%d2, H2⟩, ⟨%d3, H3⟩⟩
  unfold bodyAt0
  iapply (sound_body c (grid0.coords t) _ _ _ _ _ _ _ _ _ _ (numB m c t) (numB_lt m hO c t) (iblk m c 1 t) (iblk m c 2 t) (V m c main_arg0) W _)
  isplitl [H0]; · iexact H0
  isplitl [H1]; · iexact H1
  isplitl [H2]; · iexact H2
  isplitl [H3]; · iexists _; iexact H3
  isplitl [Ha]; · iexact Ha
  isplitl [H6]; · iexact H6
  isplitl [Hs]; · iexact Hs
  isplitl [HO]; · iexact HO
  iintro ⟨H0, H1, H2, H3, Ha, H6, Hs, ⟨%W', HO⟩⟩
  isplitl [Ha Hs H6 Hp]
  · isplitl [Ha]; · iexact Ha
    isplitl [Hs]; · iexact Hs
    isplitl [H6]; · iexact H6
    iexact Hp
  isplitl [HO]
  · iexists W'; isplitr; · ipureintro; exact fun _ _ => Or.inl trivial
    iexact HO
  isplitl [H0]; · iexact H0
  isplitl [H1]; · iexact H1
  isplitl [H2]; · iexact H2
  iexact H3

/-! ## The run -/

theorem ownSemFacts : Pipeline.OwnSemFacts spec0 osem := by decide

/-- Whenever every row number names a row of the table, the call terminates, with every counter back at zero, the staged arrays at what
    the call keeps and the table as it was. -/
theorem run_main_quiescent [∀ e, Nonempty (Elt F e)] (hO : Ok m) :
    θ_run defs (onTc (τ := τ) (main (F := F))) (s₀ m ρ) (fun r => RoutedPost cfgs (dats m hO) 0 R2 (V m) (V m) r ∧ r.2.sem = fun _ => 0) :=
  Pipeline.θ_run_frame_routed cfgs (dats m hO) 0 launch0 ownSemFacts defs₀ Variants.none m ρ main
    (hbody := fun c => (body_obligation m hO c).loose) (hshare := fun c => (dats m hO 0 c).share_full fun _ => rfl)
    (howed := fun _ _ => rfl) (V := V m)
    (hmain := Pipeline.hmain_region cfgs 0 defs₀ Variants.none m main fun c => (main_chain c).trans rfl)
    (hA := fun _ _ => rfl) (R := R2) (hR := by decide) (Y := V m) (hin := fun _ => .rfl) (hout := fun _ => .rfl) (Q' := _)

/-- The row of the modulation that holds the gate of tile `i`: slot 5 of the tile's sequence, the prompt (32 tiles) or a sample (8 tiles). -/
def gateRow (i : ℕ) : ℕ := (if i < 32 then 0 else 1 + (i - 32) / 8) * 6 + 5

/-- A tile's row is one of the 96. -/
theorem gateRow_lt {i : ℕ} (h : i < 96) : gateRow i < 96 := by unfold gateRow; split <;> omega

/-- What the call computes at token `a` and feature `d`. -/
def result (hO : Ok m) (c : Dev nD) (a : Fin 24576) (d : Fin 2048) : F .f32 :=
  entry (resA m c (ix2 a d)) (modA m c (ix3 ⟨gateRow (a.val / 256), gateRow_lt (by omega)⟩ 0 d))
    (tblA m c (ix2 ⟨(numA m c (ix2 (0 : Fin 2) a)).toNat, hO c _⟩ d)) (tblA m c (ix2 ⟨(numA m c (ix2 (1 : Fin 2) a)).toNat, hO c _⟩ d))

/-- Which block each window holds at the point `t`, which works on the tile of tokens `t`. -/
theorem index_eq : ∀ t : Fin grid0.N,
    win0_0.index t = ![0, t.val] ∧ win0_1.index t = ![t.val, 0] ∧ win0_2.index t = ![gateRow t.val, 0, 0] ∧ win0_3.index t = ![t.val, 0] := by
  decide +kernel

/-- The grid has 96 points, one for each tile of tokens. -/
theorem point_lt (t : Fin cfg0.N) : t.val < 96 := lt_of_lt_of_eq t.isLt N_0

/-- The token at row `r` of the tile that point `t` works on. -/
def tok (t : Fin cfg0.N) (r : Fin 256) : Fin 24576 := ⟨t.val * 256 + r.val, by have := point_lt t; have := r.isLt; omega⟩

/-- What a point stores for its tile. -/
theorem out_apply (hO : Ok m) (c : Dev nD) (t : Fin cfg0.N) (r : Fin 256) (d : Fin 2048) :
    stored (iblk m c 1 t) (iblk m c 2 t) (gath (numB m c t) (numB_lt m hO c t) (tblA m c)) (ix2 r d) = result m hO c (tok t r) d := by
  obtain ⟨e0, e1, e2, -⟩ := index_eq t
  have ht : (tok t r).val / 256 = t.val := by have := r.isLt; simp only [tok]; omega
  have hn : ∀ k : Fin 2, numB m c t (ix2 k r) = numA m c (ix2 k (tok t r)) := fun k => by
    refine congrArg (numA m c) (funext fun a => Fin.ext ?_)
    fin_cases a
    · show win0_0.index t 0 * 2 + 1 * k.val = k.val
      rw [e0]; show 0 * 2 + 1 * k.val = k.val; omega
    · show win0_0.index t 1 * 256 + 1 * r.val = t.val * 256 + r.val
      rw [e0]; show t.val * 256 + 1 * r.val = t.val * 256 + r.val; omega
  have h1 : iblk m c 1 t (ix2 r d) = resA m c (ix2 (tok t r) d) := by
    refine congrArg (resA m c) (funext fun a => Fin.ext ?_)
    fin_cases a
    · show win0_1.index t 0 * 256 + 1 * r.val = t.val * 256 + r.val
      rw [e1]; show t.val * 256 + 1 * r.val = t.val * 256 + r.val; omega
    · show win0_1.index t 1 * 2048 + 1 * d.val = d.val
      rw [e1]; show 0 * 2048 + 1 * d.val = d.val; omega
  have h2 : iblk m c 2 t (ix3 0 0 d) = modA m c (ix3 ⟨gateRow ((tok t r).val / 256), gateRow_lt (by have := (tok t r).isLt; omega)⟩ 0 d) := by
    refine congrArg (modA m c) (funext fun a => Fin.ext ?_)
    fin_cases a
    · show win0_2.index t 0 * 1 + 1 * 0 = gateRow ((tok t r).val / 256)
      rw [e2, ht]; show gateRow t.val * 1 + 1 * 0 = gateRow t.val; omega
    · show win0_2.index t 1 * 1 + 1 * 0 = 0
      rw [e2]; rfl
    · show win0_2.index t 2 * 2048 + 1 * d.val = d.val
      rw [e2]; show 0 * 2048 + 1 * d.val = d.val; omega
  have hg : ∀ k : Fin 2, gath (numB m c t) (numB_lt m hO c t) (tblA m c) (ix3 k r d)
      = tblA m c (ix2 ⟨(numA m c (ix2 k (tok t r))).toNat, hO c _⟩ d) := fun k => by
    unfold gath
    refine congrArg (tblA m c) (funext fun a => Fin.ext ?_)
    fin_cases a
    · show (numB m c t (ix2 k r)).toNat = (numA m c (ix2 k (tok t r))).toNat
      rw [hn]
    · rfl
  rw [stored_apply, hg, hg, h1, h2, result]

/-- Where the place `(r, d)` of the block that point `t` writes back lies in the result array. -/
theorem place (t : Fin cfg0.N) (r : Fin 256) (d : Fin 2048) :
    (((cfg0.win 3).blk t).view.emb (ix2 r d) 0 : Fin 24576) = tok t r ∧ (((cfg0.win 3).blk t).view.emb (ix2 r d) 1 : Fin 2048) = d := by
  obtain ⟨-, -, -, e3⟩ := index_eq t
  constructor
  · apply Fin.ext
    show win0_3.index t 0 * 256 + 1 * r.val = t.val * 256 + r.val
    rw [e3]; show t.val * 256 + 1 * r.val = t.val * 256 + r.val; omega
  · apply Fin.ext
    show win0_3.index t 1 * 2048 + 1 * d.val = d.val
    rw [e3]; show 0 * 2048 + 1 * d.val = d.val; omega

/-- The result array after the run. -/
theorem final (hO : Ok m) (c : Dev nD) : (dats m hO 0 c).arrAt 3 cfg0.N = fun j => result m hO c (j 0) (j 1) := by
  refine (dats m hO 0 c).arrAt_eq_of_covers 3 _ (by decide +kernel) fun t hf y => ?_
  obtain ⟨r, d, rfl⟩ : ∃ (r : Fin 256) (d : Fin 2048), y = ix2 r d := ⟨y 0, y 1, by funext a; fin_cases a <;> rfl⟩
  rw [after0_3]
  refine (out_apply m hO c t r d).trans ?_
  obtain ⟨p0, p1⟩ := place t r d
  show result m hO c (tok t r) d = result m hO c (((cfg0.win 3).blk t).view.emb (ix2 r d) 0) (((cfg0.win 3).blk t).view.emb (ix2 r d) 1)
  rw [p0, p1]

/-- The run: the result array, the arguments as they were, and every counter at zero. -/
theorem run [∀ e, Nonempty (Elt F e)] (hO : Ok m) :
    θ_run defs (onTc (τ := τ) (main (F := F))) ⟨m, fun _ => 0, ρ⟩ (fun r => (∀ c : Dev nD,
      r.2.mem ((c.tc : Thread nD τ).loc main_v0) = (fun j => result m hO c (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (run_main_quiescent m ρ hO).mono fun r ⟨h, hz⟩ => ⟨fun c =>
    ⟨((h c).1 3).trans (final m hO c), (h c).2.1 main_arg0 (by decide), ((h c).1 0).trans ((dats m hO 0 c).arrAt_in 0 rfl _),
      ((h c).1 1).trans ((dats m hO 0 c).arrAt_in 1 rfl _), ((h c).1 2).trans ((dats m hO 0 c).arrAt_in 2 rfl _)⟩, hz⟩

/-- The arguments end as they were. -/
theorem frame [∀ e, Nonempty (Elt F e)] (hO : Ok m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (run m ρ hO).mono fun r ⟨h, hz⟩ => ⟨fun c => (h c).2, hz⟩

/-! ## The precondition and the reference -/

/-- A word that is nonnegative and below 53248 as a signed number is below 53248 as an unsigned one. -/
theorem word_lt (v : BitVec 32) (h0 : (0#32).sle v = true) (h1 : v.slt 53248#32 = true) : v.toNat < 53248 := by
  have a : (0 : Int) ≤ v.toInt := by simpa [BitVec.sle] using h0
  have b : v.toInt < 53248 := by simpa [BitVec.slt] using h1
  rw [BitVec.toInt_eq_toNat_cond] at a b
  split at a <;> omega

/-- What the precondition says of the row numbers: each names a row of the table. -/
theorem row_lt {a0 a2 a3} (te : IVec S2x24576 32) (h : Cert.Pre_places_exist.fn (F := F) a0 te a2 a3 = fun _ => 1#1) (x : S2x24576.Idx) : (te x).toNat < 53248 := by
  have hx := congrFun h x
  have key : ∀ p q : Bool, IntOp.andi (BitVec.ofBool p) (BitVec.ofBool q) = 1#1 → p = true ∧ q = true := by decide
  obtain ⟨h0, h1⟩ := key _ _ hx
  exact word_lt (te x) h0 h1

end Cert.Kernel15.Combine

namespace Cert.Kernel15.Combine

open Idealize.ShloMosaic Idealize.ShloMosaic.TcCoe Idealize.ShloMosaic.Tactic Idealize.SL.Sem Idealize.ShloMosaic.Host

section Reference
open Cert.Reference15 Cert.Reference15.Gen

variable {F : FTy → Type} [FloatOps F]

/-- A row number that names a row of the table is not negative. -/
theorem not_neg (v : BitVec 32) (h : v.toNat < 53248) : v.slt 0#32 = false := by
  have e : v.toInt = v.toNat := by rw [BitVec.toInt_eq_toNat_cond]; split <;> omega
  simp [BitVec.slt, e]

/-- A list of row numbers made into a column: its entry `a`. -/
theorem col_apply (f : IVec S24576 32) (a : Fin 24576) : broadcastInDim S24576x1 ![0] bcast_S24576_S24576x1_0 f (ix2 a (0 : Fin 1)) = f (ix1 a) := by
  refine congrArg f (funext fun d => Fin.ext ?_)
  fin_cases d
  rfl

/-- The rows of the table that a list of row numbers names. -/
abbrev rows (x : FVec F S53248x2048 .f32) (v : IVec S24576 32) : FVec F S24576x2048 .f32 :=
  Host.gather gather_S53248x2048_S24576x1_S24576x2048_1_0_n_n_0_1_12048 x
      (broadcastInDim S24576x1 ![0] bcast_S24576_S24576x1_0
        (select (cmpi .slt v (broadcastInDim S24576 ![] bcast_S_S24576 (constantI S_ 32 0#32)))
          (addi v (broadcastInDim S24576 ![] bcast_S_S24576 (constantI S_ 32 53248#32))) v))

/-- Row `a` of them. -/
theorem rows_apply (x : FVec F S53248x2048 .f32) (v : IVec S24576 32) (h : ∀ y, (v y).toNat < 53248) (a : Fin 24576) (b : Fin 2048) :
    rows x v (ix2 a b) = x (ix2 ⟨(v (ix1 a)).toNat, h _⟩ b) := by
  refine Idealize.ShloMosaic.Routing.gather_row _ rfl rfl rfl rfl rfl x _ a b ⟨(v (ix1 a)).toNat, h _⟩ ?_ (by decide)
  refine (col_apply _ a).trans ?_
  show (if BitVec.ofBool ((v (ix1 a)).slt 0#32) = 1#1 then v (ix1 a) + 53248#32 else v (ix1 a)) = BitVec.ofNat 32 (v (ix1 a)).toNat
  rw [not_neg _ (h _)]
  simp

/-- The first and the second list of row numbers. -/
abbrev nums0 (v : IVec S2x24576 32) : IVec S24576 32 :=
  shapeCast S24576 (extractStridedSlice S1x24576 ![0, 0] v slices_S2x24576_S1x24576_0_0) shapeCasts_S1x24576_S24576
abbrev nums1 (v : IVec S2x24576 32) : IVec S24576 32 :=
  shapeCast S24576 (extractStridedSlice S1x24576 ![1, 0] v slices_S2x24576_S1x24576_1_0) shapeCasts_S1x24576_S24576

theorem nums0_apply (v : IVec S2x24576 32) (a : Fin 24576) : nums0 v (ix1 a) = v (ix2 (0 : Fin 2) a) := by
  pointwise [nums0]
theorem nums1_apply (v : IVec S2x24576 32) (a : Fin 24576) : nums1 v (ix1 a) = v (ix2 (1 : Fin 2) a) := by
  pointwise [nums1]

/-- The gates of the 16 sequences: slot 5 of the modulation. -/
abbrev gates (g : FVec F S96x1x2048 .f32) : FVec F S16x2048 .f32 :=
  shapeCast S16x2048 (extractStridedSlice S16x1x2048 ![0, 5, 0] (shapeCast S16x6x2048 g shapeCasts_S96x1x2048_S16x6x2048) slices_S16x6x2048_S16x1x2048_0_5_0) shapeCasts_S16x1x2048_S16x2048

/-- A sequence's gate is its row of the modulation. -/
theorem gates_apply (g : FVec F S96x1x2048 .f32) (s : Fin 16) (d : Fin 2048) :
    gates g (ix2 s d) = g (ix3 ⟨s.val * 6 + 5, by omega⟩ 0 d) := by
  pointwise [gates]

/-- The gate of every token, from the gates of the sequences. -/
abbrev spread (G : FVec F S16x2048 .f32) : FVec F S24576x2048 .f32 :=
  concatenate S24576x2048 0 [⟨S8192x2048, (shapeCast S8192x2048 (broadcastInDim S1x8192x2048 ![0, 1, 2] bcast_S1x1x2048_S1x8192x2048_0_1_2 (broadcastInDim S1x1x2048 ![0, 2] bcast_S1x2048_S1x1x2048_0_2 (extractStridedSlice S1x2048 ![0, 0] G slices_S16x2048_S1x2048_0_0))) shapeCasts_S1x8192x2048_S8192x2048)⟩, ⟨S16384x2048, (shapeCast S16384x2048 (broadcastInDim S8x2048x2048 ![0, 1, 2] bcast_S8x1x2048_S8x2048x2048_0_1_2 (broadcastInDim S8x1x2048 ![0, 2] bcast_S8x2048_S8x1x2048_0_2 (extractStridedSlice S8x2048 ![1, 0] G slices_S16x2048_S8x2048_1_0))) shapeCasts_S8x2048x2048_S16384x2048)⟩] concatenates_S8192x2048_S16384x2048_S24576x2048_d0

/-- A prompt token has the gate of row 0, a token of sample `s` that of row `1 + s`. -/
theorem spread_apply (G : FVec F S16x2048 .f32) (a : Fin 24576) (d : Fin 2048) :
    spread G (ix2 a d) = G (ix2 ⟨if a.val < 8192 then 0 else 1 + (a.val - 8192) / 2048, by split <;> omega⟩ d) := by
  pointwise [spread]
  split <;> rename_i h
  · congr 2
  · congr 2

/-- The sequence of a token is the sequence of its tile: a tile lies in one sequence. -/
theorem gateRow_eq (a : ℕ) : (if a < 8192 then 0 else 1 + (a - 8192) / 2048) * 6 + 5 = gateRow (a / 256) := by
  unfold gateRow
  split <;> split <;> omega

/-- The reference's result, from its arguments. -/
abbrev refTerm (t : FVec F S53248x2048 .f32) (v : IVec S2x24576 32) (x : FVec F S24576x2048 .f32) (g : FVec F S96x1x2048 .f32) : FVec F S24576x2048 .f32 :=
  addf x (mulf (spread (gates g)) (addf (rows t (nums0 v)) (rows t (nums1 v))))

/-- The reference's result, number by number. -/
theorem refTerm_apply (t : FVec F S53248x2048 .f32) (v : IVec S2x24576 32) (h : ∀ y, (v y).toNat < 53248) (x : FVec F S24576x2048 .f32)
    (g : FVec F S96x1x2048 .f32) (a : Fin 24576) (d : Fin 2048) :
    refTerm t v x g (ix2 a d) = entry (x (ix2 a d)) (g (ix3 ⟨gateRow (a.val / 256), gateRow_lt (by omega)⟩ 0 d))
      (t (ix2 ⟨(v (ix2 (0 : Fin 2) a)).toNat, h _⟩ d)) (t (ix2 ⟨(v (ix2 (1 : Fin 2) a)).toNat, h _⟩ d)) := by
  have n0 : ∀ y, (nums0 v y).toNat < 53248 := fun y => by
    obtain ⟨b, rfl⟩ : ∃ b : Fin 24576, y = ix1 b := ⟨y 0, by funext d; fin_cases d; rfl⟩
    rw [nums0_apply]; exact h _
  have n1 : ∀ y, (nums1 v y).toNat < 53248 := fun y => by
    obtain ⟨b, rfl⟩ : ∃ b : Fin 24576, y = ix1 b := ⟨y 0, by funext d; fin_cases d; rfl⟩
    rw [nums1_apply]; exact h _
  have r0 : rows t (nums0 v) (ix2 a d) = t (ix2 ⟨(v (ix2 (0 : Fin 2) a)).toNat, h _⟩ d) := by
    rw [rows_apply t _ n0]; simp only [nums0_apply]
  have r1 : rows t (nums1 v) (ix2 a d) = t (ix2 ⟨(v (ix2 (1 : Fin 2) a)).toNat, h _⟩ d) := by
    rw [rows_apply t _ n1]; simp only [nums1_apply]
  have rg : spread (gates g) (ix2 a d) = g (ix3 ⟨gateRow (a.val / 256), gateRow_lt (by omega)⟩ 0 d) := by
    rw [spread_apply, gates_apply]
    have e : (⟨(if a.val < 8192 then 0 else 1 + (a.val - 8192) / 2048) * 6 + 5, by split <;> omega⟩ : Fin 96)
        = ⟨gateRow (a.val / 256), gateRow_lt (by omega)⟩ := Fin.ext (gateRow_eq a.val)
    rw [e]
  unfold entry
  rw [← r0, ← r1, ← rg]
  rfl

end Reference

/-- The kernel's combination and the reference's end with the same array, bit for bit. -/
theorem bitexact : Cert.bitexact_Kernel15_Reference15 (hKernel15 := Cert.Kernel15.Gen.facts) (hReference15 := Cert.Reference15.Gen.facts)
    (hPre_places_exist := Cert.Pre_places_exist.Gen.facts) := by
  intro m g m' g' hpre hargs
  have hO : Ok m := fun c => row_lt _ (hpre c)
  refine ⟨fun c => (fun j => result m hO c (j 0) (j 1)), ?_, ?_⟩
  · exact (θ_run (Cert.Kernel15.defs (F := Bits)) _ _).mono (fun r h => h.1) (run m g hO)
  · refine (θ_run (Cert.Reference15.defs (F := Bits)) _ _).mono (fun r h c => ?_) (Cert.Reference15.Value.run (F := Bits) m' g')
    obtain ⟨hv, hrest⟩ := h c
    refine ⟨hv.trans ?_, hrest⟩
    obtain ⟨a0, a1, a2, a3⟩ := hargs c
    rw [a0, a1, a2, a3]
    funext j
    obtain ⟨a, b, rfl⟩ : ∃ (a : Fin 24576) (b : Fin 2048), j = ix2 a b := ⟨j 0, j 1, by funext d; fin_cases d <;> rfl⟩
    exact refTerm_apply _ _ (hO c) _ _ a b

end Cert.Kernel15.Combine

end
-- ==== Proof.Ada.lean ====
/- The modulation of every layer from the conditioning of the sequences: what its result array holds after the run over the extended
   reals, and that its reference computes the same. -/
module

public import proofs.«01_k».proof.Defs
public import proofs.«01_k».proof.Proof.Gen.Kernel12Ideal.Value
public import proofs.«01_k».proof.Proof.Gen.Reference12Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Tactic.CleanTypes

@[expose] public section

set_option maxRecDepth 16384

noncomputable section

namespace Cert.Ada

open Idealize.ShloMosaic Idealize.ShloMosaic.TcCoe Idealize.SL.Sem

/-- A column of a sequence's modulation: the product of the conditioning's silu with the weight's column `u`, plus the bias `b`. -/
def entry (x u : Fin 2048 → EReal) (b : EReal) : EReal := ∑ q, x q * Ideal.logistic (x q) * u q + b

section Kernel
open Cert.Kernel12Ideal Cert.Kernel12Ideal.Gen

/-- A block's result at a sequence `s` and a column `k`. -/
theorem pay1_apply (v0 : Vec Ideal S16x2048 .f32) (v4 : Vec Ideal S1x2048x1024 .f32) (v8 : Vec Ideal S1x1x1024 .f32) (s : Fin 16)
    (k : Fin 1024) : k0_pay1 v0 v4 v8 (ix3 0 s k) = entry (fun q => v0 (ix2 s q)) (fun q => v4 (ix3 0 q k)) (v8 (ix3 0 0 k)) := by
  unfold entry
  pointwise [k0_pay1]

/-- Which block each window holds at the point `t`, that is at layer `t / 12` and block of columns `t % 12`. -/
theorem index_eq : ∀ t : Fin grid0.N,
    win0_0.index t = ![0, 0] ∧ win0_1.index t = ![t.val / 12, 0, t.val % 12] ∧ win0_2.index t = ![t.val / 12, 0, t.val % 12]
    ∧ win0_3.index t = ![t.val / 12, 0, t.val % 12] := by
  decide +kernel

variable (m : (ℓ : Loc nD τ sig) → Buf (Elt Ideal) ℓ) (c : Dev nD)

/-- The conditioning, as an array of numbers. -/
abbrev xA : S16x2048.Idx → EReal := m ((c.tc : Thread nD τ).loc main_arg0)
/-- The weights of the layers. -/
abbrev wA : S4x2048x12288.Idx → EReal := m ((c.tc : Thread nD τ).loc main_arg1)
/-- The biases of the layers. -/
abbrev bA : S4x12288.Idx → EReal := m ((c.tc : Thread nD τ).loc main_arg2)

/-- What the call computes for layer `l`, sequence `s` and column `k`. -/
def result (l : Fin 4) (s : Fin 16) (k : Fin 12288) : EReal :=
  entry (fun q => xA m c (ix2 s q)) (fun q => wA m c (ix3 l q k)) (bA m c (ix2 l k))

/-- The grid has 48 points: 4 layers by 12 blocks of columns. -/
theorem point_lt (t : Fin cfg0.N) : t.val < 48 := lt_of_lt_of_eq t.isLt N_0

/-- The layer that point `t` works on. -/
def lay (t : Fin cfg0.N) : Fin 4 := ⟨t.val / 12, by have := point_lt t; omega⟩

/-- The column at place `k` of the block that point `t` works on. -/
def col (t : Fin cfg0.N) (k : Fin 1024) : Fin 12288 := ⟨t.val % 12 * 1024 + k.val, by have := k.isLt; omega⟩

/-- The conditioning reaches the points as launched, -/
theorem x_eq : V m c (Pipeline.arrRef spec0 0) = xA m c := V_main_arg0 m c
/-- and so do the weights. -/
theorem w_eq : V m c (Pipeline.arrRef spec0 1) = wA m c := V_main_arg1 m c
/-- The biases as the host lays them out, a row for each layer. -/
theorem b_eq (l : Fin 4) (k : Fin 12288) : (V m c (Pipeline.arrRef spec0 2) : S4x1x12288.Idx → EReal) (ix3 l 0 k) = bA m c (ix2 l k) := by
  simp only [V, hostOps0]
  entry_read
  pointwise

/-- What a point stores for its layer and its block of columns. -/
theorem out_apply (t : Fin cfg0.N) (s : Fin 16) (k : Fin 1024) :
    out0_3 (F := Ideal) (iblk m c 0 t) (iblk m c 1 t) (iblk m c 2 t) (ix3 0 s k) = result m c (lay t) s (col t k) := by
  obtain ⟨e0, e1, e2, -⟩ := index_eq t
  have h0 : ∀ q : Fin 2048, iblk m c 0 t (ix2 s q) = xA m c (ix2 s q) := fun q => by rw [← x_eq]; blk_ext [iblk, e0]
  have h1 : ∀ q : Fin 2048, iblk m c 1 t (ix3 0 q k) = wA m c (ix3 (lay t) q (col t k)) := fun q => by rw [← w_eq]; blk_ext [iblk, e1, lay, col]
  have h2 : iblk m c 2 t (ix3 0 0 k) = bA m c (ix2 (lay t) (col t k)) := by rw [← b_eq]; blk_ext [iblk, e2, lay, col]
  frame_out
  rw [pay1_apply, result]
  simp only [h0, h1, h2]

/-- Where the place `(0, s, k)` of the block that point `t` writes back lies in the result array. -/
theorem place (t : Fin cfg0.N) (s : Fin 16) (k : Fin 1024) :
    (((cfg0.win 3).blk t).view.emb (ix3 0 s k) 0 : Fin 4) = lay t ∧ (((cfg0.win 3).blk t).view.emb (ix3 0 s k) 1 : Fin 16) = s
    ∧ (((cfg0.win 3).blk t).view.emb (ix3 0 s k) 2 : Fin 12288) = col t k := by
  obtain ⟨-, -, -, e3⟩ := index_eq t
  refine ⟨?_, ?_, ?_⟩
  · apply Fin.ext; blk_simp [e3, lay]; rfl
  · apply Fin.ext; blk_simp [e3]
  · apply Fin.ext; blk_simp [e3, col]

/-- The result array after the run. -/
theorem final : (dats m 0 c).arrAt 3 cfg0.N = fun j => result m c (j 0) (j 1) (j 2) := by
  refine (dats m 0 c).arrAt_eq_of_covers 3 _ (by decide +kernel) fun t hf y => ?_
  obtain ⟨y1, y2, rfl⟩ : ∃ (y1 : Fin 16) (y2 : Fin 1024), y = ix3 0 y1 y2 :=
    ⟨y 1, y 2, by funext b; fin_cases b; exacts [Subsingleton.elim (α := Fin 1) _ _, rfl, rfl]⟩
  obtain ⟨p0, p1, p2⟩ := place t y1 y2
  show (dats m 0 c).after 3 t (ix3 0 y1 y2) = result m c (((cfg0.win 3).blk t).view.emb (ix3 0 y1 y2) 0) (((cfg0.win 3).blk t).view.emb (ix3 0 y1 y2) 1) (((cfg0.win 3).blk t).view.emb (ix3 0 y1 y2) 2)
  rw [after0_3, p0, p1, p2]
  exact out_apply m c t y1 y2

end Kernel

section Reference
open Cert.Reference12Ideal Cert.Reference12Ideal.Gen

/-- The silu of the conditioning in the reference. -/
abbrev silus (x : FVec Ideal S16x2048 .f32) : FVec Ideal S16x2048 .f32 :=
  mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))

/-- It is each number times its logistic function. -/
theorem silus_apply (x : FVec Ideal S16x2048 .f32) (s : Fin 16) (q : Fin 2048) : silus x (ix2 s q) = x (ix2 s q) * Ideal.logistic (x (ix2 s q)) := by
  pointwise [silus]
  rfl

/-- The reference's result, from the conditioning's silu `y`, the weights and the biases. -/
abbrev affine (y : FVec Ideal S16x2048 .f32) (w : FVec Ideal S4x2048x12288 .f32) (b : FVec Ideal S4x12288 .f32) : FVec Ideal S4x16x12288 .f32 :=
  addf (transpose S4x16x12288 [0, 2, 1] (Host.dotGeneral dot_S4x2048x12288_S16x2048_S4x12288x16_1_1_02_0_n_n none w y) transposes_S4x12288x16_S4x16x12288_0_2_1) (broadcastInDim S4x16x12288 ![0, 1, 2] bcast_S4x1x12288_S4x16x12288_0_1_2 (broadcastInDim S4x1x12288 ![0, 2] bcast_S4x12288_S4x1x12288_0_2 b))

/-- It is the sum over the conditioning's features plus the bias. -/
theorem affine_apply (y : FVec Ideal S16x2048 .f32) (w : FVec Ideal S4x2048x12288 .f32) (b : FVec Ideal S4x12288 .f32) (l : Fin 4) (s : Fin 16)
    (k : Fin 12288) : affine y w b (ix3 l s k) = ∑ q : Fin 2048, w (ix3 l q k) * y (ix2 s q) + b (ix2 l k) := by
  pointwise [affine]

/-- The reference's result, from its arguments. -/
abbrev refTerm (x : FVec Ideal S16x2048 .f32) (w : FVec Ideal S4x2048x12288 .f32) (b : FVec Ideal S4x12288 .f32) : FVec Ideal S4x16x12288 .f32 :=
  affine (silus x) w b

/-- The reference's result, entry by entry. -/
theorem refTerm_apply (x : FVec Ideal S16x2048 .f32) (w : FVec Ideal S4x2048x12288 .f32) (b : FVec Ideal S4x12288 .f32) (l : Fin 4) (s : Fin 16)
    (k : Fin 12288) : refTerm x w b (ix3 l s k) = entry (fun q => x (ix2 s q)) (fun q => w (ix3 l q k)) (b (ix2 l k)) := by
  rw [refTerm, affine_apply, entry]
  congr 1
  exact Finset.sum_congr rfl fun q _ => by rw [silus_apply, mul_comm]

end Reference

/-- From equal arguments both programs run and leave the same result. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => (fun j => result m c (j 0) (j 1) (j 2)), ?_, ?_⟩
  · refine (θ_run (Cert.Kernel12Ideal.defs (F := Ideal)) _ _).mono (fun r h c => ?_) (Cert.Kernel12Ideal.Value.run_blocks (F := Ideal) m g)
    exact ⟨(h c).1.trans (final m c), (h c).2⟩
  · refine (θ_run (Cert.Reference12Ideal.defs (F := Ideal)) _ _).mono (fun r h c => ?_) (Cert.Reference12Ideal.Value.run (F := Ideal) m' g')
    obtain ⟨hv, hrest⟩ := h c
    refine ⟨hv.trans ?_, hrest⟩
    obtain ⟨a0, a1, a2⟩ := hargs c
    rw [a0, a1, a2]
    funext j
    obtain ⟨l, s, k, rfl⟩ : ∃ (l : Fin 4) (s : Fin 16) (k : Fin 12288), j = ix3 l s k := ⟨j 0, j 1, j 2, by funext b; fin_cases b <;> rfl⟩
    exact refTerm_apply _ _ _ l s k

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_experts_exist
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Kernel14
public import proofs.«01_k».proof.Proof.Gen.Kernel14.Frame
public import proofs.«01_k».proof.Proof.Gen.Reference14
public import proofs.«01_k».proof.Proof.Gen.Reference14.Run
public import proofs.«01_k».proof.Proof.Gen.Pre_rows_exist
public import proofs.«01_k».proof.Proof.Gen.Kernel15
public import proofs.«01_k».proof.Proof.Gen.Kernel15.Frame
public import proofs.«01_k».proof.Proof.Gen.Reference15
public import proofs.«01_k».proof.Proof.Gen.Reference15.Run
public import proofs.«01_k».proof.Proof.Gen.Pre_places_exist
public import proofs.«01_k».proof.Proof.Gen.Reference13Ideal.Run
public import proofs.«01_k».proof.Proof.MoeFrameK
public import proofs.«01_k».proof.Proof.MoeOkK
public import proofs.«01_k».proof.Proof.MoeClaim
public import proofs.«01_k».proof.Proof.DenseClaim
public import proofs.«01_k».proof.Proof.Gates
public import proofs.«01_k».proof.Proof.InProj
public import proofs.«01_k».proof.Proof.Merge
public import proofs.«01_k».proof.Proof.OutProj
public import proofs.«01_k».proof.Proof.FinalNorm
public import proofs.«01_k».proof.Proof.NormMod
public import proofs.«01_k».proof.Proof.Glu
public import proofs.«01_k».proof.Proof.Conv
public import proofs.«01_k».proof.Proof.Sgu
public import proofs.«01_k».proof.Proof.Fourier
public import proofs.«01_k».proof.Proof.GatherRun
public import proofs.«01_k».proof.Proof.CombineRun
public import proofs.«01_k».proof.Proof.Ada
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the experts' feed-forward runs and leaves its arguments as they were; it has no counters. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by rfl) r.2⟩)
    (Cert.ReferenceIdeal.Value.run (F := Ideal) m g)

/-- The reference of the dense feed-forward runs and leaves its arguments as they were; it has no counters. -/
theorem reference2_frame : Cert.quiescent_Reference2Ideal (hReference2Ideal := Cert.Reference2Ideal.Gen.facts) := fun m g _ =>
  (θ_run (Cert.Reference2Ideal.defs (F := Ideal)) _ _).mono
    (fun r h => ⟨fun c => (h c).2, sem_eq_zero_of_no_sems (by rfl) r.2⟩)
    (Cert.Reference2Ideal.Value.run (F := Ideal) m g)

/-- The reference of the mixer's gates runs and leaves its arguments as they were; it has no counters. -/
theorem reference3_frame : Cert.quiescent_Reference3Ideal (hReference3Ideal := Cert.Reference3Ideal.Gen.facts) := fun m g _ =>
  (θ_run (Cert.Reference3Ideal.defs (F := Ideal)) _ _).mono
    (fun r h => ⟨fun c => (h c).2, sem_eq_zero_of_no_sems (by rfl) r.2⟩)
    (Cert.Reference3Ideal.Value.run (F := Ideal) m g)

/-- The reference of the input projection runs and leaves its arguments as they were; it has no counters. -/
theorem reference4_frame : Cert.quiescent_Reference4Ideal (hReference4Ideal := Cert.Reference4Ideal.Gen.facts) := fun m g _ =>
  (θ_run (Cert.Reference4Ideal.defs (F := Ideal)) _ _).mono
    (fun r h => ⟨fun c => (h c).2, sem_eq_zero_of_no_sems (by rfl) r.2⟩)
    (Cert.Reference4Ideal.Value.run (F := Ideal) m g)

/-- The reference of the merge of the branches runs and leaves its arguments as they were; it has no counters. -/
theorem reference5_frame : Cert.quiescent_Reference5Ideal (hReference5Ideal := Cert.Reference5Ideal.Gen.facts) := fun m g _ =>
  (θ_run (Cert.Reference5Ideal.defs (F := Ideal)) _ _).mono
    (fun r h => ⟨fun c => (h c).2, sem_eq_zero_of_no_sems (by rfl) r.2⟩)
    (Cert.Reference5Ideal.Value.run (F := Ideal) m g)

/-- The reference of the output projection runs and leaves its arguments as they were; it has no counters. -/
theorem reference6_frame : Cert.quiescent_Reference6Ideal (hReference6Ideal := Cert.Reference6Ideal.Gen.facts) := fun m g _ =>
  (θ_run (Cert.Reference6Ideal.defs (F := Ideal)) _ _).mono
    (fun r h => ⟨fun c => (h c).2, sem_eq_zero_of_no_sems (by rfl) r.2⟩)
    (Cert.Reference6Ideal.Value.run (F := Ideal) m g)

/-- The reference of the final norm runs and leaves its arguments as they were; it has no counters. -/
theorem reference7_frame : Cert.quiescent_Reference7Ideal (hReference7Ideal := Cert.Reference7Ideal.Gen.facts) := fun m g _ =>
  (θ_run (Cert.Reference7Ideal.defs (F := Ideal)) _ _).mono
    (fun r h => ⟨fun c => (h c).2, sem_eq_zero_of_no_sems (by rfl) r.2⟩)
    (Cert.Reference7Ideal.Value.run (F := Ideal) m g)

/-- The reference of the mixer's norm runs and leaves its arguments as they were; it has no counters. -/
theorem reference8_frame : Cert.quiescent_Reference8Ideal (hReference8Ideal := Cert.Reference8Ideal.Gen.facts) := fun m g _ =>
  (θ_run (Cert.Reference8Ideal.defs (F := Ideal)) _ _).mono
    (fun r h => ⟨fun c => (h c).2, sem_eq_zero_of_no_sems (by rfl) r.2⟩)
    (Cert.Reference8Ideal.Value.run (F := Ideal) m g)

/-- The reference of the gated linear unit runs and leaves its arguments as they were; it has no counters. -/
theorem reference9_frame : Cert.quiescent_Reference9Ideal (hReference9Ideal := Cert.Reference9Ideal.Gen.facts) := fun m g _ =>
  (θ_run (Cert.Reference9Ideal.defs (F := Ideal)) _ _).mono
    (fun r h => ⟨fun c => (h c).2, sem_eq_zero_of_no_sems (by rfl) r.2⟩)
    (Cert.Reference9Ideal.Value.run (F := Ideal) m g)

/-- The reference of the short convolution runs and leaves its arguments as they were; it has no counters. -/
theorem reference10_frame : Cert.quiescent_Reference10Ideal (hReference10Ideal := Cert.Reference10Ideal.Gen.facts) := fun m g _ =>
  (θ_run (Cert.Reference10Ideal.defs (F := Ideal)) _ _).mono
    (fun r h => ⟨fun c => (h c).2, sem_eq_zero_of_no_sems (by rfl) r.2⟩)
    (Cert.Reference10Ideal.Value.run (F := Ideal) m g)

/-- The reference of the spatial gating runs and leaves its arguments as they were; it has no counters. -/
theorem reference11_frame : Cert.quiescent_Reference11Ideal (hReference11Ideal := Cert.Reference11Ideal.Gen.facts) := fun m g _ =>
  (θ_run (Cert.Reference11Ideal.defs (F := Ideal)) _ _).mono
    (fun r h => ⟨fun c => (h c).2, sem_eq_zero_of_no_sems (by rfl) r.2⟩)
    (Cert.Reference11Ideal.Value.run (F := Ideal) m g)

/-- The reference of the modulation runs and leaves its arguments as they were; it has no counters. -/
theorem reference12_frame : Cert.quiescent_Reference12Ideal (hReference12Ideal := Cert.Reference12Ideal.Gen.facts) := fun m g _ =>
  (θ_run (Cert.Reference12Ideal.defs (F := Ideal)) _ _).mono
    (fun r h => ⟨fun c => (h c).2, sem_eq_zero_of_no_sems (by rfl) r.2⟩)
    (Cert.Reference12Ideal.Value.run (F := Ideal) m g)

/-- The reference of the Fourier branch runs and leaves its arguments as they were; it has no counters. -/
theorem reference13_frame : Cert.quiescent_Reference13Ideal (hReference13Ideal := Cert.Reference13Ideal.Gen.facts) := fun m g _ =>
  (θ_run (Cert.Reference13Ideal.defs (F := Ideal)) _ _).mono
    (fun r h => ⟨fun c => (h c).2, sem_eq_zero_of_no_sems (by rfl) r.2⟩)
    (Cert.Reference13Ideal.Value.run (F := Ideal) m g)

/-- The reference of the gather runs and leaves its arguments as they were; it has no counters. -/
theorem reference14_frame : Cert.quiescent_Reference14 (hReference14 := Cert.Reference14.Gen.facts) := fun m g _ =>
  (θ_run (Cert.Reference14.defs (F := Bits)) _ _).mono
    (fun r h => ⟨fun c => (h c).2, sem_eq_zero_of_no_sems (by rfl) r.2⟩)
    (Cert.Reference14.Value.run (F := Bits) m g)

/-- The reference of the combination runs and leaves its arguments as they were; it has no counters. -/
theorem reference15_frame : Cert.quiescent_Reference15 (hReference15 := Cert.Reference15.Gen.facts) := fun m g _ =>
  (θ_run (Cert.Reference15.defs (F := Bits)) _ _).mono
    (fun r h => ⟨fun c => (h c).2, sem_eq_zero_of_no_sems (by rfl) r.2⟩)
    (Cert.Reference15.Value.run (F := Bits) m g)

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Reference14.Gen.facts,
  Cert.Kernel15.Gen.facts, Cert.Reference15.Gen.facts,
  Cert.Pre_experts_exist.Gen.facts, Cert.Pre_rows_exist.Gen.facts, Cert.Pre_places_exist.Gen.facts,
  fun m g h => Cert.Kernel.Moe.frame m g (Cert.Kernel.Moe.ok_of_experts m fun x => Cert.Kernel.Moe.expert_lt _ (h 0) x),
  fun m g h => Cert.KernelIdeal.Moe.frame m g (Cert.KernelIdeal.Moe.ok_of_experts m fun x => Cert.KernelIdeal.Moe.expert_lt _ (h 0) x),
  reference_frame,
  fun m g _ => reference_frame m g trivial,
  fun m g _ => Cert.Kernel2.Gen.frame m g,
  fun m g _ => Cert.Kernel2Ideal.Gen.frame m g,
  reference2_frame,
  fun m g _ => Cert.Kernel3.Gen.frame m g,
  fun m g _ => Cert.Kernel3Ideal.Gen.frame m g,
  reference3_frame,
  fun m g _ => Cert.Kernel4.Gen.frame m g,
  fun m g _ => Cert.Kernel4Ideal.Gen.frame m g,
  reference4_frame,
  fun m g _ => Cert.Kernel5.Gen.frame m g,
  fun m g _ => Cert.Kernel5Ideal.Gen.frame m g,
  reference5_frame,
  fun m g _ => Cert.Kernel6.Gen.frame m g,
  fun m g _ => Cert.Kernel6Ideal.Gen.frame m g,
  reference6_frame,
  fun m g _ => Cert.Kernel7.Gen.frame m g,
  fun m g _ => Cert.Kernel7Ideal.Gen.frame m g,
  reference7_frame,
  fun m g _ => Cert.Kernel8.Gen.frame m g,
  fun m g _ => Cert.Kernel8Ideal.Gen.frame m g,
  reference8_frame,
  fun m g _ => Cert.Kernel9.Gen.frame m g,
  fun m g _ => Cert.Kernel9Ideal.Gen.frame m g,
  reference9_frame,
  fun m g _ => Cert.Kernel10.Gen.frame m g,
  fun m g _ => Cert.Kernel10Ideal.Gen.frame m g,
  reference10_frame,
  fun m g _ => Cert.Kernel11.Gen.frame m g,
  fun m g _ => Cert.Kernel11Ideal.Gen.frame m g,
  reference11_frame,
  fun m g _ => Cert.Kernel12.Gen.frame m g,
  fun m g _ => Cert.Kernel12Ideal.Gen.frame m g,
  reference12_frame,
  fun m g _ => Cert.Kernel13.Gen.frame m g,
  fun m g _ => Cert.Kernel13Ideal.Gen.frame m g,
  reference13_frame,
  fun m g h => Cert.Kernel14.Gather.frame m g fun c => Cert.Kernel14.Gather.row_lt _ (h c),
  reference14_frame,
  fun m g _ => reference14_frame m g trivial,
  fun m g h => Cert.Kernel15.Combine.frame m g fun c => Cert.Kernel15.Combine.row_lt _ (h c),
  reference15_frame,
  fun m g _ => reference15_frame m g trivial,
  trivial,
  Cert.Moe.algebraic,
  trivial,
  Cert.Dense.algebraic,
  trivial,
  Cert.Gates.algebraic,
  trivial,
  Cert.InProj.algebraic,
  trivial,
  Cert.Merge.algebraic,
  trivial,
  Cert.OutProj.algebraic,
  trivial,
  Cert.FinalNorm.algebraic,
  trivial,
  Cert.NormMod.algebraic,
  trivial,
  Cert.Glu.algebraic,
  trivial,
  Cert.Conv.algebraic,
  trivial,
  Cert.Sgu.algebraic,
  trivial,
  Cert.Ada.algebraic,
  trivial,
  Cert.Fourier.algebraic,
  Cert.Kernel14.Gather.bitexact,
  Cert.Kernel15.Combine.bitexact⟩

end Cert.Proof

end
